-- ==== Defs.lean ====
def Pre_Kernel [hPre_tokens_in_range : Cert.Pre_tokens_in_range.Facts] (m : (ℓ : Loc Cert.Kernel.nD Cert.Kernel.τ Cert.Kernel.sig) → Buf (Elt Bits) ℓ) : Prop :=
  ∀ c : Dev Cert.Kernel.nD,
    (Cert.Pre_tokens_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_tokens_in_range : Cert.Pre_tokens_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_tokens_in_range : Cert.Pre_tokens_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def quiescent_Kernel [hKernel : Cert.Kernel.Facts] [hPre_tokens_in_range : Cert.Pre_tokens_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))
      ∧ r.2.sem = fun _ => 0)

def quiescent_KernelIdeal [hKernelIdeal : Cert.KernelIdeal.Facts] [hPre_tokens_in_range : Cert.Pre_tokens_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_ReferenceIdeal [hReferenceIdeal : Cert.ReferenceIdeal.Facts] [hPre_tokens_in_range : Cert.Pre_tokens_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tokens_in_range : Cert.Pre_tokens_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_tokens_in_range : Cert.Pre_tokens_in_range.Facts),
    quiescent_Kernel (hKernel := hKernel) (hPre_tokens_in_range := hPre_tokens_in_range)
    ∧ quiescent_KernelIdeal (hKernelIdeal := hKernelIdeal) (hPre_tokens_in_range := hPre_tokens_in_range)
    ∧ quiescent_ReferenceIdeal (hReferenceIdeal := hReferenceIdeal) (hPre_tokens_in_range := hPre_tokens_in_range)
    ∧ preserves_Kernel_KernelIdeal
    ∧ algebraic_KernelIdeal_ReferenceIdeal (hKernelIdeal := hKernelIdeal) (hReferenceIdeal := hReferenceIdeal) (hPre_tokens_in_range := hPre_tokens_in_range)
-- ==== Pre_tokens_in_range.lean ====
abbrev S64x1024x14x14 : Shape := ⟨4, ![64, 1024, 14, 14]⟩
abbrev S64x25 : Shape := ⟨2, ![64, 25]⟩
abbrev S128x1024x3x3 : Shape := ⟨4, ![128, 1024, 3, 3]⟩
abbrev S128 : Shape := ⟨1, ![128]⟩
abbrev S128x128x3x3 : Shape := ⟨4, ![128, 128, 3, 3]⟩
abbrev S11x128x128x3x3 : Shape := ⟨5, ![11, 128, 128, 3, 3]⟩
abbrev S11x128 : Shape := ⟨2, ![11, 128]⟩
abbrev S6x128x256x1x1 : Shape := ⟨5, ![6, 128, 256, 1, 1]⟩
abbrev S6x128 : Shape := ⟨2, ![6, 128]⟩
abbrev S6x128x128x3x3 : Shape := ⟨5, ![6, 128, 128, 3, 3]⟩
abbrev S512x128x1x1 : Shape := ⟨4, ![512, 128, 1, 1]⟩
abbrev S512 : Shape := ⟨1, ![512]⟩
abbrev S1024x25088 : Shape := ⟨2, ![1024, 25088]⟩
abbrev S1024 : Shape := ⟨1, ![1024]⟩
abbrev S32x1024 : Shape := ⟨2, ![32, 1024]⟩
abbrev S32 : Shape := ⟨1, ![32]⟩
abbrev S_ : Shape := ⟨0, ![]⟩

class Facts : Prop where
  bcast_S_S64x25 : S_.BroadcastsInDim S64x25 (![] : Fin 0 → Fin S64x25.rank)

variable [Facts]

def fn {F : FTy → Type} [FloatOps F] (main_arg0 : FVec F S64x1024x14x14 .f32) (main_arg1 : IVec S64x25 32) (main_arg2 : FVec F S128x1024x3x3 .f32) (main_arg3 : FVec F S128 .f32) (main_arg4 : FVec F S128x128x3x3 .f32) (main_arg5 : FVec F S128 .f32) (main_arg6 : FVec F S11x128x128x3x3 .f32) (main_arg7 : FVec F S11x128 .f32) (main_arg8 : FVec F S11x128x128x3x3 .f32) (main_arg9 : FVec F S11x128 .f32) (main_arg10 : FVec F S6x128x256x1x1 .f32) (main_arg11 : FVec F S6x128 .f32) (main_arg12 : FVec F S6x128x128x3x3 .f32) (main_arg13 : FVec F S6x128 .f32) (main_arg14 : FVec F S6x128x128x3x3 .f32) (main_arg15 : FVec F S6x128 .f32) (main_arg16 : FVec F S512x128x1x1 .f32) (main_arg17 : FVec F S512 .f32) (main_arg18 : FVec F S1024x25088 .f32) (main_arg19 : FVec F S1024 .f32) (main_arg20 : FVec F S32x1024 .f32) (main_arg21 : FVec F S32 .f32) : IVec S64x25 1 :=
  let main_c : IVec S_ 32 := constantI S_ 32 0#32
  let main_v0 : IVec S64x25 32 := broadcastInDim S64x25 ![] bcast_S_S64x25 main_c
  let main_v1 : IVec S64x25 1 := cmpi .sge main_arg1 main_v0
  let main_c_0 : IVec S_ 32 := constantI S_ 32 21#32
  let main_v2 : IVec S64x25 32 := broadcastInDim S64x25 ![] bcast_S_S64x25 main_c_0
  let main_v3 : IVec S64x25 1 := cmpi .slt main_arg1 main_v2
  let main_v4 : IVec S64x25 1 := andi main_v1 main_v3
  main_v4
-- ==== Kernel.lean ====
abbrev S64x1024x14x14 : Shape := ⟨4, ![64, 1024, 14, 14]⟩
abbrev S64x25 : Shape := ⟨2, ![64, 25]⟩
abbrev S128x1024x3x3 : Shape := ⟨4, ![128, 1024, 3, 3]⟩
abbrev S128 : Shape := ⟨1, ![128]⟩
abbrev S128x128x3x3 : Shape := ⟨4, ![128, 128, 3, 3]⟩
abbrev S11x128x128x3x3 : Shape := ⟨5, ![11, 128, 128, 3, 3]⟩
abbrev S11x128 : Shape := ⟨2, ![11, 128]⟩
abbrev S6x128x256x1x1 : Shape := ⟨5, ![6, 128, 256, 1, 1]⟩
abbrev S6x128 : Shape := ⟨2, ![6, 128]⟩
abbrev S6x128x128x3x3 : Shape := ⟨5, ![6, 128, 128, 3, 3]⟩
abbrev S512x128x1x1 : Shape := ⟨4, ![512, 128, 1, 1]⟩
abbrev S512 : Shape := ⟨1, ![512]⟩
abbrev S1024x25088 : Shape := ⟨2, ![1024, 25088]⟩
abbrev S1024 : Shape := ⟨1, ![1024]⟩
abbrev S32x1024 : Shape := ⟨2, ![32, 1024]⟩
abbrev S32 : Shape := ⟨1, ![32]⟩
abbrev S21 : Shape := ⟨1, ![21]⟩
abbrev S4 : Shape := ⟨1, ![4]⟩
abbrev S_ : Shape := ⟨0, ![]⟩
abbrev S64x1024x16x16 : Shape := ⟨4, ![64, 1024, 16, 16]⟩
abbrev S64x1024x256 : Shape := ⟨3, ![64, 1024, 256]⟩
abbrev S64x25x1 : Shape := ⟨3, ![64, 25, 1]⟩
abbrev S3x3x128x1024 : Shape := ⟨4, ![3, 3, 128, 1024]⟩
abbrev S9x128x1024 : Shape := ⟨3, ![9, 128, 1024]⟩
abbrev S3x3x128x128 : Shape := ⟨4, ![3, 3, 128, 128]⟩
abbrev S9x128x128 : Shape := ⟨3, ![9, 128, 128]⟩
abbrev S1x9x128x128 : Shape := ⟨4, ![1, 9, 128, 128]⟩
abbrev S11x3x3x128x128 : Shape := ⟨5, ![11, 3, 3, 128, 128]⟩
abbrev S11x9x128x128 : Shape := ⟨4, ![11, 9, 128, 128]⟩
abbrev S6x3x3x128x128 : Shape := ⟨5, ![6, 3, 3, 128, 128]⟩
abbrev S6x9x128x128 : Shape := ⟨4, ![6, 9, 128, 128]⟩
abbrev S6x128x128x1x1 : Shape := ⟨5, ![6, 128, 128, 1, 1]⟩
abbrev S6x128x128 : Shape := ⟨3, ![6, 128, 128]⟩
abbrev S512x128 : Shape := ⟨2, ![512, 128]⟩
abbrev S128x1 : Shape := ⟨2, ![128, 1]⟩
abbrev S128x256 : Shape := ⟨2, ![128, 256]⟩
abbrev S11x128x1 : Shape := ⟨3, ![11, 128, 1]⟩
abbrev S11x128x256 : Shape := ⟨3, ![11, 128, 256]⟩
abbrev S6x128x1 : Shape := ⟨3, ![6, 128, 1]⟩
abbrev S6x128x256 : Shape := ⟨3, ![6, 128, 256]⟩
abbrev S512x1 : Shape := ⟨2, ![512, 1]⟩
abbrev S512x256 : Shape := ⟨2, ![512, 256]⟩
abbrev S64x512x256 : Shape := ⟨3, ![64, 512, 256]⟩
abbrev S1x1024x256 : Shape := ⟨3, ![1, 1024, 256]⟩
abbrev S1x512x256 : Shape := ⟨3, ![1, 512, 256]⟩
abbrev S1024x256 : Shape := ⟨2, ![1024, 256]⟩
abbrev S1x128x1024 : Shape := ⟨3, ![1, 128, 1024]⟩
abbrev S128x1024 : Shape := ⟨2, ![128, 1024]⟩
abbrev S128x17 : Shape := ⟨2, ![128, 17]⟩
abbrev S128x239 : Shape := ⟨2, ![128, 239]⟩
abbrev S128x16 : Shape := ⟨2, ![128, 16]⟩
abbrev S128x240 : Shape := ⟨2, ![128, 240]⟩
abbrev S128x15 : Shape := ⟨2, ![128, 15]⟩
abbrev S128x241 : Shape := ⟨2, ![128, 241]⟩
abbrev S128x255 : Shape := ⟨2, ![128, 255]⟩
abbrev S1x1x128x128 : Shape := ⟨4, ![1, 1, 128, 128]⟩
abbrev S128x128 : Shape := ⟨2, ![128, 128]⟩
abbrev S1x1 : Shape := ⟨2, ![1, 1]⟩
abbrev S1x128x128 : Shape := ⟨3, ![1, 128, 128]⟩
abbrev S1x128x256 : Shape := ⟨3, ![1, 128, 256]⟩
abbrev S512x255 : Shape := ⟨2, ![512, 255]⟩
abbrev S512x240 : Shape := ⟨2, ![512, 240]⟩
abbrev S512x16 : Shape := ⟨2, ![512, 16]⟩
abbrev S64x512x16x16 : Shape := ⟨4, ![64, 512, 16, 16]⟩
abbrev S64x512x7x7 : Shape := ⟨4, ![64, 512, 7, 7]⟩
abbrev S64x25088 : Shape := ⟨2, ![64, 25088]⟩
abbrev S64x1024 : Shape := ⟨2, ![64, 1024]⟩
abbrev S64x6272 : Shape := ⟨2, ![64, 6272]⟩
abbrev S512x6272 : Shape := ⟨2, ![512, 6272]⟩
abbrev S64x512 : Shape := ⟨2, ![64, 512]⟩
abbrev S1x1024 : Shape := ⟨2, ![1, 1024]⟩
abbrev S1x32 : Shape := ⟨2, ![1, 32]⟩
abbrev S64x32 : Shape := ⟨2, ![64, 32]⟩

abbrev nBuf : Space → Nat
  | .hbm => 115
  | .vmem => 34
  | .smem => 1
  | _ => 0

abbrev bufTy : (tb : Table) → Fin (tcTables nBuf tb) → BufTy
  | .hbm, ⟨0, _⟩ => ⟨S64x1024x14x14, .f32⟩
  | .hbm, ⟨1, _⟩ => ⟨S64x25, .i32⟩
  | .hbm, ⟨2, _⟩ => ⟨S128x1024x3x3, .f32⟩
  | .hbm, ⟨3, _⟩ => ⟨S128, .f32⟩
  | .hbm, ⟨4, _⟩ => ⟨S128x128x3x3, .f32⟩
  | .hbm, ⟨5, _⟩ => ⟨S128, .f32⟩
  | .hbm, ⟨6, _⟩ => ⟨S11x128x128x3x3, .f32⟩
  | .hbm, ⟨7, _⟩ => ⟨S11x128, .f32⟩
  | .hbm, ⟨8, _⟩ => ⟨S11x128x128x3x3, .f32⟩
  | .hbm, ⟨9, _⟩ => ⟨S11x128, .f32⟩
  | .hbm, ⟨10, _⟩ => ⟨S6x128x256x1x1, .f32⟩
  | .hbm, ⟨11, _⟩ => ⟨S6x128, .f32⟩
  | .hbm, ⟨12, _⟩ => ⟨S6x128x128x3x3, .f32⟩
  | .hbm, ⟨13, _⟩ => ⟨S6x128, .f32⟩
  | .hbm, ⟨14, _⟩ => ⟨S6x128x128x3x3, .f32⟩
  | .hbm, ⟨15, _⟩ => ⟨S6x128, .f32⟩
  | .hbm, ⟨16, _⟩ => ⟨S512x128x1x1, .f32⟩
  | .hbm, ⟨17, _⟩ => ⟨S512, .f32⟩
  | .hbm, ⟨18, _⟩ => ⟨S1024x25088, .f32⟩
  | .hbm, ⟨19, _⟩ => ⟨S1024, .f32⟩
  | .hbm, ⟨20, _⟩ => ⟨S32x1024, .f32⟩
  | .hbm, ⟨21, _⟩ => ⟨S32, .f32⟩
  | .hbm, ⟨22, _⟩ => ⟨S21, .i32⟩
  | .hbm, ⟨23, _⟩ => ⟨S21, .i32⟩
  | .hbm, ⟨24, _⟩ => ⟨S4, .i32⟩
  | .hbm, ⟨25, _⟩ => ⟨S_, .i32⟩
  | .hbm, ⟨26, _⟩ => ⟨S_, .f32⟩
  | .hbm, ⟨27, _⟩ => ⟨S64x1024x16x16, .f32⟩
  | .hbm, ⟨28, _⟩ => ⟨S64x1024x256, .f32⟩
  | .hbm, ⟨29, _⟩ => ⟨S64x25, .i32⟩
  | .hbm, ⟨30, _⟩ => ⟨S_, .i32⟩
  | .hbm, ⟨31, _⟩ => ⟨S64x25, .i32⟩
  | .hbm, ⟨32, _⟩ => ⟨S64x25, .i1⟩
  | .hbm, ⟨33, _⟩ => ⟨S_, .i32⟩
  | .hbm, ⟨34, _⟩ => ⟨S64x25, .i32⟩
  | .hbm, ⟨35, _⟩ => ⟨S64x25, .i32⟩
  | .hbm, ⟨36, _⟩ => ⟨S64x25, .i32⟩
  | .hbm, ⟨37, _⟩ => ⟨S64x25x1, .i32⟩
  | .hbm, ⟨38, _⟩ => ⟨S64x25, .i32⟩
  | .hbm, ⟨39, _⟩ => ⟨S_, .i32⟩
  | .hbm, ⟨40, _⟩ => ⟨S64x25, .i32⟩
  | .hbm, ⟨41, _⟩ => ⟨S64x25, .i1⟩
  | .hbm, ⟨42, _⟩ => ⟨S_, .i32⟩
  | .hbm, ⟨43, _⟩ => ⟨S64x25, .i32⟩
  | .hbm, ⟨44, _⟩ => ⟨S64x25, .i32⟩
  | .hbm, ⟨45, _⟩ => ⟨S64x25, .i32⟩
  | .hbm, ⟨46, _⟩ => ⟨S64x25x1, .i32⟩
  | .hbm, ⟨47, _⟩ => ⟨S64x25, .i32⟩
  | .hbm, ⟨48, _⟩ => ⟨S_, .i32⟩
  | .hbm, ⟨49, _⟩ => ⟨S64x25, .i32⟩
  | .hbm, ⟨50, _⟩ => ⟨S64x25, .i1⟩
  | .hbm, ⟨51, _⟩ => ⟨S_, .i32⟩
  | .hbm, ⟨52, _⟩ => ⟨S64x25, .i32⟩
  | .hbm, ⟨53, _⟩ => ⟨S64x25, .i32⟩
  | .hbm, ⟨54, _⟩ => ⟨S64x25, .i32⟩
  | .hbm, ⟨55, _⟩ => ⟨S64x25x1, .i32⟩
  | .hbm, ⟨56, _⟩ => ⟨S64x25, .i32⟩
  | .hbm, ⟨57, _⟩ => ⟨S_, .i32⟩
  | .hbm, ⟨58, _⟩ => ⟨S64x25, .i32⟩
  | .hbm, ⟨59, _⟩ => ⟨S64x25, .i32⟩
  | .hbm, ⟨60, _⟩ => ⟨S_, .i32⟩
  | .hbm, ⟨61, _⟩ => ⟨S64x25, .i32⟩
  | .hbm, ⟨62, _⟩ => ⟨S64x25, .i1⟩
  | .hbm, ⟨63, _⟩ => ⟨S_, .i32⟩
  | .hbm, ⟨64, _⟩ => ⟨S_, .i32⟩
  | .hbm, ⟨65, _⟩ => ⟨S64x25, .i32⟩
  | .hbm, ⟨66, _⟩ => ⟨S64x25, .i32⟩
  | .hbm, ⟨67, _⟩ => ⟨S64x25, .i32⟩
  | .hbm, ⟨68, _⟩ => ⟨S_, .i32⟩
  | .hbm, ⟨69, _⟩ => ⟨S64x25, .i32⟩
  | .hbm, ⟨70, _⟩ => ⟨S64x25, .i32⟩
  | .hbm, ⟨71, _⟩ => ⟨S64x25, .i32⟩
  | .hbm, ⟨72, _⟩ => ⟨S64x25, .i32⟩
  | .hbm, ⟨73, _⟩ => ⟨S3x3x128x1024, .f32⟩
  | .hbm, ⟨74, _⟩ => ⟨S9x128x1024, .f32⟩
  | .hbm, ⟨75, _⟩ => ⟨S3x3x128x128, .f32⟩
  | .hbm, ⟨76, _⟩ => ⟨S9x128x128, .f32⟩
  | .hbm, ⟨77, _⟩ => ⟨S1x9x128x128, .f32⟩
  | .hbm, ⟨78, _⟩ => ⟨S11x3x3x128x128, .f32⟩
  | .hbm, ⟨79, _⟩ => ⟨S11x9x128x128, .f32⟩
  | .hbm, ⟨80, _⟩ => ⟨S11x3x3x128x128, .f32⟩
  | .hbm, ⟨81, _⟩ => ⟨S11x9x128x128, .f32⟩
  | .hbm, ⟨82, _⟩ => ⟨S6x3x3x128x128, .f32⟩
  | .hbm, ⟨83, _⟩ => ⟨S6x9x128x128, .f32⟩
  | .hbm, ⟨84, _⟩ => ⟨S6x3x3x128x128, .f32⟩
  | .hbm, ⟨85, _⟩ => ⟨S6x9x128x128, .f32⟩
  | .hbm, ⟨86, _⟩ => ⟨S6x128x128x1x1, .f32⟩
  | .hbm, ⟨87, _⟩ => ⟨S6x128x128, .f32⟩
  | .hbm, ⟨88, _⟩ => ⟨S6x128x128x1x1, .f32⟩
  | .hbm, ⟨89, _⟩ => ⟨S6x128x128, .f32⟩
  | .hbm, ⟨90, _⟩ => ⟨S512x128, .f32⟩
  | .hbm, ⟨91, _⟩ => ⟨S128x1, .f32⟩
  | .hbm, ⟨92, _⟩ => ⟨S128x256, .f32⟩
  | .hbm, ⟨93, _⟩ => ⟨S128x1, .f32⟩
  | .hbm, ⟨94, _⟩ => ⟨S128x256, .f32⟩
  | .hbm, ⟨95, _⟩ => ⟨S11x128x1, .f32⟩
  | .hbm, ⟨96, _⟩ => ⟨S11x128x256, .f32⟩
  | .hbm, ⟨97, _⟩ => ⟨S11x128x1, .f32⟩
  | .hbm, ⟨98, _⟩ => ⟨S11x128x256, .f32⟩
  | .hbm, ⟨99, _⟩ => ⟨S6x128x1, .f32⟩
  | .hbm, ⟨100, _⟩ => ⟨S6x128x256, .f32⟩
  | .hbm, ⟨101, _⟩ => ⟨S6x128x1, .f32⟩
  | .hbm, ⟨102, _⟩ => ⟨S6x128x256, .f32⟩
  | .hbm, ⟨103, _⟩ => ⟨S6x128x1, .f32⟩
  | .hbm, ⟨104, _⟩ => ⟨S6x128x256, .f32⟩
  | .hbm, ⟨105, _⟩ => ⟨S512x1, .f32⟩
  | .hbm, ⟨106, _⟩ => ⟨S512x256, .f32⟩
  | .hbm, ⟨107, _⟩ => ⟨S64x512x256, .f32⟩
  | .hbm, ⟨108, _⟩ => ⟨S64x512x16x16, .f32⟩
  | .hbm, ⟨109, _⟩ => ⟨S64x512x7x7, .f32⟩
  | .hbm, ⟨110, _⟩ => ⟨S64x25088, .f32⟩
  | .hbm, ⟨111, _⟩ => ⟨S64x1024, .f32⟩
  | .hbm, ⟨112, _⟩ => ⟨S1x1024, .f32⟩
  | .hbm, ⟨113, _⟩ => ⟨S1x32, .f32⟩
  | .hbm, ⟨114, _⟩ => ⟨S64x32, .f32⟩
  | .local _ .vmem, ⟨0, _⟩ => ⟨S1x1024x256, .f32⟩
  | .local _ .vmem, ⟨1, _⟩ => ⟨S1x1024x256, .f32⟩
  | .local _ .vmem, ⟨2, _⟩ => ⟨S9x128x1024, .f32⟩
  | .local _ .vmem, ⟨3, _⟩ => ⟨S1x9x128x128, .f32⟩
  | .local _ .vmem, ⟨4, _⟩ => ⟨S11x9x128x128, .f32⟩
  | .local _ .vmem, ⟨5, _⟩ => ⟨S11x9x128x128, .f32⟩
  | .local _ .vmem, ⟨6, _⟩ => ⟨S6x128x128, .f32⟩
  | .local _ .vmem, ⟨7, _⟩ => ⟨S6x128x128, .f32⟩
  | .local _ .vmem, ⟨8, _⟩ => ⟨S6x9x128x128, .f32⟩
  | .local _ .vmem, ⟨9, _⟩ => ⟨S6x9x128x128, .f32⟩
  | .local _ .vmem, ⟨10, _⟩ => ⟨S512x128, .f32⟩
  | .local _ .vmem, ⟨11, _⟩ => ⟨S128x256, .f32⟩
  | .local _ .vmem, ⟨12, _⟩ => ⟨S128x256, .f32⟩
  | .local _ .vmem, ⟨13, _⟩ => ⟨S11x128x256, .f32⟩
  | .local _ .vmem, ⟨14, _⟩ => ⟨S11x128x256, .f32⟩
  | .local _ .vmem, ⟨15, _⟩ => ⟨S6x128x256, .f32⟩
  | .local _ .vmem, ⟨16, _⟩ => ⟨S6x128x256, .f32⟩
  | .local _ .vmem, ⟨17, _⟩ => ⟨S6x128x256, .f32⟩
  | .local _ .vmem, ⟨18, _⟩ => ⟨S512x256, .f32⟩
  | .local _ .vmem, ⟨19, _⟩ => ⟨S1x512x256, .f32⟩
  | .local _ .vmem, ⟨20, _⟩ => ⟨S1x512x256, .f32⟩
  | .local _ .vmem, ⟨21, _⟩ => ⟨S128x256, .f32⟩
  | .local _ .vmem, ⟨22, _⟩ => ⟨S64x6272, .f32⟩
  | .local _ .vmem, ⟨23, _⟩ => ⟨S64x6272, .f32⟩
  | .local _ .vmem, ⟨24, _⟩ => ⟨S512x6272, .f32⟩
  | .local _ .vmem, ⟨25, _⟩ => ⟨S512x6272, .f32⟩
  | .local _ .vmem, ⟨26, _⟩ => ⟨S64x512, .f32⟩
  | .local _ .vmem, ⟨27, _⟩ => ⟨S64x512, .f32⟩
  | .local _ .vmem, ⟨28, _⟩ => ⟨S64x512, .f32⟩
  | .local _ .vmem, ⟨29, _⟩ => ⟨S64x1024, .f32⟩
  | .local _ .vmem, ⟨30, _⟩ => ⟨S1x1024, .f32⟩
  | .local _ .vmem, ⟨31, _⟩ => ⟨S32x1024, .f32⟩
  | .local _ .vmem, ⟨32, _⟩ => ⟨S1x32, .f32⟩
  | .local _ .vmem, ⟨33, _⟩ => ⟨S64x32, .f32⟩
  | .local _ .smem, ⟨0, _⟩ => ⟨S64x25, .i32⟩
  | _, _ => ⟨S64x1024x14x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_c : Ref sig .tc := ⟨.hbm, 22, rfl⟩
abbrev main_c_0 : Ref sig .tc := ⟨.hbm, 23, rfl⟩
abbrev main_c_1 : Ref sig .tc := ⟨.hbm, 24, rfl⟩
abbrev main_c_2 : Ref sig .tc := ⟨.hbm, 25, rfl⟩
abbrev main_call0_v0 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_c_3 : Ref sig .tc := ⟨.hbm, 30, rfl⟩
abbrev main_v3 : Ref sig .tc := ⟨.hbm, 31, rfl⟩
abbrev main_v4 : Ref sig .tc := ⟨.hbm, 32, rfl⟩
abbrev main_c_4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_c_5 : Ref sig .tc := ⟨.hbm, 39, rfl⟩
abbrev main_v10 : Ref sig .tc := ⟨.hbm, 40, rfl⟩
abbrev main_v11 : Ref sig .tc := ⟨.hbm, 41, rfl⟩
abbrev main_c_6 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_c_7 : Ref sig .tc := ⟨.hbm, 48, rfl⟩
abbrev main_v17 : Ref sig .tc := ⟨.hbm, 49, rfl⟩
abbrev main_v18 : Ref sig .tc := ⟨.hbm, 50, rfl⟩
abbrev main_c_8 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_c_9 : Ref sig .tc := ⟨.hbm, 57, rfl⟩
abbrev main_v24 : Ref sig .tc := ⟨.hbm, 58, rfl⟩
abbrev main_v25 : Ref sig .tc := ⟨.hbm, 59, rfl⟩
abbrev main_c_10 : Ref sig .tc := ⟨.hbm, 60, rfl⟩
abbrev main_v26 : Ref sig .tc := ⟨.hbm, 61, rfl⟩
abbrev main_v27 : Ref sig .tc := ⟨.hbm, 62, rfl⟩
abbrev main_c_11 : Ref sig .tc := ⟨.hbm, 63, rfl⟩
abbrev main_c_12 : Ref sig .tc := ⟨.hbm, 64, rfl⟩
abbrev main_call1_v0 : Ref sig .tc := ⟨.hbm, 65, rfl⟩
abbrev main_call1_v1 : Ref sig .tc := ⟨.hbm, 66, rfl⟩
abbrev main_v28 : Ref sig .tc := ⟨.hbm, 67, rfl⟩
abbrev main_c_13 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v33 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg18_1 : Ref sig .tc := ⟨.vmem, 20, rfl⟩
abbrev cc0_scratch0 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_scratch0 : Ref sig .tc := ⟨.vmem, 28, rfl⟩
abbrev cc2_stg0_0 : Ref sig .tc := ⟨.vmem, 29, rfl⟩
abbrev cc2_stg1_0 : Ref sig .tc := ⟨.vmem, 30, rfl⟩
abbrev cc2_stg2_0 : Ref sig .tc := ⟨.vmem, 31, rfl⟩
abbrev cc2_stg3_0 : Ref sig .tc := ⟨.vmem, 32, rfl⟩
abbrev cc2_stg4_0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem18_1 : DmaSem sig := 20
abbrev cc1_sem0_0 : DmaSem sig := 21
abbrev cc1_sem0_1 : DmaSem sig := 22
abbrev cc1_sem1_0 : DmaSem sig := 23
abbrev cc1_sem1_1 : DmaSem sig := 24
abbrev cc1_sem2_0 : DmaSem sig := 25
abbrev cc1_sem2_1 : DmaSem sig := 26
abbrev cc2_sem0_0 : DmaSem sig := 27
abbrev cc2_sem1_0 : DmaSem sig := 28
abbrev cc2_sem2_0 : DmaSem sig := 29
abbrev cc2_sem3_0 : DmaSem sig := 30
abbrev cc2_sem4_0 : DmaSem sig := 31

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_v33.idx], fun | 0 => main_v33.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c25_i32 : BitVec 32 := 25#32
  let v154 : BitVec 32 := Scalar.addi c0_i32 c25_i32
  let c1_i32_86 : BitVec 32 := 1#32
  ⟨c0_i32, v154, c1_i32_86⟩
def k0_off1 (i : grid0.Coords) (k0_t1 : Fin k0_t1_loop.trips) : Fin 2 → Nat :=
  let arg0 : BitVec 32 := BitVec.ofNat 32 (i 0).val
  let v175 : Index := Scalar.indexCast arg0
  let c0_i32 : BitVec 32 := 0#32
  let c1_i32_86 : BitVec 32 := 1#32
  let arg22 : BitVec 32 := Scf.iv c0_i32 c1_i32_86 k0_t1
  let v176 : Index := Scalar.indexCast arg22
  ![v175.toNat, v176.toNat]
def k0_off2 (v177 : BitVec 32) : Fin 3 → Nat :=
  let c31_i32 : BitVec 32 := 31#32
  let v182 : BitVec 32 := Scalar.andi v177 c31_i32
  let v190 : Index := Scalar.indexCast v182
  let c0_103 : Index := 0#32
  let c0_104 : Index := 0#32
  ![v190.toNat, 0, 0]
def k0_cond1 (v177 : BitVec 32) : BitVec 1 :=
  let c6_i32 : BitVec 32 := 6#32
  let v178 : BitVec 32 := Scalar.shrsi v177 c6_i32
  let c0_i32_99 : BitVec 32 := 0#32
  let v183 : BitVec 32 := Scalar.maxsi v178 c0_i32_99
  let c2_i32 : BitVec 32 := 2#32
  let v184 : BitVec 32 := Scalar.minsi v183 c2_i32
  let c0_i32_100 : BitVec 32 := 0#32
  let v185 : BitVec 1 := Scalar.cmpi .ne v184 c0_i32_100
  v185

def k0_cond2 (v177 : BitVec 32) : BitVec 1 :=
  let c6_i32 : BitVec 32 := 6#32
  let v178 : BitVec 32 := Scalar.shrsi v177 c6_i32
  let c0_i32_99 : BitVec 32 := 0#32
  let v183 : BitVec 32 := Scalar.maxsi v178 c0_i32_99
  let c2_i32 : BitVec 32 := 2#32
  let v184 : BitVec 32 := Scalar.minsi v183 c2_i32
  let c1_i32_101 : BitVec 32 := 1#32
  let v187 : BitVec 32 := Scalar.subi v184 c1_i32_101
  let c0_i32_102 : BitVec 32 := 0#32
  let v188 : BitVec 1 := Scalar.cmpi .ne v187 c0_i32_102
  v188

def k0_off3 (v177 : BitVec 32) : Fin 3 → Nat :=
  let c31_i32 : BitVec 32 := 31#32
  let v182 : BitVec 32 := Scalar.andi v177 c31_i32
  let v199 : Index := Scalar.indexCast v182
  let c0_109 : Index := 0#32
  let c0_110 : Index := 0#32
  ![v199.toNat, 0, 0]
def k0_off4 (v177 : BitVec 32) : Fin 4 → Nat :=
  let c31_i32 : BitVec 32 := 31#32
  let v182 : BitVec 32 := Scalar.andi v177 c31_i32
  let v206 : Index := Scalar.indexCast v182
  let c4_112 : Index := 4#32
  let c0_113 : Index := 0#32
  let c0_114 : Index := 0#32
  ![v206.toNat, 4, 0, 0]
def k0_off5 (v177 : BitVec 32) : Fin 4 → Nat :=
  let c31_i32 : BitVec 32 := 31#32
  let v182 : BitVec 32 := Scalar.andi v177 c31_i32
  let v210 : Index := Scalar.indexCast v182
  let c0_116 : Index := 0#32
  let c0_117 : Index := 0#32
  let c0_118 : Index := 0#32
  ![v210.toNat, 0, 0, 0]
def k0_off6 (v177 : BitVec 32) : Fin 4 → Nat :=
  let c31_i32 : BitVec 32 := 31#32
  let v182 : BitVec 32 := Scalar.andi v177 c31_i32
  let v218 : Index := Scalar.indexCast v182
  let c1_120 : Index := 1#32
  let c0_121 : Index := 0#32
  let c0_122 : Index := 0#32
  ![v218.toNat, 1, 0, 0]
def k0_off7 (v177 : BitVec 32) : Fin 4 → Nat :=
  let c31_i32 : BitVec 32 := 31#32
  let v182 : BitVec 32 := Scalar.andi v177 c31_i32
  let v226 : Index := Scalar.indexCast v182
  let c2_124 : Index := 2#32
  let c0_125 : Index := 0#32
  let c0_126 : Index := 0#32
  ![v226.toNat, 2, 0, 0]
def k0_off8 (v177 : BitVec 32) : Fin 4 → Nat :=
  let c31_i32 : BitVec 32 := 31#32
  let v182 : BitVec 32 := Scalar.andi v177 c31_i32
  let v234 : Index := Scalar.indexCast v182
  let c3_128 : Index := 3#32
  let c0_129 : Index := 0#32
  let c0_130 : Index := 0#32
  ![v234.toNat, 3, 0, 0]
def k0_off9 (v177 : BitVec 32) : Fin 4 → Nat :=
  let c31_i32 : BitVec 32 := 31#32
  let v182 : BitVec 32 := Scalar.andi v177 c31_i32
  let v242 : Index := Scalar.indexCast v182
  let c5_132 : Index := 5#32
  let c0_133 : Index := 0#32
  let c0_134 : Index := 0#32
  ![v242.toNat, 5, 0, 0]
def k0_off10 (v177 : BitVec 32) : Fin 4 → Nat :=
  let c31_i32 : BitVec 32 := 31#32
  let v182 : BitVec 32 := Scalar.andi v177 c31_i32
  let v250 : Index := Scalar.indexCast v182
  let c6_136 : Index := 6#32
  let c0_137 : Index := 0#32
  let c0_138 : Index := 0#32
  ![v250.toNat, 6, 0, 0]
def k0_off11 (v177 : BitVec 32) : Fin 4 → Nat :=
  let c31_i32 : BitVec 32 := 31#32
  let v182 : BitVec 32 := Scalar.andi v177 c31_i32
  let v258 : Index := Scalar.indexCast v182
  let c7_140 : Index := 7#32
  let c0_141 : Index := 0#32
  let c0_142 : Index := 0#32
  ![v258.toNat, 7, 0, 0]
def k0_off12 (v177 : BitVec 32) : Fin 4 → Nat :=
  let c31_i32 : BitVec 32 := 31#32
  let v182 : BitVec 32 := Scalar.andi v177 c31_i32
  let v266 : Index := Scalar.indexCast v182
  let c8_144 : Index := 8#32
  let c0_145 : Index := 0#32
  let c0_146 : Index := 0#32
  ![v266.toNat, 8, 0, 0]
def k0_off13 (v177 : BitVec 32) : Fin 4 → Nat :=
  let c31_i32 : BitVec 32 := 31#32
  let v182 : BitVec 32 := Scalar.andi v177 c31_i32
  let v193 : Index := Scalar.indexCast v182
  let c4_105 : Index := 4#32
  let c0_106 : Index := 0#32
  let c0_107 : Index := 0#32
  ![v193.toNat, 4, 0, 0]
def k0_off14 (v177 : BitVec 32) : Fin 4 → Nat :=
  let c31_i32 : BitVec 32 := 31#32
  let v182 : BitVec 32 := Scalar.andi v177 c31_i32
  let v197 : Index := Scalar.indexCast v182
  let c0_109 : Index := 0#32
  let c0_110 : Index := 0#32
  let c0_111 : Index := 0#32
  ![v197.toNat, 0, 0, 0]
def k0_off15 (v177 : BitVec 32) : Fin 4 → Nat :=
  let c31_i32 : BitVec 32 := 31#32
  let v182 : BitVec 32 := Scalar.andi v177 c31_i32
  let v205 : Index := Scalar.indexCast v182
  let c1_113 : Index := 1#32
  let c0_114 : Index := 0#32
  let c0_115 : Index := 0#32
  ![v205.toNat, 1, 0, 0]
def k0_off16 (v177 : BitVec 32) : Fin 4 → Nat :=
  let c31_i32 : BitVec 32 := 31#32
  let v182 : BitVec 32 := Scalar.andi v177 c31_i32
  let v213 : Index := Scalar.indexCast v182
  let c2_117 : Index := 2#32
  let c0_118 : Index := 0#32
  let c0_119 : Index := 0#32
  ![v213.toNat, 2, 0, 0]
def k0_off17 (v177 : BitVec 32) : Fin 4 → Nat :=
  let c31_i32 : BitVec 32 := 31#32
  let v182 : BitVec 32 := Scalar.andi v177 c31_i32
  let v221 : Index := Scalar.indexCast v182
  let c3_121 : Index := 3#32
  let c0_122 : Index := 0#32
  let c0_123 : Index := 0#32
  ![v221.toNat, 3, 0, 0]
def k0_off18 (v177 : BitVec 32) : Fin 4 → Nat :=
  let c31_i32 : BitVec 32 := 31#32
  let v182 : BitVec 32 := Scalar.andi v177 c31_i32
  let v229 : Index := Scalar.indexCast v182
  let c5_125 : Index := 5#32
  let c0_126 : Index := 0#32
  let c0_127 : Index := 0#32
  ![v229.toNat, 5, 0, 0]
def k0_off19 (v177 : BitVec 32) : Fin 4 → Nat :=
  let c31_i32 : BitVec 32 := 31#32
  let v182 : BitVec 32 := Scalar.andi v177 c31_i32
  let v237 : Index := Scalar.indexCast v182
  let c6_129 : Index := 6#32
  let c0_130 : Index := 0#32
  let c0_131 : Index := 0#32
  ![v237.toNat, 6, 0, 0]
def k0_off20 (v177 : BitVec 32) : Fin 4 → Nat :=
  let c31_i32 : BitVec 32 := 31#32
  let v182 : BitVec 32 := Scalar.andi v177 c31_i32
  let v245 : Index := Scalar.indexCast v182
  let c7_133 : Index := 7#32
  let c0_134 : Index := 0#32
  let c0_135 : Index := 0#32
  ![v245.toNat, 7, 0, 0]
def k0_off21 (v177 : BitVec 32) : Fin 4 → Nat :=
  let c31_i32 : BitVec 32 := 31#32
  let v182 : BitVec 32 := Scalar.andi v177 c31_i32
  let v253 : Index := Scalar.indexCast v182
  let c8_137 : Index := 8#32
  let c0_138 : Index := 0#32
  let c0_139 : Index := 0#32
  ![v253.toNat, 8, 0, 0]
def k0_off22 (v177 : BitVec 32) : Fin 3 → Nat :=
  let c31_i32 : BitVec 32 := 31#32
  let v182 : BitVec 32 := Scalar.andi v177 c31_i32
  let v261 : Index := Scalar.indexCast v182
  let c0_141 : Index := 0#32
  let c0_142 : Index := 0#32
  ![v261.toNat, 0, 0]

def k0_chk1 (v177 : BitVec 32) : Prop :=
  (∀ (k0_h1 : k0_cond1 v177 = 1#1), ∀ (k0_h2 : k0_cond2 v177 = 1#1), ∀ a, (k0_off2 v177) a + S1x128x128.size a ≤ S6x128x128.size a) ∧
  (∀ (k0_h1 : k0_cond1 v177 = 1#1), ∀ (k0_h2 : k0_cond2 v177 = 1#1), ∀ a, (k0_off3 v177) a + S1x128x256.size a ≤ S6x128x256.size a) ∧
  (∀ (k0_h1 : k0_cond1 v177 = 1#1), ∀ (k0_h2 : k0_cond2 v177 = 1#1), ∀ a, (k0_off4 v177) a + S1x1x128x128.size a ≤ S6x9x128x128.size a) ∧
  (∀ (k0_h1 : k0_cond1 v177 = 1#1), ∀ (k0_h2 : k0_cond2 v177 = 1#1), ∀ a, (k0_off5 v177) a + S1x1x128x128.size a ≤ S6x9x128x128.size a) ∧
  (∀ (k0_h1 : k0_cond1 v177 = 1#1), ∀ (k0_h2 : k0_cond2 v177 = 1#1), ∀ a, (k0_off6 v177) a + S1x1x128x128.size a ≤ S6x9x128x128.size a) ∧
  (∀ (k0_h1 : k0_cond1 v177 = 1#1), ∀ (k0_h2 : k0_cond2 v177 = 1#1), ∀ a, (k0_off7 v177) a + S1x1x128x128.size a ≤ S6x9x128x128.size a) ∧
  (∀ (k0_h1 : k0_cond1 v177 = 1#1), ∀ (k0_h2 : k0_cond2 v177 = 1#1), ∀ a, (k0_off8 v177) a + S1x1x128x128.size a ≤ S6x9x128x128.size a) ∧
  (∀ (k0_h1 : k0_cond1 v177 = 1#1), ∀ (k0_h2 : k0_cond2 v177 = 1#1), ∀ a, (k0_off9 v177) a + S1x1x128x128.size a ≤ S6x9x128x128.size a) ∧
  (∀ (k0_h1 : k0_cond1 v177 = 1#1), ∀ (k0_h2 : k0_cond2 v177 = 1#1), ∀ a, (k0_off10 v177) a + S1x1x128x128.size a ≤ S6x9x128x128.size a) ∧
  (∀ (k0_h1 : k0_cond1 v177 = 1#1), ∀ (k0_h2 : k0_cond2 v177 = 1#1), ∀ a, (k0_off11 v177) a + S1x1x128x128.size a ≤ S6x9x128x128.size a) ∧
  (∀ (k0_h1 : k0_cond1 v177 = 1#1), ∀ (k0_h2 : k0_cond2 v177 = 1#1), ∀ a, (k0_off12 v177) a + S1x1x128x128.size a ≤ S6x9x128x128.size a) ∧
  (∀ (k0_h1 : k0_cond1 v177 = 1#1), ∀ (k0_h2 : ¬(k0_cond2 v177 = 1#1)), ∀ a, (k0_off13 v177) a + S1x1x128x128.size a ≤ S11x9x128x128.size a) ∧
  (∀ (k0_h1 : k0_cond1 v177 = 1#1), ∀ (k0_h2 : ¬(k0_cond2 v177 = 1#1)), ∀ a, (k0_off14 v177) a + S1x1x128x128.size a ≤ S11x9x128x128.size a) ∧
  (∀ (k0_h1 : k0_cond1 v177 = 1#1), ∀ (k0_h2 : ¬(k0_cond2 v177 = 1#1)), ∀ a, (k0_off15 v177) a + S1x1x128x128.size a ≤ S11x9x128x128.size a) ∧
  (∀ (k0_h1 : k0_cond1 v177 = 1#1), ∀ (k0_h2 : ¬(k0_cond2 v177 = 1#1)), ∀ a, (k0_off16 v177) a + S1x1x128x128.size a ≤ S11x9x128x128.size a) ∧
  (∀ (k0_h1 : k0_cond1 v177 = 1#1), ∀ (k0_h2 : ¬(k0_cond2 v177 = 1#1)), ∀ a, (k0_off17 v177) a + S1x1x128x128.size a ≤ S11x9x128x128.size a) ∧
  (∀ (k0_h1 : k0_cond1 v177 = 1#1), ∀ (k0_h2 : ¬(k0_cond2 v177 = 1#1)), ∀ a, (k0_off18 v177) a + S1x1x128x128.size a ≤ S11x9x128x128.size a) ∧
  (∀ (k0_h1 : k0_cond1 v177 = 1#1), ∀ (k0_h2 : ¬(k0_cond2 v177 = 1#1)), ∀ a, (k0_off19 v177) a + S1x1x128x128.size a ≤ S11x9x128x128.size a) ∧
  (∀ (k0_h1 : k0_cond1 v177 = 1#1), ∀ (k0_h2 : ¬(k0_cond2 v177 = 1#1)), ∀ a, (k0_off20 v177) a + S1x1x128x128.size a ≤ S11x9x128x128.size a) ∧
  (∀ (k0_h1 : k0_cond1 v177 = 1#1), ∀ (k0_h2 : ¬(k0_cond2 v177 = 1#1)), ∀ a, (k0_off21 v177) a + S1x1x128x128.size a ≤ S11x9x128x128.size a) ∧
  (∀ (k0_h1 : k0_cond1 v177 = 1#1), ∀ (k0_h2 : ¬(k0_cond2 v177 = 1#1)), ∀ a, (k0_off22 v177) a + S1x128x256.size a ≤ S11x128x256.size a)
theorem k0_off2_inb : ∀ (v177 : BitVec 32) (k0_hw1 : k0_chk1 v177), ∀ (k0_h1 : k0_cond1 v177 = 1#1), ∀ (k0_h2 : k0_cond2 v177 = 1#1), ∀ a, (k0_off2 v177) a + S1x128x128.size a ≤ S6x128x128.size a := fun v177 k0_hw1 k0_h1 k0_h2 => k0_hw1.1 k0_h1 k0_h2
theorem k0_off3_inb : ∀ (v177 : BitVec 32) (k0_hw1 : k0_chk1 v177), ∀ (k0_h1 : k0_cond1 v177 = 1#1), ∀ (k0_h2 : k0_cond2 v177 = 1#1), ∀ a, (k0_off3 v177) a + S1x128x256.size a ≤ S6x128x256.size a := fun v177 k0_hw1 k0_h1 k0_h2 => k0_hw1.2.1 k0_h1 k0_h2
theorem k0_off4_inb : ∀ (v177 : BitVec 32) (k0_hw1 : k0_chk1 v177), ∀ (k0_h1 : k0_cond1 v177 = 1#1), ∀ (k0_h2 : k0_cond2 v177 = 1#1), ∀ a, (k0_off4 v177) a + S1x1x128x128.size a ≤ S6x9x128x128.size a := fun v177 k0_hw1 k0_h1 k0_h2 => k0_hw1.2.2.1 k0_h1 k0_h2
theorem k0_off5_inb : ∀ (v177 : BitVec 32) (k0_hw1 : k0_chk1 v177), ∀ (k0_h1 : k0_cond1 v177 = 1#1), ∀ (k0_h2 : k0_cond2 v177 = 1#1), ∀ a, (k0_off5 v177) a + S1x1x128x128.size a ≤ S6x9x128x128.size a := fun v177 k0_hw1 k0_h1 k0_h2 => k0_hw1.2.2.2.1 k0_h1 k0_h2
theorem k0_off6_inb : ∀ (v177 : BitVec 32) (k0_hw1 : k0_chk1 v177), ∀ (k0_h1 : k0_cond1 v177 = 1#1), ∀ (k0_h2 : k0_cond2 v177 = 1#1), ∀ a, (k0_off6 v177) a + S1x1x128x128.size a ≤ S6x9x128x128.size a := fun v177 k0_hw1 k0_h1 k0_h2 => k0_hw1.2.2.2.2.1 k0_h1 k0_h2
theorem k0_off7_inb : ∀ (v177 : BitVec 32) (k0_hw1 : k0_chk1 v177), ∀ (k0_h1 : k0_cond1 v177 = 1#1), ∀ (k0_h2 : k0_cond2 v177 = 1#1), ∀ a, (k0_off7 v177) a + S1x1x128x128.size a ≤ S6x9x128x128.size a := fun v177 k0_hw1 k0_h1 k0_h2 => k0_hw1.2.2.2.2.2.1 k0_h1 k0_h2
theorem k0_off8_inb : ∀ (v177 : BitVec 32) (k0_hw1 : k0_chk1 v177), ∀ (k0_h1 : k0_cond1 v177 = 1#1), ∀ (k0_h2 : k0_cond2 v177 = 1#1), ∀ a, (k0_off8 v177) a + S1x1x128x128.size a ≤ S6x9x128x128.size a := fun v177 k0_hw1 k0_h1 k0_h2 => k0_hw1.2.2.2.2.2.2.1 k0_h1 k0_h2
theorem k0_off9_inb : ∀ (v177 : BitVec 32) (k0_hw1 : k0_chk1 v177), ∀ (k0_h1 : k0_cond1 v177 = 1#1), ∀ (k0_h2 : k0_cond2 v177 = 1#1), ∀ a, (k0_off9 v177) a + S1x1x128x128.size a ≤ S6x9x128x128.size a := fun v177 k0_hw1 k0_h1 k0_h2 => k0_hw1.2.2.2.2.2.2.2.1 k0_h1 k0_h2
theorem k0_off10_inb : ∀ (v177 : BitVec 32) (k0_hw1 : k0_chk1 v177), ∀ (k0_h1 : k0_cond1 v177 = 1#1), ∀ (k0_h2 : k0_cond2 v177 = 1#1), ∀ a, (k0_off10 v177) a + S1x1x128x128.size a ≤ S6x9x128x128.size a := fun v177 k0_hw1 k0_h1 k0_h2 => k0_hw1.2.2.2.2.2.2.2.2.1 k0_h1 k0_h2
theorem k0_off11_inb : ∀ (v177 : BitVec 32) (k0_hw1 : k0_chk1 v177), ∀ (k0_h1 : k0_cond1 v177 = 1#1), ∀ (k0_h2 : k0_cond2 v177 = 1#1), ∀ a, (k0_off11 v177) a + S1x1x128x128.size a ≤ S6x9x128x128.size a := fun v177 k0_hw1 k0_h1 k0_h2 => k0_hw1.2.2.2.2.2.2.2.2.2.1 k0_h1 k0_h2
theorem k0_off12_inb : ∀ (v177 : BitVec 32) (k0_hw1 : k0_chk1 v177), ∀ (k0_h1 : k0_cond1 v177 = 1#1), ∀ (k0_h2 : k0_cond2 v177 = 1#1), ∀ a, (k0_off12 v177) a + S1x1x128x128.size a ≤ S6x9x128x128.size a := fun v177 k0_hw1 k0_h1 k0_h2 => k0_hw1.2.2.2.2.2.2.2.2.2.2.1 k0_h1 k0_h2
theorem k0_off13_inb : ∀ (v177 : BitVec 32) (k0_hw1 : k0_chk1 v177), ∀ (k0_h1 : k0_cond1 v177 = 1#1), ∀ (k0_h2 : ¬(k0_cond2 v177 = 1#1)), ∀ a, (k0_off13 v177) a + S1x1x128x128.size a ≤ S11x9x128x128.size a := fun v177 k0_hw1 k0_h1 k0_h2 => k0_hw1.2.2.2.2.2.2.2.2.2.2.2.1 k0_h1 k0_h2
theorem k0_off14_inb : ∀ (v177 : BitVec 32) (k0_hw1 : k0_chk1 v177), ∀ (k0_h1 : k0_cond1 v177 = 1#1), ∀ (k0_h2 : ¬(k0_cond2 v177 = 1#1)), ∀ a, (k0_off14 v177) a + S1x1x128x128.size a ≤ S11x9x128x128.size a := fun v177 k0_hw1 k0_h1 k0_h2 => k0_hw1.2.2.2.2.2.2.2.2.2.2.2.2.1 k0_h1 k0_h2
theorem k0_off15_inb : ∀ (v177 : BitVec 32) (k0_hw1 : k0_chk1 v177), ∀ (k0_h1 : k0_cond1 v177 = 1#1), ∀ (k0_h2 : ¬(k0_cond2 v177 = 1#1)), ∀ a, (k0_off15 v177) a + S1x1x128x128.size a ≤ S11x9x128x128.size a := fun v177 k0_hw1 k0_h1 k0_h2 => k0_hw1.2.2.2.2.2.2.2.2.2.2.2.2.2.1 k0_h1 k0_h2
theorem k0_off16_inb : ∀ (v177 : BitVec 32) (k0_hw1 : k0_chk1 v177), ∀ (k0_h1 : k0_cond1 v177 = 1#1), ∀ (k0_h2 : ¬(k0_cond2 v177 = 1#1)), ∀ a, (k0_off16 v177) a + S1x1x128x128.size a ≤ S11x9x128x128.size a := fun v177 k0_hw1 k0_h1 k0_h2 => k0_hw1.2.2.2.2.2.2.2.2.2.2.2.2.2.2.1 k0_h1 k0_h2
theorem k0_off17_inb : ∀ (v177 : BitVec 32) (k0_hw1 : k0_chk1 v177), ∀ (k0_h1 : k0_cond1 v177 = 1#1), ∀ (k0_h2 : ¬(k0_cond2 v177 = 1#1)), ∀ a, (k0_off17 v177) a + S1x1x128x128.size a ≤ S11x9x128x128.size a := fun v177 k0_hw1 k0_h1 k0_h2 => k0_hw1.2.2.2.2.2.2.2.2.2.2.2.2.2.2.2.1 k0_h1 k0_h2
theorem k0_off18_inb : ∀ (v177 : BitVec 32) (k0_hw1 : k0_chk1 v177), ∀ (k0_h1 : k0_cond1 v177 = 1#1), ∀ (k0_h2 : ¬(k0_cond2 v177 = 1#1)), ∀ a, (k0_off18 v177) a + S1x1x128x128.size a ≤ S11x9x128x128.size a := fun v177 k0_hw1 k0_h1 k0_h2 => k0_hw1.2.2.2.2.2.2.2.2.2.2.2.2.2.2.2.2.1 k0_h1 k0_h2
theorem k0_off19_inb : ∀ (v177 : BitVec 32) (k0_hw1 : k0_chk1 v177), ∀ (k0_h1 : k0_cond1 v177 = 1#1), ∀ (k0_h2 : ¬(k0_cond2 v177 = 1#1)), ∀ a, (k0_off19 v177) a + S1x1x128x128.size a ≤ S11x9x128x128.size a := fun v177 k0_hw1 k0_h1 k0_h2 => k0_hw1.2.2.2.2.2.2.2.2.2.2.2.2.2.2.2.2.2.1 k0_h1 k0_h2
theorem k0_off20_inb : ∀ (v177 : BitVec 32) (k0_hw1 : k0_chk1 v177), ∀ (k0_h1 : k0_cond1 v177 = 1#1), ∀ (k0_h2 : ¬(k0_cond2 v177 = 1#1)), ∀ a, (k0_off20 v177) a + S1x1x128x128.size a ≤ S11x9x128x128.size a := fun v177 k0_hw1 k0_h1 k0_h2 => k0_hw1.2.2.2.2.2.2.2.2.2.2.2.2.2.2.2.2.2.2.1 k0_h1 k0_h2
theorem k0_off21_inb : ∀ (v177 : BitVec 32) (k0_hw1 : k0_chk1 v177), ∀ (k0_h1 : k0_cond1 v177 = 1#1), ∀ (k0_h2 : ¬(k0_cond2 v177 = 1#1)), ∀ a, (k0_off21 v177) a + S1x1x128x128.size a ≤ S11x9x128x128.size a := fun v177 k0_hw1 k0_h1 k0_h2 => k0_hw1.2.2.2.2.2.2.2.2.2.2.2.2.2.2.2.2.2.2.2.1 k0_h1 k0_h2
theorem k0_off22_inb : ∀ (v177 : BitVec 32) (k0_hw1 : k0_chk1 v177), ∀ (k0_h1 : k0_cond1 v177 = 1#1), ∀ (k0_h2 : ¬(k0_cond2 v177 = 1#1)), ∀ a, (k0_off22 v177) a + S1x128x256.size a ≤ S11x128x256.size a := fun v177 k0_hw1 k0_h1 k0_h2 => k0_hw1.2.2.2.2.2.2.2.2.2.2.2.2.2.2.2.2.2.2.2.2 k0_h1 k0_h2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x9x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S11x9x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S11x9x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S6x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S6x9x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S6x9x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S11x128x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S11x128x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S6x128x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S6x128x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S6x128x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S1x512x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev grid1 : Pipeline.Grid := ⟨2, ![2, 4], ![false, false]⟩

def k1_cond2 (i : grid1.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_8 : BitVec 32 := 0#32
  let v14 : BitVec 1 := Scalar.cmpi .ne v13 c0_i32_8
  v14

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S64x6272 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S512x6272 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S64x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := .none

abbrev stage2_0 : Fin 1 → Memref sig .tc .vmem S64x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S32x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S64x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
-- ==== ReferenceIdeal.lean ====
abbrev S64x1024x14x14 : Shape := ⟨4, ![64, 1024, 14, 14]⟩
abbrev S64x25 : Shape := ⟨2, ![64, 25]⟩
abbrev S128x1024x3x3 : Shape := ⟨4, ![128, 1024, 3, 3]⟩
abbrev S128 : Shape := ⟨1, ![128]⟩
abbrev S128x128x3x3 : Shape := ⟨4, ![128, 128, 3, 3]⟩
abbrev S11x128x128x3x3 : Shape := ⟨5, ![11, 128, 128, 3, 3]⟩
abbrev S11x128 : Shape := ⟨2, ![11, 128]⟩
abbrev S6x128x256x1x1 : Shape := ⟨5, ![6, 128, 256, 1, 1]⟩
abbrev S6x128 : Shape := ⟨2, ![6, 128]⟩
abbrev S6x128x128x3x3 : Shape := ⟨5, ![6, 128, 128, 3, 3]⟩
abbrev S512x128x1x1 : Shape := ⟨4, ![512, 128, 1, 1]⟩
abbrev S512 : Shape := ⟨1, ![512]⟩
abbrev S1024x25088 : Shape := ⟨2, ![1024, 25088]⟩
abbrev S1024 : Shape := ⟨1, ![1024]⟩
abbrev S32x1024 : Shape := ⟨2, ![32, 1024]⟩
abbrev S32 : Shape := ⟨1, ![32]⟩
abbrev S21 : Shape := ⟨1, ![21]⟩
abbrev S_ : Shape := ⟨0, ![]⟩
abbrev S64x1024x16x16 : Shape := ⟨4, ![64, 1024, 16, 16]⟩
abbrev S128x1024x1x1 : Shape := ⟨4, ![128, 1024, 1, 1]⟩
abbrev S128x1024 : Shape := ⟨2, ![128, 1024]⟩
abbrev S64x14x14x128 : Shape := ⟨4, ![64, 14, 14, 128]⟩
abbrev S64x128x14x14 : Shape := ⟨4, ![64, 128, 14, 14]⟩
abbrev S1x128x1x1 : Shape := ⟨4, ![1, 128, 1, 1]⟩
abbrev S64x128x16x16 : Shape := ⟨4, ![64, 128, 16, 16]⟩
abbrev S128x128x1x1 : Shape := ⟨4, ![128, 128, 1, 1]⟩
abbrev S128x128 : Shape := ⟨2, ![128, 128]⟩
abbrev S25x64 : Shape := ⟨2, ![25, 64]⟩
abbrev S1x64 : Shape := ⟨2, ![1, 64]⟩
abbrev S64 : Shape := ⟨1, ![64]⟩
abbrev S64x1 : Shape := ⟨2, ![64, 1]⟩
abbrev S64x1x1x1 : Shape := ⟨4, ![64, 1, 1, 1]⟩
abbrev S64x128x128x3x3 : Shape := ⟨5, ![64, 128, 128, 3, 3]⟩
abbrev S64x128 : Shape := ⟨2, ![64, 128]⟩
abbrev S64x128x256x1x1 : Shape := ⟨5, ![64, 128, 256, 1, 1]⟩
abbrev S64x128x128x1x1 : Shape := ⟨5, ![64, 128, 128, 1, 1]⟩
abbrev S64x128x128 : Shape := ⟨3, ![64, 128, 128]⟩
abbrev S64x128x1x1 : Shape := ⟨4, ![64, 128, 1, 1]⟩
abbrev S64x256x14x14 : Shape := ⟨4, ![64, 256, 14, 14]⟩
abbrev S64x128x256 : Shape := ⟨3, ![64, 128, 256]⟩
abbrev S512x128 : Shape := ⟨2, ![512, 128]⟩
abbrev S64x14x14x512 : Shape := ⟨4, ![64, 14, 14, 512]⟩
abbrev S64x512x14x14 : Shape := ⟨4, ![64, 512, 14, 14]⟩
abbrev S1x512x1x1 : Shape := ⟨4, ![1, 512, 1, 1]⟩
abbrev S64x512x7x7 : Shape := ⟨4, ![64, 512, 7, 7]⟩
abbrev S64x25088 : Shape := ⟨2, ![64, 25088]⟩
abbrev S25088x1024 : Shape := ⟨2, ![25088, 1024]⟩
abbrev S64x1024 : Shape := ⟨2, ![64, 1024]⟩
abbrev S1x1024 : Shape := ⟨2, ![1, 1024]⟩
abbrev S1024x32 : Shape := ⟨2, ![1024, 32]⟩
abbrev S64x32 : Shape := ⟨2, ![64, 32]⟩
abbrev S1x32 : Shape := ⟨2, ![1, 32]⟩

abbrev nBuf : Space → Nat
  | .hbm => 596
  | .vmem => 0
  | .smem => 0
  | _ => 0

abbrev hbmTy0_0 (i : Nat) : BufTy := match i % 128 with
  | 0 => ⟨S64x1024x14x14, .f32⟩
  | 1 => ⟨S64x25, .i32⟩
  | 2 => ⟨S128x1024x3x3, .f32⟩
  | 3 => ⟨S128, .f32⟩
  | 4 => ⟨S128x128x3x3, .f32⟩
  | 5 => ⟨S128, .f32⟩
  | 6 => ⟨S11x128x128x3x3, .f32⟩
  | 7 => ⟨S11x128, .f32⟩
  | 8 => ⟨S11x128x128x3x3, .f32⟩
  | 9 => ⟨S11x128, .f32⟩
  | 10 => ⟨S6x128x256x1x1, .f32⟩
  | 11 => ⟨S6x128, .f32⟩
  | 12 => ⟨S6x128x128x3x3, .f32⟩
  | 13 => ⟨S6x128, .f32⟩
  | 14 => ⟨S6x128x128x3x3, .f32⟩
  | 15 => ⟨S6x128, .f32⟩
  | 16 => ⟨S512x128x1x1, .f32⟩
  | 17 => ⟨S512, .f32⟩
  | 18 => ⟨S1024x25088, .f32⟩
  | 19 => ⟨S1024, .f32⟩
  | 20 => ⟨S32x1024, .f32⟩
  | 21 => ⟨S32, .f32⟩
  | 22 => ⟨S21, .i32⟩
  | 23 => ⟨S21, .i32⟩
  | 24 => ⟨S21, .i32⟩
  | 25 => ⟨S_, .i32⟩
  | 26 => ⟨S_, .f32⟩
  | 27 => ⟨S64x1024x16x16, .f32⟩
  | 28 => ⟨S128x1024x1x1, .f32⟩
  | 29 => ⟨S128x1024, .f32⟩
  | 30 => ⟨S64x1024x14x14, .f32⟩
  | 31 => ⟨S64x14x14x128, .f32⟩
  | 32 => ⟨S64x128x14x14, .f32⟩
  | 33 => ⟨S128x1024x1x1, .f32⟩
  | 34 => ⟨S128x1024, .f32⟩
  | 35 => ⟨S64x1024x14x14, .f32⟩
  | 36 => ⟨S64x14x14x128, .f32⟩
  | 37 => ⟨S64x128x14x14, .f32⟩
  | 38 => ⟨S64x128x14x14, .f32⟩
  | 39 => ⟨S128x1024x1x1, .f32⟩
  | 40 => ⟨S128x1024, .f32⟩
  | 41 => ⟨S64x1024x14x14, .f32⟩
  | 42 => ⟨S64x14x14x128, .f32⟩
  | 43 => ⟨S64x128x14x14, .f32⟩
  | 44 => ⟨S64x128x14x14, .f32⟩
  | 45 => ⟨S128x1024x1x1, .f32⟩
  | 46 => ⟨S128x1024, .f32⟩
  | 47 => ⟨S64x1024x14x14, .f32⟩
  | 48 => ⟨S64x14x14x128, .f32⟩
  | 49 => ⟨S64x128x14x14, .f32⟩
  | 50 => ⟨S64x128x14x14, .f32⟩
  | 51 => ⟨S128x1024x1x1, .f32⟩
  | 52 => ⟨S128x1024, .f32⟩
  | 53 => ⟨S64x1024x14x14, .f32⟩
  | 54 => ⟨S64x14x14x128, .f32⟩
  | 55 => ⟨S64x128x14x14, .f32⟩
  | 56 => ⟨S64x128x14x14, .f32⟩
  | 57 => ⟨S128x1024x1x1, .f32⟩
  | 58 => ⟨S128x1024, .f32⟩
  | 59 => ⟨S64x1024x14x14, .f32⟩
  | 60 => ⟨S64x14x14x128, .f32⟩
  | 61 => ⟨S64x128x14x14, .f32⟩
  | 62 => ⟨S64x128x14x14, .f32⟩
  | 63 => ⟨S128x1024x1x1, .f32⟩
  | 64 => ⟨S128x1024, .f32⟩
  | 65 => ⟨S64x1024x14x14, .f32⟩
  | 66 => ⟨S64x14x14x128, .f32⟩
  | 67 => ⟨S64x128x14x14, .f32⟩
  | 68 => ⟨S64x128x14x14, .f32⟩
  | 69 => ⟨S128x1024x1x1, .f32⟩
  | 70 => ⟨S128x1024, .f32⟩
  | 71 => ⟨S64x1024x14x14, .f32⟩
  | 72 => ⟨S64x14x14x128, .f32⟩
  | 73 => ⟨S64x128x14x14, .f32⟩
  | 74 => ⟨S64x128x14x14, .f32⟩
  | 75 => ⟨S128x1024x1x1, .f32⟩
  | 76 => ⟨S128x1024, .f32⟩
  | 77 => ⟨S64x1024x14x14, .f32⟩
  | 78 => ⟨S64x14x14x128, .f32⟩
  | 79 => ⟨S64x128x14x14, .f32⟩
  | 80 => ⟨S64x128x14x14, .f32⟩
  | 81 => ⟨S1x128x1x1, .f32⟩
  | 82 => ⟨S64x128x14x14, .f32⟩
  | 83 => ⟨S64x128x14x14, .f32⟩
  | 84 => ⟨S_, .f32⟩
  | 85 => ⟨S64x128x14x14, .f32⟩
  | 86 => ⟨S64x128x14x14, .f32⟩
  | 87 => ⟨S_, .i32⟩
  | 88 => ⟨S_, .f32⟩
  | 89 => ⟨S64x128x16x16, .f32⟩
  | 90 => ⟨S128x128x1x1, .f32⟩
  | 91 => ⟨S128x128, .f32⟩
  | 92 => ⟨S64x128x14x14, .f32⟩
  | 93 => ⟨S64x14x14x128, .f32⟩
  | 94 => ⟨S64x128x14x14, .f32⟩
  | 95 => ⟨S128x128x1x1, .f32⟩
  | 96 => ⟨S128x128, .f32⟩
  | 97 => ⟨S64x128x14x14, .f32⟩
  | 98 => ⟨S64x14x14x128, .f32⟩
  | 99 => ⟨S64x128x14x14, .f32⟩
  | 100 => ⟨S64x128x14x14, .f32⟩
  | 101 => ⟨S128x128x1x1, .f32⟩
  | 102 => ⟨S128x128, .f32⟩
  | 103 => ⟨S64x128x14x14, .f32⟩
  | 104 => ⟨S64x14x14x128, .f32⟩
  | 105 => ⟨S64x128x14x14, .f32⟩
  | 106 => ⟨S64x128x14x14, .f32⟩
  | 107 => ⟨S128x128x1x1, .f32⟩
  | 108 => ⟨S128x128, .f32⟩
  | 109 => ⟨S64x128x14x14, .f32⟩
  | 110 => ⟨S64x14x14x128, .f32⟩
  | 111 => ⟨S64x128x14x14, .f32⟩
  | 112 => ⟨S64x128x14x14, .f32⟩
  | 113 => ⟨S128x128x1x1, .f32⟩
  | 114 => ⟨S128x128, .f32⟩
  | 115 => ⟨S64x128x14x14, .f32⟩
  | 116 => ⟨S64x14x14x128, .f32⟩
  | 117 => ⟨S64x128x14x14, .f32⟩
  | 118 => ⟨S64x128x14x14, .f32⟩
  | 119 => ⟨S128x128x1x1, .f32⟩
  | 120 => ⟨S128x128, .f32⟩
  | 121 => ⟨S64x128x14x14, .f32⟩
  | 122 => ⟨S64x14x14x128, .f32⟩
  | 123 => ⟨S64x128x14x14, .f32⟩
  | 124 => ⟨S64x128x14x14, .f32⟩
  | 125 => ⟨S128x128x1x1, .f32⟩
  | 126 => ⟨S128x128, .f32⟩
  | 127 => ⟨S64x128x14x14, .f32⟩
  | _ => ⟨S64x1024x14x14, .f32⟩

abbrev hbmTy0_1 (i : Nat) : BufTy := match i % 128 with
  | 0 => ⟨S64x14x14x128, .f32⟩
  | 1 => ⟨S64x128x14x14, .f32⟩
  | 2 => ⟨S64x128x14x14, .f32⟩
  | 3 => ⟨S128x128x1x1, .f32⟩
  | 4 => ⟨S128x128, .f32⟩
  | 5 => ⟨S64x128x14x14, .f32⟩
  | 6 => ⟨S64x14x14x128, .f32⟩
  | 7 => ⟨S64x128x14x14, .f32⟩
  | 8 => ⟨S64x128x14x14, .f32⟩
  | 9 => ⟨S128x128x1x1, .f32⟩
  | 10 => ⟨S128x128, .f32⟩
  | 11 => ⟨S64x128x14x14, .f32⟩
  | 12 => ⟨S64x14x14x128, .f32⟩
  | 13 => ⟨S64x128x14x14, .f32⟩
  | 14 => ⟨S64x128x14x14, .f32⟩
  | 15 => ⟨S1x128x1x1, .f32⟩
  | 16 => ⟨S64x128x14x14, .f32⟩
  | 17 => ⟨S64x128x14x14, .f32⟩
  | 18 => ⟨S_, .f32⟩
  | 19 => ⟨S64x128x14x14, .f32⟩
  | 20 => ⟨S64x128x14x14, .f32⟩
  | 21 => ⟨S64x25, .i32⟩
  | 22 => ⟨S25x64, .i32⟩
  | 23 => ⟨S_, .i32⟩
  | 24 => ⟨S25x64, .i32⟩
  | 25 => ⟨S21, .i32⟩
  | 26 => ⟨S21, .i32⟩
  | 27 => ⟨S11x128x128x3x3, .f32⟩
  | 28 => ⟨S11x128, .f32⟩
  | 29 => ⟨S11x128x128x3x3, .f32⟩
  | 30 => ⟨S11x128, .f32⟩
  | 31 => ⟨S21, .i32⟩
  | 32 => ⟨S6x128x256x1x1, .f32⟩
  | 33 => ⟨S6x128, .f32⟩
  | 34 => ⟨S6x128x128x3x3, .f32⟩
  | 35 => ⟨S6x128, .f32⟩
  | 36 => ⟨S6x128x128x3x3, .f32⟩
  | 37 => ⟨S6x128, .f32⟩
  | 38 => ⟨S64x128x14x14, .f32⟩
  | 39 => ⟨S_, .i32⟩
  | 40 => ⟨S64x128x14x14, .f32⟩
  | 41 => ⟨S64x128x14x14, .f32⟩
  | 42 => ⟨S_, .i32⟩
  | 43 => ⟨S_, .i1⟩
  | 44 => ⟨S_, .i32⟩
  | 45 => ⟨S1x64, .i32⟩
  | 46 => ⟨S64, .i32⟩
  | 47 => ⟨S64x1, .i32⟩
  | 48 => ⟨S64, .i32⟩
  | 49 => ⟨S64x1x1x1, .i32⟩
  | 50 => ⟨S64x1, .i32⟩
  | 51 => ⟨S64, .i32⟩
  | 52 => ⟨S64x1, .i32⟩
  | 53 => ⟨S64x128x128x3x3, .f32⟩
  | 54 => ⟨S64x1, .i32⟩
  | 55 => ⟨S64, .i32⟩
  | 56 => ⟨S64x1, .i32⟩
  | 57 => ⟨S64x128, .f32⟩
  | 58 => ⟨S64x1, .i32⟩
  | 59 => ⟨S64, .i32⟩
  | 60 => ⟨S64x1, .i32⟩
  | 61 => ⟨S64x128x128x3x3, .f32⟩
  | 62 => ⟨S64x1, .i32⟩
  | 63 => ⟨S64, .i32⟩
  | 64 => ⟨S64x1, .i32⟩
  | 65 => ⟨S64x128, .f32⟩
  | 66 => ⟨S64x1, .i32⟩
  | 67 => ⟨S64, .i32⟩
  | 68 => ⟨S64x1, .i32⟩
  | 69 => ⟨S64x128x256x1x1, .f32⟩
  | 70 => ⟨S64x1, .i32⟩
  | 71 => ⟨S64, .i32⟩
  | 72 => ⟨S64x1, .i32⟩
  | 73 => ⟨S64x128, .f32⟩
  | 74 => ⟨S64x1, .i32⟩
  | 75 => ⟨S64, .i32⟩
  | 76 => ⟨S64x1, .i32⟩
  | 77 => ⟨S64x128x128x3x3, .f32⟩
  | 78 => ⟨S64x1, .i32⟩
  | 79 => ⟨S64, .i32⟩
  | 80 => ⟨S64x1, .i32⟩
  | 81 => ⟨S64x128, .f32⟩
  | 82 => ⟨S64x1, .i32⟩
  | 83 => ⟨S64, .i32⟩
  | 84 => ⟨S64x1, .i32⟩
  | 85 => ⟨S64x128x128x3x3, .f32⟩
  | 86 => ⟨S64x1, .i32⟩
  | 87 => ⟨S64, .i32⟩
  | 88 => ⟨S64x1, .i32⟩
  | 89 => ⟨S64x128, .f32⟩
  | 90 => ⟨S_, .i32⟩
  | 91 => ⟨S64x1x1x1, .i32⟩
  | 92 => ⟨S64x1x1x1, .i1⟩
  | 93 => ⟨S_, .i32⟩
  | 94 => ⟨S_, .f32⟩
  | 95 => ⟨S64x128x16x16, .f32⟩
  | 96 => ⟨S64x128x128x1x1, .f32⟩
  | 97 => ⟨S64x128x128, .f32⟩
  | 98 => ⟨S64x128x14x14, .f32⟩
  | 99 => ⟨S64x128x14x14, .f32⟩
  | 100 => ⟨S64x128x128x1x1, .f32⟩
  | 101 => ⟨S64x128x128, .f32⟩
  | 102 => ⟨S64x128x14x14, .f32⟩
  | 103 => ⟨S64x128x14x14, .f32⟩
  | 104 => ⟨S64x128x14x14, .f32⟩
  | 105 => ⟨S64x128x128x1x1, .f32⟩
  | 106 => ⟨S64x128x128, .f32⟩
  | 107 => ⟨S64x128x14x14, .f32⟩
  | 108 => ⟨S64x128x14x14, .f32⟩
  | 109 => ⟨S64x128x14x14, .f32⟩
  | 110 => ⟨S64x128x128x1x1, .f32⟩
  | 111 => ⟨S64x128x128, .f32⟩
  | 112 => ⟨S64x128x14x14, .f32⟩
  | 113 => ⟨S64x128x14x14, .f32⟩
  | 114 => ⟨S64x128x14x14, .f32⟩
  | 115 => ⟨S64x128x128x1x1, .f32⟩
  | 116 => ⟨S64x128x128, .f32⟩
  | 117 => ⟨S64x128x14x14, .f32⟩
  | 118 => ⟨S64x128x14x14, .f32⟩
  | 119 => ⟨S64x128x14x14, .f32⟩
  | 120 => ⟨S64x128x128x1x1, .f32⟩
  | 121 => ⟨S64x128x128, .f32⟩
  | 122 => ⟨S64x128x14x14, .f32⟩
  | 123 => ⟨S64x128x14x14, .f32⟩
  | 124 => ⟨S64x128x14x14, .f32⟩
  | 125 => ⟨S64x128x128x1x1, .f32⟩
  | 126 => ⟨S64x128x128, .f32⟩
  | 127 => ⟨S64x128x14x14, .f32⟩
  | _ => ⟨S64x1024x14x14, .f32⟩

abbrev hbmTy0_2 (i : Nat) : BufTy := match i % 128 with
  | 0 => ⟨S64x128x14x14, .f32⟩
  | 1 => ⟨S64x128x14x14, .f32⟩
  | 2 => ⟨S64x128x128x1x1, .f32⟩
  | 3 => ⟨S64x128x128, .f32⟩
  | 4 => ⟨S64x128x14x14, .f32⟩
  | 5 => ⟨S64x128x14x14, .f32⟩
  | 6 => ⟨S64x128x14x14, .f32⟩
  | 7 => ⟨S64x128x128x1x1, .f32⟩
  | 8 => ⟨S64x128x128, .f32⟩
  | 9 => ⟨S64x128x14x14, .f32⟩
  | 10 => ⟨S64x128x14x14, .f32⟩
  | 11 => ⟨S64x128x14x14, .f32⟩
  | 12 => ⟨S64x128x1x1, .f32⟩
  | 13 => ⟨S64x128x14x14, .f32⟩
  | 14 => ⟨S64x128x14x14, .f32⟩
  | 15 => ⟨S_, .f32⟩
  | 16 => ⟨S64x128x14x14, .f32⟩
  | 17 => ⟨S64x128x14x14, .f32⟩
  | 18 => ⟨S_, .i32⟩
  | 19 => ⟨S_, .f32⟩
  | 20 => ⟨S64x128x16x16, .f32⟩
  | 21 => ⟨S64x128x128x1x1, .f32⟩
  | 22 => ⟨S64x128x128, .f32⟩
  | 23 => ⟨S64x128x14x14, .f32⟩
  | 24 => ⟨S64x128x14x14, .f32⟩
  | 25 => ⟨S64x128x128x1x1, .f32⟩
  | 26 => ⟨S64x128x128, .f32⟩
  | 27 => ⟨S64x128x14x14, .f32⟩
  | 28 => ⟨S64x128x14x14, .f32⟩
  | 29 => ⟨S64x128x14x14, .f32⟩
  | 30 => ⟨S64x128x128x1x1, .f32⟩
  | 31 => ⟨S64x128x128, .f32⟩
  | 32 => ⟨S64x128x14x14, .f32⟩
  | 33 => ⟨S64x128x14x14, .f32⟩
  | 34 => ⟨S64x128x14x14, .f32⟩
  | 35 => ⟨S64x128x128x1x1, .f32⟩
  | 36 => ⟨S64x128x128, .f32⟩
  | 37 => ⟨S64x128x14x14, .f32⟩
  | 38 => ⟨S64x128x14x14, .f32⟩
  | 39 => ⟨S64x128x14x14, .f32⟩
  | 40 => ⟨S64x128x128x1x1, .f32⟩
  | 41 => ⟨S64x128x128, .f32⟩
  | 42 => ⟨S64x128x14x14, .f32⟩
  | 43 => ⟨S64x128x14x14, .f32⟩
  | 44 => ⟨S64x128x14x14, .f32⟩
  | 45 => ⟨S64x128x128x1x1, .f32⟩
  | 46 => ⟨S64x128x128, .f32⟩
  | 47 => ⟨S64x128x14x14, .f32⟩
  | 48 => ⟨S64x128x14x14, .f32⟩
  | 49 => ⟨S64x128x14x14, .f32⟩
  | 50 => ⟨S64x128x128x1x1, .f32⟩
  | 51 => ⟨S64x128x128, .f32⟩
  | 52 => ⟨S64x128x14x14, .f32⟩
  | 53 => ⟨S64x128x14x14, .f32⟩
  | 54 => ⟨S64x128x14x14, .f32⟩
  | 55 => ⟨S64x128x128x1x1, .f32⟩
  | 56 => ⟨S64x128x128, .f32⟩
  | 57 => ⟨S64x128x14x14, .f32⟩
  | 58 => ⟨S64x128x14x14, .f32⟩
  | 59 => ⟨S64x128x14x14, .f32⟩
  | 60 => ⟨S64x128x128x1x1, .f32⟩
  | 61 => ⟨S64x128x128, .f32⟩
  | 62 => ⟨S64x128x14x14, .f32⟩
  | 63 => ⟨S64x128x14x14, .f32⟩
  | 64 => ⟨S64x128x14x14, .f32⟩
  | 65 => ⟨S64x128x1x1, .f32⟩
  | 66 => ⟨S64x128x14x14, .f32⟩
  | 67 => ⟨S64x128x14x14, .f32⟩
  | 68 => ⟨S64x128x14x14, .f32⟩
  | 69 => ⟨S_, .f32⟩
  | 70 => ⟨S64x128x14x14, .f32⟩
  | 71 => ⟨S64x128x14x14, .f32⟩
  | 72 => ⟨S_, .i32⟩
  | 73 => ⟨S64x1x1x1, .i32⟩
  | 74 => ⟨S64x1x1x1, .i1⟩
  | 75 => ⟨S_, .i32⟩
  | 76 => ⟨S_, .f32⟩
  | 77 => ⟨S64x128x16x16, .f32⟩
  | 78 => ⟨S64x128x128x1x1, .f32⟩
  | 79 => ⟨S64x128x128, .f32⟩
  | 80 => ⟨S64x128x14x14, .f32⟩
  | 81 => ⟨S64x128x14x14, .f32⟩
  | 82 => ⟨S64x128x128x1x1, .f32⟩
  | 83 => ⟨S64x128x128, .f32⟩
  | 84 => ⟨S64x128x14x14, .f32⟩
  | 85 => ⟨S64x128x14x14, .f32⟩
  | 86 => ⟨S64x128x14x14, .f32⟩
  | 87 => ⟨S64x128x128x1x1, .f32⟩
  | 88 => ⟨S64x128x128, .f32⟩
  | 89 => ⟨S64x128x14x14, .f32⟩
  | 90 => ⟨S64x128x14x14, .f32⟩
  | 91 => ⟨S64x128x14x14, .f32⟩
  | 92 => ⟨S64x128x128x1x1, .f32⟩
  | 93 => ⟨S64x128x128, .f32⟩
  | 94 => ⟨S64x128x14x14, .f32⟩
  | 95 => ⟨S64x128x14x14, .f32⟩
  | 96 => ⟨S64x128x14x14, .f32⟩
  | 97 => ⟨S64x128x128x1x1, .f32⟩
  | 98 => ⟨S64x128x128, .f32⟩
  | 99 => ⟨S64x128x14x14, .f32⟩
  | 100 => ⟨S64x128x14x14, .f32⟩
  | 101 => ⟨S64x128x14x14, .f32⟩
  | 102 => ⟨S64x128x128x1x1, .f32⟩
  | 103 => ⟨S64x128x128, .f32⟩
  | 104 => ⟨S64x128x14x14, .f32⟩
  | 105 => ⟨S64x128x14x14, .f32⟩
  | 106 => ⟨S64x128x14x14, .f32⟩
  | 107 => ⟨S64x128x128x1x1, .f32⟩
  | 108 => ⟨S64x128x128, .f32⟩
  | 109 => ⟨S64x128x14x14, .f32⟩
  | 110 => ⟨S64x128x14x14, .f32⟩
  | 111 => ⟨S64x128x14x14, .f32⟩
  | 112 => ⟨S64x128x128x1x1, .f32⟩
  | 113 => ⟨S64x128x128, .f32⟩
  | 114 => ⟨S64x128x14x14, .f32⟩
  | 115 => ⟨S64x128x14x14, .f32⟩
  | 116 => ⟨S64x128x14x14, .f32⟩
  | 117 => ⟨S64x128x128x1x1, .f32⟩
  | 118 => ⟨S64x128x128, .f32⟩
  | 119 => ⟨S64x128x14x14, .f32⟩
  | 120 => ⟨S64x128x14x14, .f32⟩
  | 121 => ⟨S64x128x14x14, .f32⟩
  | 122 => ⟨S64x128x1x1, .f32⟩
  | 123 => ⟨S64x128x14x14, .f32⟩
  | 124 => ⟨S64x128x14x14, .f32⟩
  | 125 => ⟨S_, .f32⟩
  | 126 => ⟨S64x128x14x14, .f32⟩
  | 127 => ⟨S64x128x14x14, .f32⟩
  | _ => ⟨S64x1024x14x14, .f32⟩

abbrev hbmTy0_3 (i : Nat) : BufTy := match i % 128 with
  | 0 => ⟨S_, .i32⟩
  | 1 => ⟨S_, .f32⟩
  | 2 => ⟨S64x128x16x16, .f32⟩
  | 3 => ⟨S64x128x128x1x1, .f32⟩
  | 4 => ⟨S64x128x128, .f32⟩
  | 5 => ⟨S64x128x14x14, .f32⟩
  | 6 => ⟨S64x128x14x14, .f32⟩
  | 7 => ⟨S64x128x128x1x1, .f32⟩
  | 8 => ⟨S64x128x128, .f32⟩
  | 9 => ⟨S64x128x14x14, .f32⟩
  | 10 => ⟨S64x128x14x14, .f32⟩
  | 11 => ⟨S64x128x14x14, .f32⟩
  | 12 => ⟨S64x128x128x1x1, .f32⟩
  | 13 => ⟨S64x128x128, .f32⟩
  | 14 => ⟨S64x128x14x14, .f32⟩
  | 15 => ⟨S64x128x14x14, .f32⟩
  | 16 => ⟨S64x128x14x14, .f32⟩
  | 17 => ⟨S64x128x128x1x1, .f32⟩
  | 18 => ⟨S64x128x128, .f32⟩
  | 19 => ⟨S64x128x14x14, .f32⟩
  | 20 => ⟨S64x128x14x14, .f32⟩
  | 21 => ⟨S64x128x14x14, .f32⟩
  | 22 => ⟨S64x128x128x1x1, .f32⟩
  | 23 => ⟨S64x128x128, .f32⟩
  | 24 => ⟨S64x128x14x14, .f32⟩
  | 25 => ⟨S64x128x14x14, .f32⟩
  | 26 => ⟨S64x128x14x14, .f32⟩
  | 27 => ⟨S64x128x128x1x1, .f32⟩
  | 28 => ⟨S64x128x128, .f32⟩
  | 29 => ⟨S64x128x14x14, .f32⟩
  | 30 => ⟨S64x128x14x14, .f32⟩
  | 31 => ⟨S64x128x14x14, .f32⟩
  | 32 => ⟨S64x128x128x1x1, .f32⟩
  | 33 => ⟨S64x128x128, .f32⟩
  | 34 => ⟨S64x128x14x14, .f32⟩
  | 35 => ⟨S64x128x14x14, .f32⟩
  | 36 => ⟨S64x128x14x14, .f32⟩
  | 37 => ⟨S64x128x128x1x1, .f32⟩
  | 38 => ⟨S64x128x128, .f32⟩
  | 39 => ⟨S64x128x14x14, .f32⟩
  | 40 => ⟨S64x128x14x14, .f32⟩
  | 41 => ⟨S64x128x14x14, .f32⟩
  | 42 => ⟨S64x128x128x1x1, .f32⟩
  | 43 => ⟨S64x128x128, .f32⟩
  | 44 => ⟨S64x128x14x14, .f32⟩
  | 45 => ⟨S64x128x14x14, .f32⟩
  | 46 => ⟨S64x128x14x14, .f32⟩
  | 47 => ⟨S64x128x1x1, .f32⟩
  | 48 => ⟨S64x128x14x14, .f32⟩
  | 49 => ⟨S64x128x14x14, .f32⟩
  | 50 => ⟨S64x128x14x14, .f32⟩
  | 51 => ⟨S_, .f32⟩
  | 52 => ⟨S64x128x14x14, .f32⟩
  | 53 => ⟨S64x128x14x14, .f32⟩
  | 54 => ⟨S64x256x14x14, .f32⟩
  | 55 => ⟨S64x128x256, .f32⟩
  | 56 => ⟨S64x128x14x14, .f32⟩
  | 57 => ⟨S64x128x1x1, .f32⟩
  | 58 => ⟨S64x128x14x14, .f32⟩
  | 59 => ⟨S64x128x14x14, .f32⟩
  | 60 => ⟨S_, .f32⟩
  | 61 => ⟨S64x128x14x14, .f32⟩
  | 62 => ⟨S64x128x14x14, .f32⟩
  | 63 => ⟨S_, .i32⟩
  | 64 => ⟨S_, .f32⟩
  | 65 => ⟨S64x128x16x16, .f32⟩
  | 66 => ⟨S64x128x128x1x1, .f32⟩
  | 67 => ⟨S64x128x128, .f32⟩
  | 68 => ⟨S64x128x14x14, .f32⟩
  | 69 => ⟨S64x128x14x14, .f32⟩
  | 70 => ⟨S64x128x128x1x1, .f32⟩
  | 71 => ⟨S64x128x128, .f32⟩
  | 72 => ⟨S64x128x14x14, .f32⟩
  | 73 => ⟨S64x128x14x14, .f32⟩
  | 74 => ⟨S64x128x14x14, .f32⟩
  | 75 => ⟨S64x128x128x1x1, .f32⟩
  | 76 => ⟨S64x128x128, .f32⟩
  | 77 => ⟨S64x128x14x14, .f32⟩
  | 78 => ⟨S64x128x14x14, .f32⟩
  | 79 => ⟨S64x128x14x14, .f32⟩
  | 80 => ⟨S64x128x128x1x1, .f32⟩
  | 81 => ⟨S64x128x128, .f32⟩
  | 82 => ⟨S64x128x14x14, .f32⟩
  | 83 => ⟨S64x128x14x14, .f32⟩
  | 84 => ⟨S64x128x14x14, .f32⟩
  | 85 => ⟨S64x128x128x1x1, .f32⟩
  | 86 => ⟨S64x128x128, .f32⟩
  | 87 => ⟨S64x128x14x14, .f32⟩
  | 88 => ⟨S64x128x14x14, .f32⟩
  | 89 => ⟨S64x128x14x14, .f32⟩
  | 90 => ⟨S64x128x128x1x1, .f32⟩
  | 91 => ⟨S64x128x128, .f32⟩
  | 92 => ⟨S64x128x14x14, .f32⟩
  | 93 => ⟨S64x128x14x14, .f32⟩
  | 94 => ⟨S64x128x14x14, .f32⟩
  | 95 => ⟨S64x128x128x1x1, .f32⟩
  | 96 => ⟨S64x128x128, .f32⟩
  | 97 => ⟨S64x128x14x14, .f32⟩
  | 98 => ⟨S64x128x14x14, .f32⟩
  | 99 => ⟨S64x128x14x14, .f32⟩
  | 100 => ⟨S64x128x128x1x1, .f32⟩
  | 101 => ⟨S64x128x128, .f32⟩
  | 102 => ⟨S64x128x14x14, .f32⟩
  | 103 => ⟨S64x128x14x14, .f32⟩
  | 104 => ⟨S64x128x14x14, .f32⟩
  | 105 => ⟨S64x128x128x1x1, .f32⟩
  | 106 => ⟨S64x128x128, .f32⟩
  | 107 => ⟨S64x128x14x14, .f32⟩
  | 108 => ⟨S64x128x14x14, .f32⟩
  | 109 => ⟨S64x128x14x14, .f32⟩
  | 110 => ⟨S64x128x1x1, .f32⟩
  | 111 => ⟨S64x128x14x14, .f32⟩
  | 112 => ⟨S64x128x14x14, .f32⟩
  | 113 => ⟨S_, .f32⟩
  | 114 => ⟨S64x128x14x14, .f32⟩
  | 115 => ⟨S64x128x14x14, .f32⟩
  | 116 => ⟨S_, .i32⟩
  | 117 => ⟨S_, .f32⟩
  | 118 => ⟨S64x128x16x16, .f32⟩
  | 119 => ⟨S64x128x128x1x1, .f32⟩
  | 120 => ⟨S64x128x128, .f32⟩
  | 121 => ⟨S64x128x14x14, .f32⟩
  | 122 => ⟨S64x128x14x14, .f32⟩
  | 123 => ⟨S64x128x128x1x1, .f32⟩
  | 124 => ⟨S64x128x128, .f32⟩
  | 125 => ⟨S64x128x14x14, .f32⟩
  | 126 => ⟨S64x128x14x14, .f32⟩
  | 127 => ⟨S64x128x14x14, .f32⟩
  | _ => ⟨S64x1024x14x14, .f32⟩

abbrev hbmTy0_4 (i : Nat) : BufTy := match i % 128 with
  | 0 => ⟨S64x128x128x1x1, .f32⟩
  | 1 => ⟨S64x128x128, .f32⟩
  | 2 => ⟨S64x128x14x14, .f32⟩
  | 3 => ⟨S64x128x14x14, .f32⟩
  | 4 => ⟨S64x128x14x14, .f32⟩
  | 5 => ⟨S64x128x128x1x1, .f32⟩
  | 6 => ⟨S64x128x128, .f32⟩
  | 7 => ⟨S64x128x14x14, .f32⟩
  | 8 => ⟨S64x128x14x14, .f32⟩
  | 9 => ⟨S64x128x14x14, .f32⟩
  | 10 => ⟨S64x128x128x1x1, .f32⟩
  | 11 => ⟨S64x128x128, .f32⟩
  | 12 => ⟨S64x128x14x14, .f32⟩
  | 13 => ⟨S64x128x14x14, .f32⟩
  | 14 => ⟨S64x128x14x14, .f32⟩
  | 15 => ⟨S64x128x128x1x1, .f32⟩
  | 16 => ⟨S64x128x128, .f32⟩
  | 17 => ⟨S64x128x14x14, .f32⟩
  | 18 => ⟨S64x128x14x14, .f32⟩
  | 19 => ⟨S64x128x14x14, .f32⟩
  | 20 => ⟨S64x128x128x1x1, .f32⟩
  | 21 => ⟨S64x128x128, .f32⟩
  | 22 => ⟨S64x128x14x14, .f32⟩
  | 23 => ⟨S64x128x14x14, .f32⟩
  | 24 => ⟨S64x128x14x14, .f32⟩
  | 25 => ⟨S64x128x128x1x1, .f32⟩
  | 26 => ⟨S64x128x128, .f32⟩
  | 27 => ⟨S64x128x14x14, .f32⟩
  | 28 => ⟨S64x128x14x14, .f32⟩
  | 29 => ⟨S64x128x14x14, .f32⟩
  | 30 => ⟨S64x128x128x1x1, .f32⟩
  | 31 => ⟨S64x128x128, .f32⟩
  | 32 => ⟨S64x128x14x14, .f32⟩
  | 33 => ⟨S64x128x14x14, .f32⟩
  | 34 => ⟨S64x128x14x14, .f32⟩
  | 35 => ⟨S64x128x1x1, .f32⟩
  | 36 => ⟨S64x128x14x14, .f32⟩
  | 37 => ⟨S64x128x14x14, .f32⟩
  | 38 => ⟨S64x128x14x14, .f32⟩
  | 39 => ⟨S_, .f32⟩
  | 40 => ⟨S64x128x14x14, .f32⟩
  | 41 => ⟨S64x128x14x14, .f32⟩
  | 42 => ⟨S64x128x14x14, .i1⟩
  | 43 => ⟨S64x128x14x14, .f32⟩
  | 44 => ⟨S64x128x14x14, .i1⟩
  | 45 => ⟨S64x128x14x14, .f32⟩
  | 46 => ⟨S_, .i32⟩
  | 47 => ⟨S64x1x1x1, .i32⟩
  | 48 => ⟨S64x1x1x1, .i1⟩
  | 49 => ⟨S64x128x14x14, .i1⟩
  | 50 => ⟨S64x128x14x14, .f32⟩
  | 51 => ⟨S_, .i32⟩
  | 52 => ⟨S64x1x1x1, .i32⟩
  | 53 => ⟨S64x1x1x1, .i1⟩
  | 54 => ⟨S64x128x14x14, .i1⟩
  | 55 => ⟨S64x128x14x14, .f32⟩
  | 56 => ⟨S_, .i32⟩
  | 57 => ⟨S_, .i32⟩
  | 58 => ⟨S512x128, .f32⟩
  | 59 => ⟨S64x14x14x512, .f32⟩
  | 60 => ⟨S64x512x14x14, .f32⟩
  | 61 => ⟨S1x512x1x1, .f32⟩
  | 62 => ⟨S64x512x14x14, .f32⟩
  | 63 => ⟨S64x512x14x14, .f32⟩
  | 64 => ⟨S_, .f32⟩
  | 65 => ⟨S64x512x14x14, .f32⟩
  | 66 => ⟨S64x512x14x14, .f32⟩
  | 67 => ⟨S_, .f32⟩
  | 68 => ⟨S_, .f32⟩
  | 69 => ⟨S64x512x7x7, .f32⟩
  | 70 => ⟨S64x25088, .f32⟩
  | 71 => ⟨S25088x1024, .f32⟩
  | 72 => ⟨S64x1024, .f32⟩
  | 73 => ⟨S1x1024, .f32⟩
  | 74 => ⟨S64x1024, .f32⟩
  | 75 => ⟨S64x1024, .f32⟩
  | 76 => ⟨S_, .f32⟩
  | 77 => ⟨S64x1024, .f32⟩
  | 78 => ⟨S64x1024, .f32⟩
  | 79 => ⟨S1024x32, .f32⟩
  | 80 => ⟨S64x32, .f32⟩
  | 81 => ⟨S1x32, .f32⟩
  | 82 => ⟨S64x32, .f32⟩
  | 83 => ⟨S64x32, .f32⟩
  | _ => ⟨S64x1024x14x14, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S64x1024x14x14, .f32⟩

abbrev bufTy : (tb : Table) → Fin (tcTables nBuf tb) → BufTy
  | .hbm, ⟨i, _⟩ => hbmTy i
  | _, _ => ⟨S64x1024x14x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_c : Ref sig .tc := ⟨.hbm, 22, rfl⟩
abbrev main_c_0 : Ref sig .tc := ⟨.hbm, 23, rfl⟩
abbrev main_c_1 : Ref sig .tc := ⟨.hbm, 24, rfl⟩
abbrev main_c_2 : Ref sig .tc := ⟨.hbm, 25, rfl⟩
abbrev main_call0_v0 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst : Ref sig .tc := ⟨.hbm, 84, rfl⟩
abbrev main_v57 : Ref sig .tc := ⟨.hbm, 85, rfl⟩
abbrev main_v58 : Ref sig .tc := ⟨.hbm, 86, rfl⟩
abbrev main_c_3 : Ref sig .tc := ⟨.hbm, 87, rfl⟩
abbrev main_call1_v0 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_cst_4 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_c_5 : Ref sig .tc := ⟨.hbm, 151, rfl⟩
abbrev main_v120_0 : Ref sig .tc := ⟨.hbm, 152, rfl⟩
abbrev main_v120_1 : Ref sig .tc := ⟨.hbm, 153, rfl⟩
abbrev main_v120_2 : Ref sig .tc := ⟨.hbm, 154, rfl⟩
abbrev main_v120_3 : Ref sig .tc := ⟨.hbm, 155, rfl⟩
abbrev main_v120_4 : Ref sig .tc := ⟨.hbm, 156, rfl⟩
abbrev main_v120_5 : Ref sig .tc := ⟨.hbm, 157, rfl⟩
abbrev main_v120_6 : Ref sig .tc := ⟨.hbm, 158, rfl⟩
abbrev main_v120_7 : Ref sig .tc := ⟨.hbm, 159, rfl⟩
abbrev main_v120_8 : Ref sig .tc := ⟨.hbm, 160, rfl⟩
abbrev main_v120_9 : Ref sig .tc := ⟨.hbm, 161, rfl⟩
abbrev main_v120_10 : Ref sig .tc := ⟨.hbm, 162, rfl⟩
abbrev main_v120_11 : Ref sig .tc := ⟨.hbm, 163, rfl⟩
abbrev main_v120_12 : Ref sig .tc := ⟨.hbm, 164, rfl⟩
abbrev main_v120_13 : Ref sig .tc := ⟨.hbm, 165, rfl⟩
abbrev main_v120_14 : Ref sig .tc := ⟨.hbm, 166, rfl⟩
abbrev main_v120_15 : Ref sig .tc := ⟨.hbm, 167, rfl⟩
abbrev main_v120_16 : Ref sig .tc := ⟨.hbm, 168, rfl⟩
abbrev main_v120_17 : Ref sig .tc := ⟨.hbm, 169, rfl⟩
abbrev main_while0c_c_26 : Ref sig .tc := ⟨.hbm, 170, rfl⟩
abbrev main_while0c_v144 : Ref sig .tc := ⟨.hbm, 171, rfl⟩
abbrev main_while0b_call2_c : Ref sig .tc := ⟨.hbm, 172, rfl⟩
abbrev main_while0b_call2_v0 : Ref sig .tc := ⟨.hbm, 173, rfl⟩
abbrev main_while0b_v144 : Ref sig .tc := ⟨.hbm, 174, rfl⟩
abbrev main_while0b_call3_v0 : Ref sig .tc := ⟨.hbm, 175, rfl⟩
abbrev main_while0b_v145 : Ref sig .tc := ⟨.hbm, 176, rfl⟩
abbrev main_while0b_v146 : Ref sig .tc := ⟨.hbm, 177, rfl⟩
abbrev main_while0b_call4_v0 : Ref sig .tc := ⟨.hbm, 178, rfl⟩
abbrev main_while0b_v147 : Ref sig .tc := ⟨.hbm, 179, rfl⟩
abbrev main_while0b_call5_v0 : Ref sig .tc := ⟨.hbm, 180, rfl⟩
abbrev main_while0b_v148 : Ref sig .tc := ⟨.hbm, 181, rfl⟩
abbrev main_while0b_call6_v0 : Ref sig .tc := ⟨.hbm, 182, rfl⟩
abbrev main_while0b_v149 : Ref sig .tc := ⟨.hbm, 183, rfl⟩
abbrev main_while0b_call7_v0 : Ref sig .tc := ⟨.hbm, 184, rfl⟩
abbrev main_while0b_v150 : Ref sig .tc := ⟨.hbm, 185, rfl⟩
abbrev main_while0b_call8_v0 : Ref sig .tc := ⟨.hbm, 186, rfl⟩
abbrev main_while0b_v151 : Ref sig .tc := ⟨.hbm, 187, rfl⟩
abbrev main_while0b_call9_v0 : Ref sig .tc := ⟨.hbm, 188, rfl⟩
abbrev main_while0b_v152 : Ref sig .tc := ⟨.hbm, 189, rfl⟩
abbrev main_while0b_call10_v0 : Ref sig .tc := ⟨.hbm, 190, rfl⟩
abbrev main_while0b_v153 : Ref sig .tc := ⟨.hbm, 191, rfl⟩
abbrev main_while0b_call11_v0 : Ref sig .tc := ⟨.hbm, 192, rfl⟩
abbrev main_while0b_v154 : Ref sig .tc := ⟨.hbm, 193, rfl⟩
abbrev main_while0b_call12_v0 : Ref sig .tc := ⟨.hbm, 194, rfl⟩
abbrev main_while0b_v155 : Ref sig .tc := ⟨.hbm, 195, rfl⟩
abbrev main_while0b_call13_v0 : Ref sig .tc := ⟨.hbm, 196, rfl⟩
abbrev main_while0b_v156 : Ref sig .tc := ⟨.hbm, 197, rfl⟩
abbrev main_while0b_call14_v0 : Ref sig .tc := ⟨.hbm, 198, rfl⟩
abbrev main_while0b_v157 : Ref sig .tc := ⟨.hbm, 199, rfl⟩
abbrev main_while0b_call15_v0 : Ref sig .tc := ⟨.hbm, 200, rfl⟩
abbrev main_while0b_v158 : Ref sig .tc := ⟨.hbm, 201, rfl⟩
abbrev main_while0b_call16_v0 : Ref sig .tc := ⟨.hbm, 202, rfl⟩
abbrev main_while0b_v159 : Ref sig .tc := ⟨.hbm, 203, rfl⟩
abbrev main_while0b_call17_v0 : Ref sig .tc := ⟨.hbm, 204, rfl⟩
abbrev main_while0b_v160 : Ref sig .tc := ⟨.hbm, 205, rfl⟩
abbrev main_while0b_call18_v0 : Ref sig .tc := ⟨.hbm, 206, rfl⟩
abbrev main_while0b_v161 : Ref sig .tc := ⟨.hbm, 207, rfl⟩
abbrev main_while0b_call19_v0 : Ref sig .tc := ⟨.hbm, 208, rfl⟩
abbrev main_while0b_v162 : Ref sig .tc := ⟨.hbm, 209, rfl⟩
abbrev main_while0b_call20_v0 : Ref sig .tc := ⟨.hbm, 210, rfl⟩
abbrev main_while0b_v163 : Ref sig .tc := ⟨.hbm, 211, rfl⟩
abbrev main_while0b_call21_v0 : Ref sig .tc := ⟨.hbm, 212, rfl⟩
abbrev main_while0b_v164 : Ref sig .tc := ⟨.hbm, 213, rfl⟩
abbrev main_while0b_call22_v0 : Ref sig .tc := ⟨.hbm, 214, rfl⟩
abbrev main_while0b_v165 : Ref sig .tc := ⟨.hbm, 215, rfl⟩
abbrev main_while0b_call23_v0 : Ref sig .tc := ⟨.hbm, 216, rfl⟩
abbrev main_while0b_v166 : Ref sig .tc := ⟨.hbm, 217, rfl⟩
abbrev main_while0b_c_26 : Ref sig .tc := ⟨.hbm, 218, rfl⟩
abbrev main_while0b_v167 : Ref sig .tc := ⟨.hbm, 219, rfl⟩
abbrev main_while0b_v168 : Ref sig .tc := ⟨.hbm, 220, rfl⟩
abbrev main_while0b_c_27 : Ref sig .tc := ⟨.hbm, 221, rfl⟩
abbrev main_while0b_call24_v0 : Ref sig .tc := ⟨.hbm, 222, rfl⟩
abbrev main_while0b_v169 : Ref sig .tc := ⟨.hbm, 223, rfl⟩
abbrev main_while0b_v170 : Ref sig .tc := ⟨.hbm, 224, rfl⟩
abbrev main_while0b_v171 : Ref sig .tc := ⟨.hbm, 225, rfl⟩
abbrev main_while0b_v172 : Ref sig .tc := ⟨.hbm, 226, rfl⟩
abbrev main_while0b_v173 : Ref sig .tc := ⟨.hbm, 227, rfl⟩
abbrev main_while0b_v174 : Ref sig .tc := ⟨.hbm, 228, rfl⟩
abbrev main_while0b_v175 : Ref sig .tc := ⟨.hbm, 229, rfl⟩
abbrev main_while0b_v176 : Ref sig .tc := ⟨.hbm, 230, rfl⟩
abbrev main_while0b_v177 : Ref sig .tc := ⟨.hbm, 231, rfl⟩
abbrev main_while0b_v178 : Ref sig .tc := ⟨.hbm, 232, rfl⟩
abbrev main_while0b_v179 : Ref sig .tc := ⟨.hbm, 233, rfl⟩
abbrev main_while0b_v180 : Ref sig .tc := ⟨.hbm, 234, rfl⟩
abbrev main_while0b_v181 : Ref sig .tc := ⟨.hbm, 235, rfl⟩
abbrev main_while0b_v182 : Ref sig .tc := ⟨.hbm, 236, rfl⟩
abbrev main_while0b_v183 : Ref sig .tc := ⟨.hbm, 237, rfl⟩
abbrev main_while0b_v184 : Ref sig .tc := ⟨.hbm, 238, rfl⟩
abbrev main_while0b_v185 : Ref sig .tc := ⟨.hbm, 239, rfl⟩
abbrev main_while0b_v186 : Ref sig .tc := ⟨.hbm, 240, rfl⟩
abbrev main_while0b_v187 : Ref sig .tc := ⟨.hbm, 241, rfl⟩
abbrev main_while0b_v188 : Ref sig .tc := ⟨.hbm, 242, rfl⟩
abbrev main_while0b_v189 : Ref sig .tc := ⟨.hbm, 243, rfl⟩
abbrev main_while0b_v190 : Ref sig .tc := ⟨.hbm, 244, rfl⟩
abbrev main_while0b_v191 : Ref sig .tc := ⟨.hbm, 245, rfl⟩
abbrev main_while0b_v192 : Ref sig .tc := ⟨.hbm, 246, rfl⟩
abbrev main_while0b_v193 : Ref sig .tc := ⟨.hbm, 247, rfl⟩
abbrev main_while0b_v194 : Ref sig .tc := ⟨.hbm, 248, rfl⟩
abbrev main_while0b_v195 : Ref sig .tc := ⟨.hbm, 249, rfl⟩
abbrev main_while0b_v196 : Ref sig .tc := ⟨.hbm, 250, rfl⟩
abbrev main_while0b_v197 : Ref sig .tc := ⟨.hbm, 251, rfl⟩
abbrev main_while0b_v198 : Ref sig .tc := ⟨.hbm, 252, rfl⟩
abbrev main_while0b_v199 : Ref sig .tc := ⟨.hbm, 253, rfl⟩
abbrev main_while0b_v200 : Ref sig .tc := ⟨.hbm, 254, rfl⟩
abbrev main_while0b_v201 : Ref sig .tc := ⟨.hbm, 255, rfl⟩
abbrev main_while0b_v202 : Ref sig .tc := ⟨.hbm, 256, rfl⟩
abbrev main_while0b_v203 : Ref sig .tc := ⟨.hbm, 257, rfl⟩
abbrev main_while0b_v204 : Ref sig .tc := ⟨.hbm, 258, rfl⟩
abbrev main_while0b_v205 : Ref sig .tc := ⟨.hbm, 259, rfl⟩
abbrev main_while0b_v206 : Ref sig .tc := ⟨.hbm, 260, rfl⟩
abbrev main_while0b_v207 : Ref sig .tc := ⟨.hbm, 261, rfl⟩
abbrev main_while0b_v208 : Ref sig .tc := ⟨.hbm, 262, rfl⟩
abbrev main_while0b_v209 : Ref sig .tc := ⟨.hbm, 263, rfl⟩
abbrev main_while0b_v210 : Ref sig .tc := ⟨.hbm, 264, rfl⟩
abbrev main_while0b_v211 : Ref sig .tc := ⟨.hbm, 265, rfl⟩
abbrev main_while0b_v212 : Ref sig .tc := ⟨.hbm, 266, rfl⟩
abbrev main_while0b_v213 : Ref sig .tc := ⟨.hbm, 267, rfl⟩
abbrev main_while0b_v214 : Ref sig .tc := ⟨.hbm, 268, rfl⟩
abbrev main_while0b_v215 : Ref sig .tc := ⟨.hbm, 269, rfl⟩
abbrev main_while0b_v216 : Ref sig .tc := ⟨.hbm, 270, rfl⟩
abbrev main_while0b_cst_28 : Ref sig .tc := ⟨.hbm, 271, rfl⟩
abbrev main_while0b_v217 : Ref sig .tc := ⟨.hbm, 272, rfl⟩
abbrev main_while0b_v218 : Ref sig .tc := ⟨.hbm, 273, rfl⟩
abbrev main_while0b_c_29 : Ref sig .tc := ⟨.hbm, 274, rfl⟩
abbrev main_while0b_call25_v0 : Ref sig .tc := ⟨.hbm, 275, rfl⟩
abbrev main_while0b_v219 : Ref sig .tc := ⟨.hbm, 276, rfl⟩
abbrev main_while0b_v220 : Ref sig .tc := ⟨.hbm, 277, rfl⟩
abbrev main_while0b_v221 : Ref sig .tc := ⟨.hbm, 278, rfl⟩
abbrev main_while0b_v222 : Ref sig .tc := ⟨.hbm, 279, rfl⟩
abbrev main_while0b_v223 : Ref sig .tc := ⟨.hbm, 280, rfl⟩
abbrev main_while0b_v224 : Ref sig .tc := ⟨.hbm, 281, rfl⟩
abbrev main_while0b_v225 : Ref sig .tc := ⟨.hbm, 282, rfl⟩
abbrev main_while0b_v226 : Ref sig .tc := ⟨.hbm, 283, rfl⟩
abbrev main_while0b_v227 : Ref sig .tc := ⟨.hbm, 284, rfl⟩
abbrev main_while0b_v228 : Ref sig .tc := ⟨.hbm, 285, rfl⟩
abbrev main_while0b_v229 : Ref sig .tc := ⟨.hbm, 286, rfl⟩
abbrev main_while0b_v230 : Ref sig .tc := ⟨.hbm, 287, rfl⟩
abbrev main_while0b_v231 : Ref sig .tc := ⟨.hbm, 288, rfl⟩
abbrev main_while0b_v232 : Ref sig .tc := ⟨.hbm, 289, rfl⟩
abbrev main_while0b_v233 : Ref sig .tc := ⟨.hbm, 290, rfl⟩
abbrev main_while0b_v234 : Ref sig .tc := ⟨.hbm, 291, rfl⟩
abbrev main_while0b_v235 : Ref sig .tc := ⟨.hbm, 292, rfl⟩
abbrev main_while0b_v236 : Ref sig .tc := ⟨.hbm, 293, rfl⟩
abbrev main_while0b_v237 : Ref sig .tc := ⟨.hbm, 294, rfl⟩
abbrev main_while0b_v238 : Ref sig .tc := ⟨.hbm, 295, rfl⟩
abbrev main_while0b_v239 : Ref sig .tc := ⟨.hbm, 296, rfl⟩
abbrev main_while0b_v240 : Ref sig .tc := ⟨.hbm, 297, rfl⟩
abbrev main_while0b_v241 : Ref sig .tc := ⟨.hbm, 298, rfl⟩
abbrev main_while0b_v242 : Ref sig .tc := ⟨.hbm, 299, rfl⟩
abbrev main_while0b_v243 : Ref sig .tc := ⟨.hbm, 300, rfl⟩
abbrev main_while0b_v244 : Ref sig .tc := ⟨.hbm, 301, rfl⟩
abbrev main_while0b_v245 : Ref sig .tc := ⟨.hbm, 302, rfl⟩
abbrev main_while0b_v246 : Ref sig .tc := ⟨.hbm, 303, rfl⟩
abbrev main_while0b_v247 : Ref sig .tc := ⟨.hbm, 304, rfl⟩
abbrev main_while0b_v248 : Ref sig .tc := ⟨.hbm, 305, rfl⟩
abbrev main_while0b_v249 : Ref sig .tc := ⟨.hbm, 306, rfl⟩
abbrev main_while0b_v250 : Ref sig .tc := ⟨.hbm, 307, rfl⟩
abbrev main_while0b_v251 : Ref sig .tc := ⟨.hbm, 308, rfl⟩
abbrev main_while0b_v252 : Ref sig .tc := ⟨.hbm, 309, rfl⟩
abbrev main_while0b_v253 : Ref sig .tc := ⟨.hbm, 310, rfl⟩
abbrev main_while0b_v254 : Ref sig .tc := ⟨.hbm, 311, rfl⟩
abbrev main_while0b_v255 : Ref sig .tc := ⟨.hbm, 312, rfl⟩
abbrev main_while0b_v256 : Ref sig .tc := ⟨.hbm, 313, rfl⟩
abbrev main_while0b_v257 : Ref sig .tc := ⟨.hbm, 314, rfl⟩
abbrev main_while0b_v258 : Ref sig .tc := ⟨.hbm, 315, rfl⟩
abbrev main_while0b_v259 : Ref sig .tc := ⟨.hbm, 316, rfl⟩
abbrev main_while0b_v260 : Ref sig .tc := ⟨.hbm, 317, rfl⟩
abbrev main_while0b_v261 : Ref sig .tc := ⟨.hbm, 318, rfl⟩
abbrev main_while0b_v262 : Ref sig .tc := ⟨.hbm, 319, rfl⟩
abbrev main_while0b_v263 : Ref sig .tc := ⟨.hbm, 320, rfl⟩
abbrev main_while0b_v264 : Ref sig .tc := ⟨.hbm, 321, rfl⟩
abbrev main_while0b_v265 : Ref sig .tc := ⟨.hbm, 322, rfl⟩
abbrev main_while0b_v266 : Ref sig .tc := ⟨.hbm, 323, rfl⟩
abbrev main_while0b_v267 : Ref sig .tc := ⟨.hbm, 324, rfl⟩
abbrev main_while0b_cst_30 : Ref sig .tc := ⟨.hbm, 325, rfl⟩
abbrev main_while0b_v268 : Ref sig .tc := ⟨.hbm, 326, rfl⟩
abbrev main_while0b_v269 : Ref sig .tc := ⟨.hbm, 327, rfl⟩
abbrev main_while0b_c_31 : Ref sig .tc := ⟨.hbm, 328, rfl⟩
abbrev main_while0b_v270 : Ref sig .tc := ⟨.hbm, 329, rfl⟩
abbrev main_while0b_v271 : Ref sig .tc := ⟨.hbm, 330, rfl⟩
abbrev main_while0b_c_32 : Ref sig .tc := ⟨.hbm, 331, rfl⟩
abbrev main_while0b_call26_v0 : Ref sig .tc := ⟨.hbm, 332, rfl⟩
abbrev main_while0b_v272 : Ref sig .tc := ⟨.hbm, 333, rfl⟩
abbrev main_while0b_v273 : Ref sig .tc := ⟨.hbm, 334, rfl⟩
abbrev main_while0b_v274 : Ref sig .tc := ⟨.hbm, 335, rfl⟩
abbrev main_while0b_v275 : Ref sig .tc := ⟨.hbm, 336, rfl⟩
abbrev main_while0b_v276 : Ref sig .tc := ⟨.hbm, 337, rfl⟩
abbrev main_while0b_v277 : Ref sig .tc := ⟨.hbm, 338, rfl⟩
abbrev main_while0b_v278 : Ref sig .tc := ⟨.hbm, 339, rfl⟩
abbrev main_while0b_v279 : Ref sig .tc := ⟨.hbm, 340, rfl⟩
abbrev main_while0b_v280 : Ref sig .tc := ⟨.hbm, 341, rfl⟩
abbrev main_while0b_v281 : Ref sig .tc := ⟨.hbm, 342, rfl⟩
abbrev main_while0b_v282 : Ref sig .tc := ⟨.hbm, 343, rfl⟩
abbrev main_while0b_v283 : Ref sig .tc := ⟨.hbm, 344, rfl⟩
abbrev main_while0b_v284 : Ref sig .tc := ⟨.hbm, 345, rfl⟩
abbrev main_while0b_v285 : Ref sig .tc := ⟨.hbm, 346, rfl⟩
abbrev main_while0b_v286 : Ref sig .tc := ⟨.hbm, 347, rfl⟩
abbrev main_while0b_v287 : Ref sig .tc := ⟨.hbm, 348, rfl⟩
abbrev main_while0b_v288 : Ref sig .tc := ⟨.hbm, 349, rfl⟩
abbrev main_while0b_v289 : Ref sig .tc := ⟨.hbm, 350, rfl⟩
abbrev main_while0b_v290 : Ref sig .tc := ⟨.hbm, 351, rfl⟩
abbrev main_while0b_v291 : Ref sig .tc := ⟨.hbm, 352, rfl⟩
abbrev main_while0b_v292 : Ref sig .tc := ⟨.hbm, 353, rfl⟩
abbrev main_while0b_v293 : Ref sig .tc := ⟨.hbm, 354, rfl⟩
abbrev main_while0b_v294 : Ref sig .tc := ⟨.hbm, 355, rfl⟩
abbrev main_while0b_v295 : Ref sig .tc := ⟨.hbm, 356, rfl⟩
abbrev main_while0b_v296 : Ref sig .tc := ⟨.hbm, 357, rfl⟩
abbrev main_while0b_v297 : Ref sig .tc := ⟨.hbm, 358, rfl⟩
abbrev main_while0b_v298 : Ref sig .tc := ⟨.hbm, 359, rfl⟩
abbrev main_while0b_v299 : Ref sig .tc := ⟨.hbm, 360, rfl⟩
abbrev main_while0b_v300 : Ref sig .tc := ⟨.hbm, 361, rfl⟩
abbrev main_while0b_v301 : Ref sig .tc := ⟨.hbm, 362, rfl⟩
abbrev main_while0b_v302 : Ref sig .tc := ⟨.hbm, 363, rfl⟩
abbrev main_while0b_v303 : Ref sig .tc := ⟨.hbm, 364, rfl⟩
abbrev main_while0b_v304 : Ref sig .tc := ⟨.hbm, 365, rfl⟩
abbrev main_while0b_v305 : Ref sig .tc := ⟨.hbm, 366, rfl⟩
abbrev main_while0b_v306 : Ref sig .tc := ⟨.hbm, 367, rfl⟩
abbrev main_while0b_v307 : Ref sig .tc := ⟨.hbm, 368, rfl⟩
abbrev main_while0b_v308 : Ref sig .tc := ⟨.hbm, 369, rfl⟩
abbrev main_while0b_v309 : Ref sig .tc := ⟨.hbm, 370, rfl⟩
abbrev main_while0b_v310 : Ref sig .tc := ⟨.hbm, 371, rfl⟩
abbrev main_while0b_v311 : Ref sig .tc := ⟨.hbm, 372, rfl⟩
abbrev main_while0b_v312 : Ref sig .tc := ⟨.hbm, 373, rfl⟩
abbrev main_while0b_v313 : Ref sig .tc := ⟨.hbm, 374, rfl⟩
abbrev main_while0b_v314 : Ref sig .tc := ⟨.hbm, 375, rfl⟩
abbrev main_while0b_v315 : Ref sig .tc := ⟨.hbm, 376, rfl⟩
abbrev main_while0b_v316 : Ref sig .tc := ⟨.hbm, 377, rfl⟩
abbrev main_while0b_v317 : Ref sig .tc := ⟨.hbm, 378, rfl⟩
abbrev main_while0b_v318 : Ref sig .tc := ⟨.hbm, 379, rfl⟩
abbrev main_while0b_v319 : Ref sig .tc := ⟨.hbm, 380, rfl⟩
abbrev main_while0b_cst_33 : Ref sig .tc := ⟨.hbm, 381, rfl⟩
abbrev main_while0b_v320 : Ref sig .tc := ⟨.hbm, 382, rfl⟩
abbrev main_while0b_v321 : Ref sig .tc := ⟨.hbm, 383, rfl⟩
abbrev main_while0b_c_34 : Ref sig .tc := ⟨.hbm, 384, rfl⟩
abbrev main_while0b_call27_v0 : Ref sig .tc := ⟨.hbm, 385, rfl⟩
abbrev main_while0b_v322 : Ref sig .tc := ⟨.hbm, 386, rfl⟩
abbrev main_while0b_v323 : Ref sig .tc := ⟨.hbm, 387, rfl⟩
abbrev main_while0b_v324 : Ref sig .tc := ⟨.hbm, 388, rfl⟩
abbrev main_while0b_v325 : Ref sig .tc := ⟨.hbm, 389, rfl⟩
abbrev main_while0b_v326 : Ref sig .tc := ⟨.hbm, 390, rfl⟩
abbrev main_while0b_v327 : Ref sig .tc := ⟨.hbm, 391, rfl⟩
abbrev main_while0b_v328 : Ref sig .tc := ⟨.hbm, 392, rfl⟩
abbrev main_while0b_v329 : Ref sig .tc := ⟨.hbm, 393, rfl⟩
abbrev main_while0b_v330 : Ref sig .tc := ⟨.hbm, 394, rfl⟩
abbrev main_while0b_v331 : Ref sig .tc := ⟨.hbm, 395, rfl⟩
abbrev main_while0b_v332 : Ref sig .tc := ⟨.hbm, 396, rfl⟩
abbrev main_while0b_v333 : Ref sig .tc := ⟨.hbm, 397, rfl⟩
abbrev main_while0b_v334 : Ref sig .tc := ⟨.hbm, 398, rfl⟩
abbrev main_while0b_v335 : Ref sig .tc := ⟨.hbm, 399, rfl⟩
abbrev main_while0b_v336 : Ref sig .tc := ⟨.hbm, 400, rfl⟩
abbrev main_while0b_v337 : Ref sig .tc := ⟨.hbm, 401, rfl⟩
abbrev main_while0b_v338 : Ref sig .tc := ⟨.hbm, 402, rfl⟩
abbrev main_while0b_v339 : Ref sig .tc := ⟨.hbm, 403, rfl⟩
abbrev main_while0b_v340 : Ref sig .tc := ⟨.hbm, 404, rfl⟩
abbrev main_while0b_v341 : Ref sig .tc := ⟨.hbm, 405, rfl⟩
abbrev main_while0b_v342 : Ref sig .tc := ⟨.hbm, 406, rfl⟩
abbrev main_while0b_v343 : Ref sig .tc := ⟨.hbm, 407, rfl⟩
abbrev main_while0b_v344 : Ref sig .tc := ⟨.hbm, 408, rfl⟩
abbrev main_while0b_v345 : Ref sig .tc := ⟨.hbm, 409, rfl⟩
abbrev main_while0b_v346 : Ref sig .tc := ⟨.hbm, 410, rfl⟩
abbrev main_while0b_v347 : Ref sig .tc := ⟨.hbm, 411, rfl⟩
abbrev main_while0b_v348 : Ref sig .tc := ⟨.hbm, 412, rfl⟩
abbrev main_while0b_v349 : Ref sig .tc := ⟨.hbm, 413, rfl⟩
abbrev main_while0b_v350 : Ref sig .tc := ⟨.hbm, 414, rfl⟩
abbrev main_while0b_v351 : Ref sig .tc := ⟨.hbm, 415, rfl⟩
abbrev main_while0b_v352 : Ref sig .tc := ⟨.hbm, 416, rfl⟩
abbrev main_while0b_v353 : Ref sig .tc := ⟨.hbm, 417, rfl⟩
abbrev main_while0b_v354 : Ref sig .tc := ⟨.hbm, 418, rfl⟩
abbrev main_while0b_v355 : Ref sig .tc := ⟨.hbm, 419, rfl⟩
abbrev main_while0b_v356 : Ref sig .tc := ⟨.hbm, 420, rfl⟩
abbrev main_while0b_v357 : Ref sig .tc := ⟨.hbm, 421, rfl⟩
abbrev main_while0b_v358 : Ref sig .tc := ⟨.hbm, 422, rfl⟩
abbrev main_while0b_v359 : Ref sig .tc := ⟨.hbm, 423, rfl⟩
abbrev main_while0b_v360 : Ref sig .tc := ⟨.hbm, 424, rfl⟩
abbrev main_while0b_v361 : Ref sig .tc := ⟨.hbm, 425, rfl⟩
abbrev main_while0b_v362 : Ref sig .tc := ⟨.hbm, 426, rfl⟩
abbrev main_while0b_v363 : Ref sig .tc := ⟨.hbm, 427, rfl⟩
abbrev main_while0b_v364 : Ref sig .tc := ⟨.hbm, 428, rfl⟩
abbrev main_while0b_v365 : Ref sig .tc := ⟨.hbm, 429, rfl⟩
abbrev main_while0b_v366 : Ref sig .tc := ⟨.hbm, 430, rfl⟩
abbrev main_while0b_v367 : Ref sig .tc := ⟨.hbm, 431, rfl⟩
abbrev main_while0b_v368 : Ref sig .tc := ⟨.hbm, 432, rfl⟩
abbrev main_while0b_v369 : Ref sig .tc := ⟨.hbm, 433, rfl⟩
abbrev main_while0b_v370 : Ref sig .tc := ⟨.hbm, 434, rfl⟩
abbrev main_while0b_cst_35 : Ref sig .tc := ⟨.hbm, 435, rfl⟩
abbrev main_while0b_v371 : Ref sig .tc := ⟨.hbm, 436, rfl⟩
abbrev main_while0b_v372 : Ref sig .tc := ⟨.hbm, 437, rfl⟩
abbrev main_while0b_v373 : Ref sig .tc := ⟨.hbm, 438, rfl⟩
abbrev main_while0b_v374 : Ref sig .tc := ⟨.hbm, 439, rfl⟩
abbrev main_while0b_v375 : Ref sig .tc := ⟨.hbm, 440, rfl⟩
abbrev main_while0b_v376 : Ref sig .tc := ⟨.hbm, 441, rfl⟩
abbrev main_while0b_v377 : Ref sig .tc := ⟨.hbm, 442, rfl⟩
abbrev main_while0b_v378 : Ref sig .tc := ⟨.hbm, 443, rfl⟩
abbrev main_while0b_cst_36 : Ref sig .tc := ⟨.hbm, 444, rfl⟩
abbrev main_while0b_v379 : Ref sig .tc := ⟨.hbm, 445, rfl⟩
abbrev main_while0b_v380 : Ref sig .tc := ⟨.hbm, 446, rfl⟩
abbrev main_while0b_c_37 : Ref sig .tc := ⟨.hbm, 447, rfl⟩
abbrev main_while0b_call28_v0 : Ref sig .tc := ⟨.hbm, 448, rfl⟩
abbrev main_while0b_v381 : Ref sig .tc := ⟨.hbm, 449, rfl⟩
abbrev main_while0b_v382 : Ref sig .tc := ⟨.hbm, 450, rfl⟩
abbrev main_while0b_v383 : Ref sig .tc := ⟨.hbm, 451, rfl⟩
abbrev main_while0b_v384 : Ref sig .tc := ⟨.hbm, 452, rfl⟩
abbrev main_while0b_v385 : Ref sig .tc := ⟨.hbm, 453, rfl⟩
abbrev main_while0b_v386 : Ref sig .tc := ⟨.hbm, 454, rfl⟩
abbrev main_while0b_v387 : Ref sig .tc := ⟨.hbm, 455, rfl⟩
abbrev main_while0b_v388 : Ref sig .tc := ⟨.hbm, 456, rfl⟩
abbrev main_while0b_v389 : Ref sig .tc := ⟨.hbm, 457, rfl⟩
abbrev main_while0b_v390 : Ref sig .tc := ⟨.hbm, 458, rfl⟩
abbrev main_while0b_v391 : Ref sig .tc := ⟨.hbm, 459, rfl⟩
abbrev main_while0b_v392 : Ref sig .tc := ⟨.hbm, 460, rfl⟩
abbrev main_while0b_v393 : Ref sig .tc := ⟨.hbm, 461, rfl⟩
abbrev main_while0b_v394 : Ref sig .tc := ⟨.hbm, 462, rfl⟩
abbrev main_while0b_v395 : Ref sig .tc := ⟨.hbm, 463, rfl⟩
abbrev main_while0b_v396 : Ref sig .tc := ⟨.hbm, 464, rfl⟩
abbrev main_while0b_v397 : Ref sig .tc := ⟨.hbm, 465, rfl⟩
abbrev main_while0b_v398 : Ref sig .tc := ⟨.hbm, 466, rfl⟩
abbrev main_while0b_v399 : Ref sig .tc := ⟨.hbm, 467, rfl⟩
abbrev main_while0b_v400 : Ref sig .tc := ⟨.hbm, 468, rfl⟩
abbrev main_while0b_v401 : Ref sig .tc := ⟨.hbm, 469, rfl⟩
abbrev main_while0b_v402 : Ref sig .tc := ⟨.hbm, 470, rfl⟩
abbrev main_while0b_v403 : Ref sig .tc := ⟨.hbm, 471, rfl⟩
abbrev main_while0b_v404 : Ref sig .tc := ⟨.hbm, 472, rfl⟩
abbrev main_while0b_v405 : Ref sig .tc := ⟨.hbm, 473, rfl⟩
abbrev main_while0b_v406 : Ref sig .tc := ⟨.hbm, 474, rfl⟩
abbrev main_while0b_v407 : Ref sig .tc := ⟨.hbm, 475, rfl⟩
abbrev main_while0b_v408 : Ref sig .tc := ⟨.hbm, 476, rfl⟩
abbrev main_while0b_v409 : Ref sig .tc := ⟨.hbm, 477, rfl⟩
abbrev main_while0b_v410 : Ref sig .tc := ⟨.hbm, 478, rfl⟩
abbrev main_while0b_v411 : Ref sig .tc := ⟨.hbm, 479, rfl⟩
abbrev main_while0b_v412 : Ref sig .tc := ⟨.hbm, 480, rfl⟩
abbrev main_while0b_v413 : Ref sig .tc := ⟨.hbm, 481, rfl⟩
abbrev main_while0b_v414 : Ref sig .tc := ⟨.hbm, 482, rfl⟩
abbrev main_while0b_v415 : Ref sig .tc := ⟨.hbm, 483, rfl⟩
abbrev main_while0b_v416 : Ref sig .tc := ⟨.hbm, 484, rfl⟩
abbrev main_while0b_v417 : Ref sig .tc := ⟨.hbm, 485, rfl⟩
abbrev main_while0b_v418 : Ref sig .tc := ⟨.hbm, 486, rfl⟩
abbrev main_while0b_v419 : Ref sig .tc := ⟨.hbm, 487, rfl⟩
abbrev main_while0b_v420 : Ref sig .tc := ⟨.hbm, 488, rfl⟩
abbrev main_while0b_v421 : Ref sig .tc := ⟨.hbm, 489, rfl⟩
abbrev main_while0b_v422 : Ref sig .tc := ⟨.hbm, 490, rfl⟩
abbrev main_while0b_v423 : Ref sig .tc := ⟨.hbm, 491, rfl⟩
abbrev main_while0b_v424 : Ref sig .tc := ⟨.hbm, 492, rfl⟩
abbrev main_while0b_v425 : Ref sig .tc := ⟨.hbm, 493, rfl⟩
abbrev main_while0b_v426 : Ref sig .tc := ⟨.hbm, 494, rfl⟩
abbrev main_while0b_v427 : Ref sig .tc := ⟨.hbm, 495, rfl⟩
abbrev main_while0b_v428 : Ref sig .tc := ⟨.hbm, 496, rfl⟩
abbrev main_while0b_cst_38 : Ref sig .tc := ⟨.hbm, 497, rfl⟩
abbrev main_while0b_v429 : Ref sig .tc := ⟨.hbm, 498, rfl⟩
abbrev main_while0b_v430 : Ref sig .tc := ⟨.hbm, 499, rfl⟩
abbrev main_while0b_c_39 : Ref sig .tc := ⟨.hbm, 500, rfl⟩
abbrev main_while0b_call29_v0 : Ref sig .tc := ⟨.hbm, 501, rfl⟩
abbrev main_while0b_v431 : Ref sig .tc := ⟨.hbm, 502, rfl⟩
abbrev main_while0b_v432 : Ref sig .tc := ⟨.hbm, 503, rfl⟩
abbrev main_while0b_v433 : Ref sig .tc := ⟨.hbm, 504, rfl⟩
abbrev main_while0b_v434 : Ref sig .tc := ⟨.hbm, 505, rfl⟩
abbrev main_while0b_v435 : Ref sig .tc := ⟨.hbm, 506, rfl⟩
abbrev main_while0b_v436 : Ref sig .tc := ⟨.hbm, 507, rfl⟩
abbrev main_while0b_v437 : Ref sig .tc := ⟨.hbm, 508, rfl⟩
abbrev main_while0b_v438 : Ref sig .tc := ⟨.hbm, 509, rfl⟩
abbrev main_while0b_v439 : Ref sig .tc := ⟨.hbm, 510, rfl⟩
abbrev main_while0b_v440 : Ref sig .tc := ⟨.hbm, 511, rfl⟩
abbrev main_while0b_v441 : Ref sig .tc := ⟨.hbm, 512, rfl⟩
abbrev main_while0b_v442 : Ref sig .tc := ⟨.hbm, 513, rfl⟩
abbrev main_while0b_v443 : Ref sig .tc := ⟨.hbm, 514, rfl⟩
abbrev main_while0b_v444 : Ref sig .tc := ⟨.hbm, 515, rfl⟩
abbrev main_while0b_v445 : Ref sig .tc := ⟨.hbm, 516, rfl⟩
abbrev main_while0b_v446 : Ref sig .tc := ⟨.hbm, 517, rfl⟩
abbrev main_while0b_v447 : Ref sig .tc := ⟨.hbm, 518, rfl⟩
abbrev main_while0b_v448 : Ref sig .tc := ⟨.hbm, 519, rfl⟩
abbrev main_while0b_v449 : Ref sig .tc := ⟨.hbm, 520, rfl⟩
abbrev main_while0b_v450 : Ref sig .tc := ⟨.hbm, 521, rfl⟩
abbrev main_while0b_v451 : Ref sig .tc := ⟨.hbm, 522, rfl⟩
abbrev main_while0b_v452 : Ref sig .tc := ⟨.hbm, 523, rfl⟩
abbrev main_while0b_v453 : Ref sig .tc := ⟨.hbm, 524, rfl⟩
abbrev main_while0b_v454 : Ref sig .tc := ⟨.hbm, 525, rfl⟩
abbrev main_while0b_v455 : Ref sig .tc := ⟨.hbm, 526, rfl⟩
abbrev main_while0b_v456 : Ref sig .tc := ⟨.hbm, 527, rfl⟩
abbrev main_while0b_v457 : Ref sig .tc := ⟨.hbm, 528, rfl⟩
abbrev main_while0b_v458 : Ref sig .tc := ⟨.hbm, 529, rfl⟩
abbrev main_while0b_v459 : Ref sig .tc := ⟨.hbm, 530, rfl⟩
abbrev main_while0b_v460 : Ref sig .tc := ⟨.hbm, 531, rfl⟩
abbrev main_while0b_v461 : Ref sig .tc := ⟨.hbm, 532, rfl⟩
abbrev main_while0b_v462 : Ref sig .tc := ⟨.hbm, 533, rfl⟩
abbrev main_while0b_v463 : Ref sig .tc := ⟨.hbm, 534, rfl⟩
abbrev main_while0b_v464 : Ref sig .tc := ⟨.hbm, 535, rfl⟩
abbrev main_while0b_v465 : Ref sig .tc := ⟨.hbm, 536, rfl⟩
abbrev main_while0b_v466 : Ref sig .tc := ⟨.hbm, 537, rfl⟩
abbrev main_while0b_v467 : Ref sig .tc := ⟨.hbm, 538, rfl⟩
abbrev main_while0b_v468 : Ref sig .tc := ⟨.hbm, 539, rfl⟩
abbrev main_while0b_v469 : Ref sig .tc := ⟨.hbm, 540, rfl⟩
abbrev main_while0b_v470 : Ref sig .tc := ⟨.hbm, 541, rfl⟩
abbrev main_while0b_v471 : Ref sig .tc := ⟨.hbm, 542, rfl⟩
abbrev main_while0b_v472 : Ref sig .tc := ⟨.hbm, 543, rfl⟩
abbrev main_while0b_v473 : Ref sig .tc := ⟨.hbm, 544, rfl⟩
abbrev main_while0b_v474 : Ref sig .tc := ⟨.hbm, 545, rfl⟩
abbrev main_while0b_v475 : Ref sig .tc := ⟨.hbm, 546, rfl⟩
abbrev main_while0b_v476 : Ref sig .tc := ⟨.hbm, 547, rfl⟩
abbrev main_while0b_v477 : Ref sig .tc := ⟨.hbm, 548, rfl⟩
abbrev main_while0b_v478 : Ref sig .tc := ⟨.hbm, 549, rfl⟩
abbrev main_while0b_v479 : Ref sig .tc := ⟨.hbm, 550, rfl⟩
abbrev main_while0b_cst_40 : Ref sig .tc := ⟨.hbm, 551, rfl⟩
abbrev main_while0b_v480 : Ref sig .tc := ⟨.hbm, 552, rfl⟩
abbrev main_while0b_v481 : Ref sig .tc := ⟨.hbm, 553, rfl⟩
abbrev main_while0b_call30_v0 : Ref sig .tc := ⟨.hbm, 554, rfl⟩
abbrev main_while0b_v482 : Ref sig .tc := ⟨.hbm, 555, rfl⟩
abbrev main_while0b_call31_v0 : Ref sig .tc := ⟨.hbm, 556, rfl⟩
abbrev main_while0b_v483 : Ref sig .tc := ⟨.hbm, 557, rfl⟩
abbrev main_while0b_c_41 : Ref sig .tc := ⟨.hbm, 558, rfl⟩
abbrev main_while0b_v484 : Ref sig .tc := ⟨.hbm, 559, rfl⟩
abbrev main_while0b_v485 : Ref sig .tc := ⟨.hbm, 560, rfl⟩
abbrev main_while0b_call32_v0 : Ref sig .tc := ⟨.hbm, 561, rfl⟩
abbrev main_while0b_v486 : Ref sig .tc := ⟨.hbm, 562, rfl⟩
abbrev main_while0b_c_42 : Ref sig .tc := ⟨.hbm, 563, rfl⟩
abbrev main_while0b_v487 : Ref sig .tc := ⟨.hbm, 564, rfl⟩
abbrev main_while0b_v488 : Ref sig .tc := ⟨.hbm, 565, rfl⟩
abbrev main_while0b_call33_v0 : Ref sig .tc := ⟨.hbm, 566, rfl⟩
abbrev main_while0b_v489 : Ref sig .tc := ⟨.hbm, 567, rfl⟩
abbrev main_while0b_c_43 : Ref sig .tc := ⟨.hbm, 568, rfl⟩
abbrev main_while0b_v490 : Ref sig .tc := ⟨.hbm, 569, rfl⟩
abbrev main_v121 : Ref sig .tc := ⟨.hbm, 570, rfl⟩
abbrev main_v122 : Ref sig .tc := ⟨.hbm, 571, rfl⟩
abbrev main_v123 : Ref sig .tc := ⟨.hbm, 572, rfl⟩
abbrev main_v124 : Ref sig .tc := ⟨.hbm, 573, rfl⟩
abbrev main_v125 : Ref sig .tc := ⟨.hbm, 574, rfl⟩
abbrev main_v126 : Ref sig .tc := ⟨.hbm, 575, rfl⟩
abbrev main_cst_6 : Ref sig .tc := ⟨.hbm, 576, rfl⟩
abbrev main_v127 : Ref sig .tc := ⟨.hbm, 577, rfl⟩
abbrev main_v128 : Ref sig .tc := ⟨.hbm, 578, rfl⟩
abbrev main_cst_7 : Ref sig .tc := ⟨.hbm, 579, rfl⟩
abbrev main_v129 : Ref sig .tc := ⟨.hbm, 580, rfl⟩
abbrev main_v130 : Ref sig .tc := ⟨.hbm, 581, rfl⟩
abbrev main_v131 : Ref sig .tc := ⟨.hbm, 582, rfl⟩
abbrev main_v132 : Ref sig .tc := ⟨.hbm, 583, rfl⟩
abbrev main_v133 : Ref sig .tc := ⟨.hbm, 584, rfl⟩
abbrev main_v134 : Ref sig .tc := ⟨.hbm, 585, rfl⟩
abbrev main_v135 : Ref sig .tc := ⟨.hbm, 586, rfl⟩
abbrev main_v136 : Ref sig .tc := ⟨.hbm, 587, rfl⟩
abbrev main_cst_8 : Ref sig .tc := ⟨.hbm, 588, rfl⟩
abbrev main_v137 : Ref sig .tc := ⟨.hbm, 589, rfl⟩
abbrev main_v138 : Ref sig .tc := ⟨.hbm, 590, rfl⟩
abbrev main_v139 : Ref sig .tc := ⟨.hbm, 591, rfl⟩
abbrev main_v140 : Ref sig .tc := ⟨.hbm, 592, rfl⟩
abbrev main_v141 : Ref sig .tc := ⟨.hbm, 593, rfl⟩
abbrev main_v142 : Ref sig .tc := ⟨.hbm, 594, rfl⟩
abbrev main_v143 : Ref sig .tc := ⟨.hbm, 595, rfl⟩

abbrev nD : Nat := 1
abbrev τ : Topo := Topo.v7x

variable {F : FTy → Type} [FloatOps F]

abbrev main_while0_count : Scf.Loop 32 := ⟨0#32, 25#32, 1#32⟩
-- ==== Proof.KernI.Fun.lean ====
module

public import proofs.«01_k».proof.Proof.Gen.KernelIdeal.Skeleton
public import Idealize.ShloMosaic.Lib.Pipeline.FrameBody

@[expose] public section

set_option maxRecDepth 16384

/-! # What the fused call computes, as functions of arrays

The fused call works on one image laid out in 256 lanes: lane `16 r + c` is row `r`, column `c` of the
image with a border of one.  A convolution over a 3 by 3 window is nine matrix products, each rolled by
the window position's lane shift. -/

noncomputable section

namespace Cert.KernelIdeal.Hand

open Cert.KernelIdeal Cert.KernelIdeal.Gen
open Idealize.ShloMosaic Idealize.ShloMosaic.TcCoe

variable {F : FTy → Type} [FloatOps F]

/-- Roll right by 17 lanes. -/
def rollR17 (y : FVec F S128x256 .f32) : FVec F S128x256 .f32 :=
  concatenate S128x256 1 [⟨S128x17, extractStridedSlice S128x17 ![0, 239] y slices_S128x256_o0_239_S128x17⟩, ⟨S128x239, extractStridedSlice S128x239 ![0, 0] y slices_S128x256_o0_0_S128x239⟩] concatenates_S128x17_S128x239_S128x256_d1
/-- Roll right by 16 lanes. -/
def rollR16 (y : FVec F S128x256 .f32) : FVec F S128x256 .f32 :=
  concatenate S128x256 1 [⟨S128x16, extractStridedSlice S128x16 ![0, 240] y slices_S128x256_o0_240_S128x16⟩, ⟨S128x240, extractStridedSlice S128x240 ![0, 0] y slices_S128x256_o0_0_S128x240⟩] concatenates_S128x16_S128x240_S128x256_d1
/-- Roll right by 15 lanes. -/
def rollR15 (y : FVec F S128x256 .f32) : FVec F S128x256 .f32 :=
  concatenate S128x256 1 [⟨S128x15, extractStridedSlice S128x15 ![0, 241] y slices_S128x256_o0_241_S128x15⟩, ⟨S128x241, extractStridedSlice S128x241 ![0, 0] y slices_S128x256_o0_0_S128x241⟩] concatenates_S128x15_S128x241_S128x256_d1
/-- Roll right by one lane. -/
def rollR1 (y : FVec F S128x256 .f32) : FVec F S128x256 .f32 :=
  concatenate S128x256 1 [⟨S128x1, extractStridedSlice S128x1 ![0, 255] y slices_S128x256_o0_255_S128x1⟩, ⟨S128x255, extractStridedSlice S128x255 ![0, 0] y slices_S128x256_o0_0_S128x255⟩] concatenates_S128x1_S128x255_S128x256_d1
/-- Roll left by one lane. -/
def rollL1 (y : FVec F S128x256 .f32) : FVec F S128x256 .f32 :=
  concatenate S128x256 1 [⟨S128x255, extractStridedSlice S128x255 ![0, 1] y slices_S128x256_o0_1_S128x255⟩, ⟨S128x1, extractStridedSlice S128x1 ![0, 0] y slices_S128x256_o0_0_S128x1⟩] concatenates_S128x255_S128x1_S128x256_d1
/-- Roll left by 15 lanes. -/
def rollL15 (y : FVec F S128x256 .f32) : FVec F S128x256 .f32 :=
  concatenate S128x256 1 [⟨S128x241, extractStridedSlice S128x241 ![0, 15] y slices_S128x256_o0_15_S128x241⟩, ⟨S128x15, extractStridedSlice S128x15 ![0, 0] y slices_S128x256_o0_0_S128x15⟩] concatenates_S128x241_S128x15_S128x256_d1
/-- Roll left by 16 lanes. -/
def rollL16 (y : FVec F S128x256 .f32) : FVec F S128x256 .f32 :=
  concatenate S128x256 1 [⟨S128x240, extractStridedSlice S128x240 ![0, 16] y slices_S128x256_o0_16_S128x240⟩, ⟨S128x16, extractStridedSlice S128x16 ![0, 0] y slices_S128x256_o0_0_S128x16⟩] concatenates_S128x240_S128x16_S128x256_d1
/-- Roll left by 17 lanes. -/
def rollL17 (y : FVec F S128x256 .f32) : FVec F S128x256 .f32 :=
  concatenate S128x256 1 [⟨S128x239, extractStridedSlice S128x239 ![0, 17] y slices_S128x256_o0_17_S128x239⟩, ⟨S128x17, extractStridedSlice S128x17 ![0, 0] y slices_S128x256_o0_0_S128x17⟩] concatenates_S128x239_S128x17_S128x256_d1

/-- The sum over the nine window positions of a product rolled by the position's shift, the centre first. -/
def nine (y : Fin 9 → FVec F S128x256 .f32) : FVec F S128x256 .f32 :=
  addf (addf (addf (addf (addf (addf (addf (addf (y 4) (rollR17 (y 0))) (rollR16 (y 1))) (rollR15 (y 2))) (rollR1 (y 3))) (rollL1 (y 5))) (rollL15 (y 6))) (rollL16 (y 7))) (rollL17 (y 8))

/-- One window position's product with the carried image. -/
def dotW (w : Vec F S1x1x128x128 .f32) (x : FVec F S128x256 .f32) : FVec F S128x256 .f32 :=
  matmul dot_S128x128_S128x256_S128x256_1_0_0_1_n_n none (shapeCast S128x128 w shapeCasts_S1x1x128x128_S128x128) x (constant S128x256 .f32 0x00000000#32)

/-- The window's sum on the carried image. -/
def conv (w : Fin 9 → Vec F S1x1x128x128 .f32) (x : FVec F S128x256 .f32) : FVec F S128x256 .f32 := nine fun k => dotW (w k) x

/-- One window position's product with the input features. -/
def dotX (w : Vec F S1x128x1024 .f32) (x : FVec F S1024x256 .f32) : FVec F S128x256 .f32 :=
  matmul dot_S128x1024_S1024x256_S128x256_1_0_0_1_n_n none (shapeCast S128x1024 w shapeCasts_S1x128x1024_S128x1024) x (constant S128x256 .f32 0x00000000#32)

/-- A product with a stacked 1 by 1 weight. -/
def dotP (w : Vec F S1x128x128 .f32) (x : FVec F S128x256 .f32) : FVec F S128x256 .f32 :=
  matmul dot_S128x128_S128x256_S128x256_1_0_0_1_n_n none (shapeCast S128x128 w shapeCasts_S1x128x128_S128x128) x (constant S128x256 .f32 0x00000000#32)

/-- The positive part. -/
def relu (x : FVec F S128x256 .f32) : FVec F S128x256 .f32 := maximumf x (broadcast S128x256 (Scalar.ofBits .f32 0x00000000#32))

/-- A stacked bias. -/
def bias (b : Vec F S1x128x256 .f32) : FVec F S128x256 .f32 := shapeCast S128x256 b shapeCasts_S1x128x256_S128x256

/-- A plain bias. -/
def bias0 (b : Vec F S128x256 .f32) : FVec F S128x256 .f32 := shapeCast S128x256 b shapeCasts_S128x256_S128x256

/-- A residual block: the border is put back to zero by the mask after each positive part. -/
def resid (mask x : FVec F S128x256 .f32) (w1 : Fin 9 → Vec F S1x1x128x128 .f32) (b1 : Vec F S1x128x256 .f32) (w2 : Fin 9 → Vec F S1x1x128x128 .f32) (b2 : Vec F S1x128x256 .f32) : FVec F S128x256 .f32 :=
  mulf (relu (addf x (addf (conv w2 (mulf (relu (addf (conv w1 x) (bias b1))) mask)) (bias b2)))) mask

/-- The two projections added, in front of a binary module's residual block. -/
def joined (mask a s : FVec F S128x256 .f32) (wa wb : Vec F S1x128x128 .f32) (b : Vec F S1x128x256 .f32) : FVec F S128x256 .f32 :=
  mulf (relu (addf (addf (dotP wa a) (dotP wb s)) (bias b))) mask

/-- The stem: two convolutions, each with its bias and positive part. -/
def stem (mask : FVec F S128x256 .f32) (x : Vec F S1x1024x256 .f32) (w1 : Fin 9 → Vec F S1x128x1024 .f32) (b1 : Vec F S128x256 .f32) (w2 : Fin 9 → Vec F S1x1x128x128 .f32) (b2 : Vec F S128x256 .f32) : FVec F S128x256 .f32 :=
  mulf (relu (addf (conv w2 (mulf (relu (addf (nine fun k => dotX (w1 k) (shapeCast S1024x256 x shapeCasts_S1x1024x256_S1024x256)) (bias0 b1))) mask)) (bias0 b2))) mask

/-- The mask of the image's inside. -/
abbrev inside : FVec F S128x256 .f32 := k0_pay22

/-! ## The blocks the loads read -/

/-- All of a carried image. -/
abbrev whole256 : Rect S128x256 := Rect.unit (s := S128x256) ![0, 0] S128x256.size inb_S128x256_S128x256_0_0

variable (x3 : Vec F S9x128x1024 .f32) (x4 : Vec F S1x9x128x128 .f32) (x5 x6 : Vec F S11x9x128x128 .f32) (x7 x8 : Vec F S6x128x128 .f32) (x9 x10 : Vec F S6x9x128x128 .f32)
  (x14 x15 : Vec F S11x128x256 .f32) (x16 x17 x18 : Vec F S6x128x256 .f32)

/-- The stem's first weight at each window position. -/
def ldStem1 : Fin 9 → Vec F S1x128x1024 .f32 :=
  ![View.ld x3 (Rect.unit (s := S9x128x1024) ![0, 0, 0] S1x128x1024.size inb_S9x128x1024_S1x128x1024_0_0_0),
    View.ld x3 (Rect.unit (s := S9x128x1024) ![1, 0, 0] S1x128x1024.size inb_S9x128x1024_S1x128x1024_1_0_0),
    View.ld x3 (Rect.unit (s := S9x128x1024) ![2, 0, 0] S1x128x1024.size inb_S9x128x1024_S1x128x1024_2_0_0),
    View.ld x3 (Rect.unit (s := S9x128x1024) ![3, 0, 0] S1x128x1024.size inb_S9x128x1024_S1x128x1024_3_0_0),
    View.ld x3 (Rect.unit (s := S9x128x1024) ![4, 0, 0] S1x128x1024.size inb_S9x128x1024_S1x128x1024_4_0_0),
    View.ld x3 (Rect.unit (s := S9x128x1024) ![5, 0, 0] S1x128x1024.size inb_S9x128x1024_S1x128x1024_5_0_0),
    View.ld x3 (Rect.unit (s := S9x128x1024) ![6, 0, 0] S1x128x1024.size inb_S9x128x1024_S1x128x1024_6_0_0),
    View.ld x3 (Rect.unit (s := S9x128x1024) ![7, 0, 0] S1x128x1024.size inb_S9x128x1024_S1x128x1024_7_0_0),
    View.ld x3 (Rect.unit (s := S9x128x1024) ![8, 0, 0] S1x128x1024.size inb_S9x128x1024_S1x128x1024_8_0_0)]

/-- The stem's second weight at each window position. -/
def ldStem2 : Fin 9 → Vec F S1x1x128x128 .f32 :=
  ![View.ld x4 (Rect.unit (s := S1x9x128x128) ![0, 0, 0, 0] S1x1x128x128.size inb_S1x9x128x128_S1x1x128x128_0_0_0_0),
    View.ld x4 (Rect.unit (s := S1x9x128x128) ![0, 1, 0, 0] S1x1x128x128.size inb_S1x9x128x128_S1x1x128x128_0_1_0_0),
    View.ld x4 (Rect.unit (s := S1x9x128x128) ![0, 2, 0, 0] S1x1x128x128.size inb_S1x9x128x128_S1x1x128x128_0_2_0_0),
    View.ld x4 (Rect.unit (s := S1x9x128x128) ![0, 3, 0, 0] S1x1x128x128.size inb_S1x9x128x128_S1x1x128x128_0_3_0_0),
    View.ld x4 (Rect.unit (s := S1x9x128x128) ![0, 4, 0, 0] S1x1x128x128.size inb_S1x9x128x128_S1x1x128x128_0_4_0_0),
    View.ld x4 (Rect.unit (s := S1x9x128x128) ![0, 5, 0, 0] S1x1x128x128.size inb_S1x9x128x128_S1x1x128x128_0_5_0_0),
    View.ld x4 (Rect.unit (s := S1x9x128x128) ![0, 6, 0, 0] S1x1x128x128.size inb_S1x9x128x128_S1x1x128x128_0_6_0_0),
    View.ld x4 (Rect.unit (s := S1x9x128x128) ![0, 7, 0, 0] S1x1x128x128.size inb_S1x9x128x128_S1x1x128x128_0_7_0_0),
    View.ld x4 (Rect.unit (s := S1x9x128x128) ![0, 8, 0, 0] S1x1x128x128.size inb_S1x9x128x128_S1x1x128x128_0_8_0_0)]

section Word

variable (w : BitVec 32) (hw : k0_chk1 w) (h1 : k0_cond1 w = 1#1)

/-- A binary module's weight at each window position, the module read off the word. -/
def ldBin (x : Vec F S6x9x128x128 .f32) (h2 : k0_cond2 w = 1#1) : Fin 9 → Vec F S1x1x128x128 .f32 :=
  ![View.ld x (Rect.unit (s := S6x9x128x128) (k0_off5 w) S1x1x128x128.size (k0_off5_inb w hw h1 h2)),
    View.ld x (Rect.unit (s := S6x9x128x128) (k0_off6 w) S1x1x128x128.size (k0_off6_inb w hw h1 h2)),
    View.ld x (Rect.unit (s := S6x9x128x128) (k0_off7 w) S1x1x128x128.size (k0_off7_inb w hw h1 h2)),
    View.ld x (Rect.unit (s := S6x9x128x128) (k0_off8 w) S1x1x128x128.size (k0_off8_inb w hw h1 h2)),
    View.ld x (Rect.unit (s := S6x9x128x128) (k0_off4 w) S1x1x128x128.size (k0_off4_inb w hw h1 h2)),
    View.ld x (Rect.unit (s := S6x9x128x128) (k0_off9 w) S1x1x128x128.size (k0_off9_inb w hw h1 h2)),
    View.ld x (Rect.unit (s := S6x9x128x128) (k0_off10 w) S1x1x128x128.size (k0_off10_inb w hw h1 h2)),
    View.ld x (Rect.unit (s := S6x9x128x128) (k0_off11 w) S1x1x128x128.size (k0_off11_inb w hw h1 h2)),
    View.ld x (Rect.unit (s := S6x9x128x128) (k0_off12 w) S1x1x128x128.size (k0_off12_inb w hw h1 h2))]

/-- A binary module's 1 by 1 weight. -/
def ldBinP (x : Vec F S6x128x128 .f32) (h2 : k0_cond2 w = 1#1) : Vec F S1x128x128 .f32 :=
  View.ld x (Rect.unit (s := S6x128x128) (k0_off2 w) S1x128x128.size (k0_off2_inb w hw h1 h2))

/-- A binary module's bias. -/
def ldBinB (x : Vec F S6x128x256 .f32) (h2 : k0_cond2 w = 1#1) : Vec F S1x128x256 .f32 :=
  View.ld x (Rect.unit (s := S6x128x256) (k0_off3 w) S1x128x256.size (k0_off3_inb w hw h1 h2))

/-- A unary module's weight at each window position. -/
def ldUn (x : Vec F S11x9x128x128 .f32) (h2 : ¬k0_cond2 w = 1#1) : Fin 9 → Vec F S1x1x128x128 .f32 :=
  ![View.ld x (Rect.unit (s := S11x9x128x128) (k0_off14 w) S1x1x128x128.size (k0_off14_inb w hw h1 h2)),
    View.ld x (Rect.unit (s := S11x9x128x128) (k0_off15 w) S1x1x128x128.size (k0_off15_inb w hw h1 h2)),
    View.ld x (Rect.unit (s := S11x9x128x128) (k0_off16 w) S1x1x128x128.size (k0_off16_inb w hw h1 h2)),
    View.ld x (Rect.unit (s := S11x9x128x128) (k0_off17 w) S1x1x128x128.size (k0_off17_inb w hw h1 h2)),
    View.ld x (Rect.unit (s := S11x9x128x128) (k0_off13 w) S1x1x128x128.size (k0_off13_inb w hw h1 h2)),
    View.ld x (Rect.unit (s := S11x9x128x128) (k0_off18 w) S1x1x128x128.size (k0_off18_inb w hw h1 h2)),
    View.ld x (Rect.unit (s := S11x9x128x128) (k0_off19 w) S1x1x128x128.size (k0_off19_inb w hw h1 h2)),
    View.ld x (Rect.unit (s := S11x9x128x128) (k0_off20 w) S1x1x128x128.size (k0_off20_inb w hw h1 h2)),
    View.ld x (Rect.unit (s := S11x9x128x128) (k0_off21 w) S1x1x128x128.size (k0_off21_inb w hw h1 h2))]

/-- A unary module's bias. -/
def ldUnB (x : Vec F S11x128x256 .f32) (h2 : ¬k0_cond2 w = 1#1) : Vec F S1x128x256 .f32 :=
  View.ld x (Rect.unit (s := S11x128x256) (k0_off22 w) S1x128x256.size (k0_off22_inb w hw h1 h2))

/-- Whether the word names a scene module. -/
def isScene : BitVec 1 := Scalar.cmpi .eq (Scalar.andi (Scalar.shrsi w 5#32) 1#32) 1#32

/-- One step of the program: from the current output and the saved one. -/
def stepV (feat : FVec F S128x256 .f32) (a : FVec F S128x256 .f32 × FVec F S128x256 .f32) : FVec F S128x256 .f32 × FVec F S128x256 .f32 :=
  if h1 : k0_cond1 w = 1#1 then
    if h2 : k0_cond2 w = 1#1 then
      (resid inside (joined inside a.1 a.2 (ldBinP w hw h1 x7 h2) (ldBinP w hw h1 x8 h2) (ldBinB w hw h1 x16 h2))
        (ldBin w hw h1 x9 h2) (ldBinB w hw h1 x17 h2) (ldBin w hw h1 x10 h2) (ldBinB w hw h1 x18 h2), a.2)
    else
      (resid inside (Scalar.select (isScene w) feat a.1) (ldUn w hw h1 x5 h2) (ldUnB w hw h1 x14 h2) (ldUn w hw h1 x6 h2) (ldUnB w hw h1 x15 h2),
        Scalar.select (isScene w) a.1 a.2)
  else a

end Word

/-- The word of image `i` at step `k`. -/
def word (x1 : Vec F S64x25 .i32) (i : grid0.Coords) (k : Fin k0_t1_loop.trips) : BitVec 32 :=
  View.ld x1 (Rect.unit (s := S64x25) (k0_off1 i k) S1x1.size (k0_off1_inb i k)) (Shape.Idx.first (numel1_S1x1.symm ▸ Nat.one_pos))

/-- The output and the saved value after `k` steps, from the values `a` before the first. -/
def runV (x1 : Vec F S64x25 .i32) (i : grid0.Coords) (hx1 : ∀ k, k0_chk1 (word x1 i k)) (feat : FVec F S128x256 .f32) (a : FVec F S128x256 .f32 × FVec F S128x256 .f32) : ℕ → FVec F S128x256 .f32 × FVec F S128x256 .f32
  | 0 => a
  | k + 1 => if h : k < k0_t1_loop.trips then stepV x5 x6 x7 x8 x9 x10 x14 x15 x16 x17 x18 (word x1 i ⟨k, h⟩) (hx1 ⟨k, h⟩) feat (runV x1 i hx1 feat a k) else runV x1 i hx1 feat a k

/-- The classifier's block: a 1 by 1 convolution, its positive part, and the maximum over each lane's two by two window. -/
abbrev cls (a : FVec F S128x256 .f32) (w : Vec F S512x128 .f32) (b : Vec F S512x256 .f32) : FVec F S1x512x256 .f32 := k0_pay5 a w b

/-- The stem of one image, from the blocks the stem's loads read. -/
def stemV (x2 : Vec F S1x1024x256 .f32) (x12 x13 : Vec F S128x256 .f32) : FVec F S128x256 .f32 := stem inside x2 (ldStem1 x3) x12 (ldStem2 x4) x13

/-- What the fused call leaves for one image. -/
def fusedV (x1 : Vec F S64x25 .i32) (i : grid0.Coords) (hx1 : ∀ k, k0_chk1 (word x1 i k)) (x2 : Vec F S1x1024x256 .f32) (x11 : Vec F S512x128 .f32)
    (x12 x13 : Vec F S128x256 .f32) (x19 : Vec F S512x256 .f32) : FVec F S1x512x256 .f32 :=
  cls (runV x5 x6 x7 x8 x9 x10 x14 x15 x16 x17 x18 x1 i hx1 (stemV x3 x4 x2 x12 x13) (stemV x3 x4 x2 x12 x13, stemV x3 x4 x2 x12 x13) k0_t1_loop.trips).1 x11 x19

end Cert.KernelIdeal.Hand

end
-- ==== Proof.KernI.Pay.lean ====
module

public import proofs.«01_k».proof.Proof.KernI.Fun

@[expose] public section

set_option maxRecDepth 16384

/-! # The skeleton's payloads as the block functions -/

noncomputable section

namespace Cert.KernelIdeal.Hand

open Cert.KernelIdeal Cert.KernelIdeal.Gen
open Idealize.ShloMosaic Idealize.ShloMosaic.TcCoe

variable {F : FTy → Type} [FloatOps F]

variable (m a s x y acc d : FVec F S128x256 .f32) (w0 w1 w2 w3 w4 w5 w6 w7 w8 u0 u1 u2 u3 u4 u5 u6 u7 u8 : Vec F S1x1x128x128 .f32)
  (wa wb : Vec F S1x128x128 .f32) (b b1 b2 : Vec F S1x128x256 .f32)

/-- The centre and the first two positions. -/
def three (w4 w0 w1 : Vec F S1x1x128x128 .f32) (x : FVec F S128x256 .f32) : FVec F S128x256 .f32 := addf (addf (dotW w4 x) (rollR17 (dotW w0 x))) (rollR16 (dotW w1 x))
/-- The first four positions. -/
def four (w4 w0 w1 w2 : Vec F S1x1x128x128 .f32) (x : FVec F S128x256 .f32) : FVec F S128x256 .f32 := addf (three w4 w0 w1 x) (rollR15 (dotW w2 x))

theorem pay6_eq : k0_pay6 m a s wa wb b = joined m a s wa wb b := rfl
theorem pay7_eq : k0_pay7 m a s wa wb b w4 w0 w1 = three w4 w0 w1 (joined m a s wa wb b) := rfl
theorem pay8_eq : k0_pay8 x acc w2 w3 w5 w6 w7
    = addf (addf (addf (addf (addf acc (rollR15 (dotW w2 x))) (rollR1 (dotW w3 x))) (rollL1 (dotW w5 x))) (rollL15 (dotW w6 x))) (rollL16 (dotW w7 x)) := rfl
theorem pay9_eq : k0_pay9 m x acc w8 b = mulf (relu (addf (addf acc (rollL17 (dotW w8 x))) (bias b))) m := rfl
theorem pay10_eq : k0_pay10 m x acc w8 b u4 u0 u1 = three u4 u0 u1 (k0_pay9 m x acc w8 b) := rfl
theorem pay11_eq : k0_pay11 m x acc w8 b u2 = dotW u2 (k0_pay9 m x acc w8 b) := rfl
theorem pay12_eq : k0_pay12 m x acc w8 b u2 = extractStridedSlice S128x15 ![0, 241] (k0_pay11 m x acc w8 b u2) slices_S128x256_o0_241_S128x15 := rfl
theorem pay13_eq : k0_pay13 y acc d (extractStridedSlice S128x15 ![0, 241] d slices_S128x256_o0_241_S128x15) u3 u5 u6 u7
    = addf (addf (addf (addf (addf acc (rollR15 d)) (rollR1 (dotW u3 y))) (rollL1 (dotW u5 y))) (rollL15 (dotW u6 y))) (rollL16 (dotW u7 y)) := rfl
theorem pay14_eq : k0_pay14 y u8 = dotW u8 y := rfl
theorem pay15_eq : k0_pay15 y u8 = extractStridedSlice S128x239 ![0, 17] (k0_pay14 y u8) slices_S128x256_o0_17_S128x239 := rfl
theorem pay3_eq : k0_pay3 m x acc d (extractStridedSlice S128x239 ![0, 17] d slices_S128x256_o0_17_S128x239) b
    = mulf (relu (addf x (addf (addf acc (rollL17 d)) (bias b)))) m := rfl

/-- The binary arm's yield is the residual block of the joined projections. -/
theorem binary_eq :
    k0_pay3 m (k0_pay6 m a s wa wb b)
      (k0_pay13 (k0_pay9 m (k0_pay6 m a s wa wb b) (k0_pay8 (k0_pay6 m a s wa wb b) (k0_pay7 m a s wa wb b w4 w0 w1) w2 w3 w5 w6 w7) w8 b1)
        (k0_pay10 m (k0_pay6 m a s wa wb b) (k0_pay8 (k0_pay6 m a s wa wb b) (k0_pay7 m a s wa wb b w4 w0 w1) w2 w3 w5 w6 w7) w8 b1 u4 u0 u1)
        (k0_pay11 m (k0_pay6 m a s wa wb b) (k0_pay8 (k0_pay6 m a s wa wb b) (k0_pay7 m a s wa wb b w4 w0 w1) w2 w3 w5 w6 w7) w8 b1 u2)
        (k0_pay12 m (k0_pay6 m a s wa wb b) (k0_pay8 (k0_pay6 m a s wa wb b) (k0_pay7 m a s wa wb b w4 w0 w1) w2 w3 w5 w6 w7) w8 b1 u2) u3 u5 u6 u7)
      (k0_pay14 (k0_pay9 m (k0_pay6 m a s wa wb b) (k0_pay8 (k0_pay6 m a s wa wb b) (k0_pay7 m a s wa wb b w4 w0 w1) w2 w3 w5 w6 w7) w8 b1) u8)
      (k0_pay15 (k0_pay9 m (k0_pay6 m a s wa wb b) (k0_pay8 (k0_pay6 m a s wa wb b) (k0_pay7 m a s wa wb b w4 w0 w1) w2 w3 w5 w6 w7) w8 b1) u8) b2
    = resid m (joined m a s wa wb b) ![w0, w1, w2, w3, w4, w5, w6, w7, w8] b1 ![u0, u1, u2, u3, u4, u5, u6, u7, u8] b2 := by
  rw [pay15_eq, pay3_eq, pay14_eq, pay12_eq, pay13_eq, pay11_eq, pay10_eq, pay9_eq, pay8_eq, pay7_eq, pay6_eq]
  generalize joined m a s wa wb b = x
  have e : mulf (relu (addf (addf (addf (addf (addf (addf (addf (three w4 w0 w1 x) (rollR15 (dotW w2 x))) (rollR1 (dotW w3 x))) (rollL1 (dotW w5 x))) (rollL15 (dotW w6 x))) (rollL16 (dotW w7 x))) (rollL17 (dotW w8 x))) (bias b1))) m
      = mulf (relu (addf (conv ![w0, w1, w2, w3, w4, w5, w6, w7, w8] x) (bias b1))) m := rfl
  unfold resid
  rw [e]
  generalize mulf (relu (addf (conv ![w0, w1, w2, w3, w4, w5, w6, w7, w8] x) (bias b1))) m = y
  rfl

theorem pay18_eq (g : BitVec 1) (f : Vec F S128x256 .f32) : k0_pay18 a g f w4 w0 w1 w2 = four w4 w0 w1 w2 (Scalar.select g f a) := rfl
theorem pay19_eq (g : BitVec 1) (f : Vec F S128x256 .f32) : k0_pay19 a g f w3 = rollR1 (dotW w3 (Scalar.select g f a)) := rfl
theorem pay16_eq (g : BitVec 1) (f : Vec F S128x256 .f32) : k0_pay16 a g f = Scalar.select g f a := rfl
theorem pay17_eq (g : BitVec 1) : k0_pay17 a s g = Scalar.select g a s := rfl
theorem pay20_eq : k0_pay20 m x acc d w5 w6 w7 w8 b
    = mulf (relu (addf (addf (addf (addf (addf (addf acc d) (rollL1 (dotW w5 x))) (rollL15 (dotW w6 x))) (rollL16 (dotW w7 x))) (rollL17 (dotW w8 x))) (bias b))) m := rfl
theorem pay21_eq : k0_pay21 y u4 u0 u1 u2 u3 = addf (four u4 u0 u1 u2 y) (rollR1 (dotW u3 y)) := rfl
theorem pay4_eq : k0_pay4 m x y acc u5 u6 u7 u8 b
    = mulf (relu (addf x (addf (addf (addf (addf (addf acc (rollL1 (dotW u5 y))) (rollL15 (dotW u6 y))) (rollL16 (dotW u7 y))) (rollL17 (dotW u8 y))) (bias b)))) m := rfl

/-- The unary arm's yield is the residual block of the selected input. -/
theorem unary_eq (g : BitVec 1) (f : Vec F S128x256 .f32) :
    k0_pay4 m (k0_pay16 a g f) (k0_pay20 m (k0_pay16 a g f) (k0_pay18 a g f w4 w0 w1 w2) (k0_pay19 a g f w3) w5 w6 w7 w8 b1)
      (k0_pay21 (k0_pay20 m (k0_pay16 a g f) (k0_pay18 a g f w4 w0 w1 w2) (k0_pay19 a g f w3) w5 w6 w7 w8 b1) u4 u0 u1 u2 u3) u5 u6 u7 u8 b2
    = resid m (Scalar.select g f a) ![w0, w1, w2, w3, w4, w5, w6, w7, w8] b1 ![u0, u1, u2, u3, u4, u5, u6, u7, u8] b2 := by
  rw [pay4_eq, pay21_eq, pay20_eq, pay19_eq, pay18_eq, pay16_eq]
  generalize (Scalar.select g f a : FVec F S128x256 .f32) = x
  have e : mulf (relu (addf (addf (addf (addf (addf (addf (four w4 w0 w1 w2 x) (rollR1 (dotW w3 x))) (rollL1 (dotW w5 x))) (rollL15 (dotW w6 x))) (rollL16 (dotW w7 x))) (rollL17 (dotW w8 x))) (bias b1))) m
      = mulf (relu (addf (conv ![w0, w1, w2, w3, w4, w5, w6, w7, w8] x) (bias b1))) m := rfl
  unfold resid
  rw [e]
  generalize mulf (relu (addf (conv ![w0, w1, w2, w3, w4, w5, w6, w7, w8] x) (bias b1))) m = y
  rfl

variable (xx : Vec F S1x1024x256 .f32) (z : FVec F S1024x256 .f32) (v0 v1 v2 v3 v4 v5 v6 v7 v8 : Vec F S1x128x1024 .f32) (c1 c2 : Vec F S128x256 .f32)

theorem pay23_eq : k0_pay23 xx = shapeCast S1024x256 xx shapeCasts_S1x1024x256_S1024x256 := rfl
theorem pay24_eq : k0_pay24 xx v4 v0 = addf (dotX v4 (k0_pay23 xx)) (rollR17 (dotX v0 (k0_pay23 xx))) := rfl
theorem pay28_eq : k0_pay28 z acc (k0_pay26 xx v1) (k0_pay27 xx v1) v2 v3 v5 v6 v7
    = addf (addf (addf (addf (addf (addf acc (rollR16 (dotX v1 (k0_pay23 xx)))) (rollR15 (dotX v2 z))) (rollR1 (dotX v3 z))) (rollL1 (dotX v5 z))) (rollL15 (dotX v6 z))) (rollL16 (dotX v7 z)) := rfl
theorem pay29_eq : k0_pay29 m z acc v8 c1 = mulf (relu (addf (addf acc (rollL17 (dotX v8 z))) (bias0 c1))) m := rfl
theorem pay30_eq : k0_pay30 m z acc v8 c1 u4 u0 u1 = three u4 u0 u1 (k0_pay29 m z acc v8 c1) := rfl
theorem pay31_eq : k0_pay31 m z acc v8 c1 u2 = rollR15 (dotW u2 (k0_pay29 m z acc v8 c1)) := rfl
theorem pay32_eq : k0_pay32 y acc d u3 u5 u6 u7
    = addf (addf (addf (addf (addf acc d) (rollR1 (dotW u3 y))) (rollL1 (dotW u5 y))) (rollL15 (dotW u6 y))) (rollL16 (dotW u7 y)) := rfl
theorem pay33_eq : k0_pay33 y u8 = rollL17 (dotW u8 y) := rfl
theorem pay1_eq : k0_pay1 m acc d c2 = mulf (relu (addf (addf acc d) (bias0 c2))) m := rfl

/-- The stem's payloads together are the stem. -/
theorem stem_eq :
    k0_pay1 m (k0_pay32 (k0_pay29 m (k0_pay23 xx) (k0_pay28 (k0_pay23 xx) (k0_pay24 xx v4 v0) (k0_pay26 xx v1) (k0_pay27 xx v1) v2 v3 v5 v6 v7) v8 c1)
        (k0_pay30 m (k0_pay23 xx) (k0_pay28 (k0_pay23 xx) (k0_pay24 xx v4 v0) (k0_pay26 xx v1) (k0_pay27 xx v1) v2 v3 v5 v6 v7) v8 c1 u4 u0 u1)
        (k0_pay31 m (k0_pay23 xx) (k0_pay28 (k0_pay23 xx) (k0_pay24 xx v4 v0) (k0_pay26 xx v1) (k0_pay27 xx v1) v2 v3 v5 v6 v7) v8 c1 u2) u3 u5 u6 u7)
      (k0_pay33 (k0_pay29 m (k0_pay23 xx) (k0_pay28 (k0_pay23 xx) (k0_pay24 xx v4 v0) (k0_pay26 xx v1) (k0_pay27 xx v1) v2 v3 v5 v6 v7) v8 c1) u8) c2
    = stem m xx ![v0, v1, v2, v3, v4, v5, v6, v7, v8] c1 ![u0, u1, u2, u3, u4, u5, u6, u7, u8] c2 := by
  rw [pay1_eq, pay33_eq, pay32_eq, pay31_eq, pay30_eq, pay29_eq, pay28_eq, pay24_eq, pay23_eq]
  unfold stem
  generalize (shapeCast S1024x256 xx shapeCasts_S1x1024x256_S1024x256 : FVec F S1024x256 .f32) = z
  have e : mulf (relu (addf (addf (addf (addf (addf (addf (addf (addf (addf (dotX v4 z) (rollR17 (dotX v0 z))) (rollR16 (dotX v1 z))) (rollR15 (dotX v2 z))) (rollR1 (dotX v3 z))) (rollL1 (dotX v5 z))) (rollL15 (dotX v6 z))) (rollL16 (dotX v7 z))) (rollL17 (dotX v8 z))) (bias0 c1))) m
      = mulf (relu (addf (nine fun k => dotX ((![v0, v1, v2, v3, v4, v5, v6, v7, v8] : Fin 9 → Vec F S1x128x1024 .f32) k) z) (bias0 c1))) m := rfl
  rw [e]
  generalize mulf (relu (addf (nine fun k => dotX ((![v0, v1, v2, v3, v4, v5, v6, v7, v8] : Fin 9 → Vec F S1x128x1024 .f32) k) z) (bias0 c1))) m = y
  rfl

end Cert.KernelIdeal.Hand

end
-- ==== Proof.KernI.Trip.lean ====
module

public import proofs.«01_k».proof.Proof.KernI.Pay
public import proofs.«01_k».proof.Proof.Gen.KernelIdeal.Loops
public import proofs.«01_k».proof.Proof.Gen.KernelIdeal.Launch
public import proofs.«01_k».proof.Proof.Gen.KernelIdeal.Points
public import Idealize.ShloMosaic.Lib.Exec
public import Idealize.ShloMosaic.Lib.Tactic
public import Idealize.ShloMosaic.Lib.Pipeline.Frame

@[expose] public section

set_option maxRecDepth 16384

/-! # The fused call's body -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Body

variable (c : Dev nD) (q : PosShare TreeShare) (i : grid0.Coords)
  (arg1 : Memref sig .tc .smem S64x25 .i32) (harg1 : arg1.IsWhole)
  (arg2 : Memref sig .tc .vmem S1x1024x256 .f32) (harg2 : arg2.IsWhole)
  (arg3 : Memref sig .tc .vmem S9x128x1024 .f32) (harg3 : arg3.IsWhole)
  (arg4 : Memref sig .tc .vmem S1x9x128x128 .f32) (harg4 : arg4.IsWhole)
  (arg5 : Memref sig .tc .vmem S11x9x128x128 .f32) (harg5 : arg5.IsWhole)
  (arg6 : Memref sig .tc .vmem S11x9x128x128 .f32) (harg6 : arg6.IsWhole)
  (arg7 : Memref sig .tc .vmem S6x128x128 .f32) (harg7 : arg7.IsWhole)
  (arg8 : Memref sig .tc .vmem S6x128x128 .f32) (harg8 : arg8.IsWhole)
  (arg9 : Memref sig .tc .vmem S6x9x128x128 .f32) (harg9 : arg9.IsWhole)
  (arg10 : Memref sig .tc .vmem S6x9x128x128 .f32) (harg10 : arg10.IsWhole)
  (arg11 : Memref sig .tc .vmem S512x128 .f32) (harg11 : arg11.IsWhole)
  (arg12 : Memref sig .tc .vmem S128x256 .f32) (harg12 : arg12.IsWhole)
  (arg13 : Memref sig .tc .vmem S128x256 .f32) (harg13 : arg13.IsWhole)
  (arg14 : Memref sig .tc .vmem S11x128x256 .f32) (harg14 : arg14.IsWhole)
  (arg15 : Memref sig .tc .vmem S11x128x256 .f32) (harg15 : arg15.IsWhole)
  (arg16 : Memref sig .tc .vmem S6x128x256 .f32) (harg16 : arg16.IsWhole)
  (arg17 : Memref sig .tc .vmem S6x128x256 .f32) (harg17 : arg17.IsWhole)
  (arg18 : Memref sig .tc .vmem S6x128x256 .f32) (harg18 : arg18.IsWhole)
  (arg19 : Memref sig .tc .vmem S512x256 .f32) (harg19 : arg19.IsWhole)
  (arg20 : Memref sig .tc .vmem S1x512x256 .f32) (harg20 : arg20.IsWhole)
  (arg21 : Memref sig .tc .vmem S128x256 .f32) (harg21 : arg21.IsWhole)
  (f1 : Buf (Elt F) (arg1.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ))) (f18 : Buf (Elt F) (arg18.view.loc (c : Thread nD τ))) (f21 : Buf (Elt F) (arg21.view.loc (c : Thread nD τ)))

/-- The buffers a step reads. -/
abbrev stepBufs : sProp 𝕄 :=
  iprop((arg1.view.loc (c : Thread nD τ) ↦[arg1.view.set]{q} f1) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg21.view.loc (c : Thread nD τ) ↦[arg21.view.set]{fullShare} f21))

/-- One step of the program. -/
theorem trip (hx1 : ∀ k, k0_chk1 (word (arg1.view.read (Elt F) f1) i k)) (feat : FVec F S128x256 .f32) (hf : View.ld (arg21.view.read (Elt F) f21) whole256 = feat)
    (k : Fin k0_t1_loop.trips) (a : FVec F S128x256 .f32 × FVec F S128x256 .f32) :
    stepBufs c q arg1  arg5  arg6  arg7  arg8  arg9  arg10  arg14  arg15  arg16  arg17  arg18  arg21  f1 f5 f6 f7 f8 f9 f10 f14 f15 f16 f17 f18 f21
      ⊢ wp frame (wpE (defs₀ (F := F)) Variants.none (c : Thread nD τ) none) Set.univ
        (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 inside k a)
        (fun r => iprop(⌜r = stepV (arg5.view.read (Elt F) f5) (arg6.view.read (Elt F) f6) (arg7.view.read (Elt F) f7) (arg8.view.read (Elt F) f8) (arg9.view.read (Elt F) f9) (arg10.view.read (Elt F) f10) (arg14.view.read (Elt F) f14) (arg15.view.read (Elt F) f15) (arg16.view.read (Elt F) f16) (arg17.view.read (Elt F) f17) (arg18.view.read (Elt F) f18) (word (arg1.view.read (Elt F) f1) i k) (hx1 k) feat a⌝ ∗
          stepBufs c q arg1  arg5  arg6  arg7  arg8  arg9  arg10  arg14  arg15  arg16  arg17  arg18  arg21  f1 f5 f6 f7 f8 f9 f10 f14 f15 f16 f17 f18 f21)) := by
  subst hf
  have hc := hx1 k
  obtain ⟨a1, a2⟩ := a
  unfold k0_t1_body
  unfold stepV
  iintro ⟨H1, H5, H6, H7, H8, H9, H10, H14, H15, H16, H17, H18, H21⟩
  by_cases h1 : k0_cond1 (word (arg1.view.read (Elt F) f1) i k) = 1#1
  · by_cases h2 : k0_cond2 (word (arg1.view.read (Elt F) f1) i k) = 1#1
    · rw [dif_pos h1, dif_pos h2]
      sl_exec
      sl_step
      isplitr
      · ipureintro; exact congrArg (fun z => (z, a2)) (binary_eq _ _ _ _ _ _ _ _ _ _ _ _ _ _ _ _ _ _ _ _ _ _ _ _ _ _)
      sl_close
    · rw [dif_pos h1, dif_neg h2]
      sl_exec
      sl_step
      isplitr
      · ipureintro; exact Prod.ext (unary_eq _ _ _ _ _ _ _ _ _ _ _ _ _ _ _ _ _ _ _ _ _ _ _ _) rfl
      sl_close
  · rw [dif_neg h1]
    sl_exec
    sl_step
    isplitr
    · ipureintro; rfl
    sl_close

variable (hx1 : ∀ k, k0_chk1 (word (arg1.view.read (Elt F) f1) i k)) (init : FVec F S128x256 .f32 × FVec F S128x256 .f32)

set_option warn.classDefReducibility false in
/-- The step loop's invariant: the carried pair is the program run so far from its initial values. -/
@[sl_loop] def loopInv_k0_t1 :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 inside init where
  inv k acc := iprop(⌜acc = runV (arg5.view.read (Elt F) f5) (arg6.view.read (Elt F) f6) (arg7.view.read (Elt F) f7) (arg8.view.read (Elt F) f8) (arg9.view.read (Elt F) f9) (arg10.view.read (Elt F) f10) (arg14.view.read (Elt F) f14) (arg15.view.read (Elt F) f15) (arg16.view.read (Elt F) f16) (arg17.view.read (Elt F) f17) (arg18.view.read (Elt F) f18) (arg1.view.read (Elt F) f1) i hx1 (View.ld (arg21.view.read (Elt F) f21) whole256) init k⌝ ∗ stepBufs c q arg1  arg5  arg6  arg7  arg8  arg9  arg10  arg14  arg15  arg16  arg17  arg18  arg21  f1 f5 f6 f7 f8 f9 f10 f14 f15 f16 f17 f18 f21)
  step k acc := by
    iintro ⟨%h, H⟩
    subst h
    have e : stepV (arg5.view.read (Elt F) f5) (arg6.view.read (Elt F) f6) (arg7.view.read (Elt F) f7) (arg8.view.read (Elt F) f8) (arg9.view.read (Elt F) f9) (arg10.view.read (Elt F) f10) (arg14.view.read (Elt F) f14) (arg15.view.read (Elt F) f15) (arg16.view.read (Elt F) f16) (arg17.view.read (Elt F) f17) (arg18.view.read (Elt F) f18) (word (arg1.view.read (Elt F) f1) i k) (hx1 k) (View.ld (arg21.view.read (Elt F) f21) whole256) (runV (arg5.view.read (Elt F) f5) (arg6.view.read (Elt F) f6) (arg7.view.read (Elt F) f7) (arg8.view.read (Elt F) f8) (arg9.view.read (Elt F) f9) (arg10.view.read (Elt F) f10) (arg14.view.read (Elt F) f14) (arg15.view.read (Elt F) f15) (arg16.view.read (Elt F) f16) (arg17.view.read (Elt F) f17) (arg18.view.read (Elt F) f18) (arg1.view.read (Elt F) f1) i hx1 (View.ld (arg21.view.read (Elt F) f21) whole256) init k.val)
        = runV (arg5.view.read (Elt F) f5) (arg6.view.read (Elt F) f6) (arg7.view.read (Elt F) f7) (arg8.view.read (Elt F) f8) (arg9.view.read (Elt F) f9) (arg10.view.read (Elt F) f10) (arg14.view.read (Elt F) f14) (arg15.view.read (Elt F) f15) (arg16.view.read (Elt F) f16) (arg17.view.read (Elt F) f17) (arg18.view.read (Elt F) f18) (arg1.view.read (Elt F) f1) i hx1 (View.ld (arg21.view.read (Elt F) f21) whole256) init (k.val + 1) := by
      rw [runV, dif_pos k.isLt]
    rw [← e]
    iapply (trip (F := F) c q i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f1 f5 f6 f7 f8 f9 f10 f14 f15 f16 f17 f18 f21 hx1 _ rfl k _)
    iexact H

end Body

end Cert.KernelIdeal.Hand

end
-- ==== Proof.KernI.Body.lean ====
module

public import proofs.«01_k».proof.Proof.KernI.Trip
public import Idealize.ShloMosaic.Lib.VecWindow
public import Idealize.ShloMosaic.Lib.Pipeline.Value

@[expose] public section

set_option maxRecDepth 16384

/-! # The fused call's body on given buffers -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Pure

variable (i : grid0.Coords) (x1 : Vec F S64x25 .i32)
  (x2 : Vec F S1x1024x256 .f32)
  (x3 : Vec F S9x128x1024 .f32)
  (x4 : Vec F S1x9x128x128 .f32)
  (x5 : Vec F S11x9x128x128 .f32)
  (x6 : Vec F S11x9x128x128 .f32)
  (x7 : Vec F S6x128x128 .f32)
  (x8 : Vec F S6x128x128 .f32)
  (x9 : Vec F S6x9x128x128 .f32)
  (x10 : Vec F S6x9x128x128 .f32)
  (x11 : Vec F S512x128 .f32)
  (x12 : Vec F S128x256 .f32)
  (x13 : Vec F S128x256 .f32)
  (x14 : Vec F S11x128x256 .f32)
  (x15 : Vec F S11x128x256 .f32)
  (x16 : Vec F S6x128x256 .f32)
  (x17 : Vec F S6x128x256 .f32)
  (x18 : Vec F S6x128x256 .f32)
  (x19 : Vec F S512x256 .f32)

theorem zero2 : (![0, 0] : Fin 2 → Nat) = fun _ => 0 := by decide
theorem zero3 : (![0, 0, 0] : Fin 3 → Nat) = fun _ => 0 := by decide

/-- Whole loads of the stem's operands are the operands. -/
theorem stem_whole :
    stem inside (View.ld x2 (Rect.unit (s := S1x1024x256) ![0, 0, 0] S1x1024x256.size inb_S1x1024x256_S1x1024x256_0_0_0)) (ldStem1 x3) (View.ld x12 whole256) (ldStem2 x4) (View.ld x13 whole256)
      = stemV x3 x4 x2 x12 x13 := by
  rw [View.ld_unit_zero zero3, View.ld_unit_zero zero2, View.ld_unit_zero zero2]; rfl

/-- The block stored is the image's value. -/
theorem final (hx1 : ∀ k, k0_chk1 (word x1 i k)) (p : FVec F S128x256 .f32) (hp : p = stemV x3 x4 x2 x12 x13) (g : FVec F S128x256 .f32) (hg : View.ld (Val := Elt F) (e' := .f32) g whole256 = p) :
    k0_pay5 (runV x5 x6 x7 x8 x9 x10 x14 x15 x16 x17 x18 x1 i hx1 (View.ld (Val := Elt F) (e' := .f32) g whole256) (p, p) k0_t1_loop.trips).1
        (View.ld x11 (Rect.unit (s := S512x128) ![0, 0] S512x128.size inb_S512x128_S512x128_0_0)) (View.ld x19 (Rect.unit (s := S512x256) ![0, 0] S512x256.size inb_S512x256_S512x256_0_0))
      = fusedV x3 x4 x5 x6 x7 x8 x9 x10 x14 x15 x16 x17 x18 x1 i hx1 x2 x11 x12 x13 x19 := by
  subst hp
  rw [hg, View.ld_unit_zero zero2, View.ld_unit_zero zero2]; rfl

theorem pay2_eq (m a b : FVec F S128x256 .f32) (d : Vec F S128x256 .f32) : k0_pay2 m a b d = k0_pay1 m a b d := by
  unfold k0_pay2
  exact shapeCast_self _ _

end Pure

section Run

variable (c : Dev nD) (q : PosShare TreeShare) (i : grid0.Coords)
  (arg1 : Memref sig .tc .smem S64x25 .i32) (harg1 : arg1.IsWhole)
  (arg2 : Memref sig .tc .vmem S1x1024x256 .f32) (harg2 : arg2.IsWhole)
  (arg3 : Memref sig .tc .vmem S9x128x1024 .f32) (harg3 : arg3.IsWhole)
  (arg4 : Memref sig .tc .vmem S1x9x128x128 .f32) (harg4 : arg4.IsWhole)
  (arg5 : Memref sig .tc .vmem S11x9x128x128 .f32) (harg5 : arg5.IsWhole)
  (arg6 : Memref sig .tc .vmem S11x9x128x128 .f32) (harg6 : arg6.IsWhole)
  (arg7 : Memref sig .tc .vmem S6x128x128 .f32) (harg7 : arg7.IsWhole)
  (arg8 : Memref sig .tc .vmem S6x128x128 .f32) (harg8 : arg8.IsWhole)
  (arg9 : Memref sig .tc .vmem S6x9x128x128 .f32) (harg9 : arg9.IsWhole)
  (arg10 : Memref sig .tc .vmem S6x9x128x128 .f32) (harg10 : arg10.IsWhole)
  (arg11 : Memref sig .tc .vmem S512x128 .f32) (harg11 : arg11.IsWhole)
  (arg12 : Memref sig .tc .vmem S128x256 .f32) (harg12 : arg12.IsWhole)
  (arg13 : Memref sig .tc .vmem S128x256 .f32) (harg13 : arg13.IsWhole)
  (arg14 : Memref sig .tc .vmem S11x128x256 .f32) (harg14 : arg14.IsWhole)
  (arg15 : Memref sig .tc .vmem S11x128x256 .f32) (harg15 : arg15.IsWhole)
  (arg16 : Memref sig .tc .vmem S6x128x256 .f32) (harg16 : arg16.IsWhole)
  (arg17 : Memref sig .tc .vmem S6x128x256 .f32) (harg17 : arg17.IsWhole)
  (arg18 : Memref sig .tc .vmem S6x128x256 .f32) (harg18 : arg18.IsWhole)
  (arg19 : Memref sig .tc .vmem S512x256 .f32) (harg19 : arg19.IsWhole)
  (arg20 : Memref sig .tc .vmem S1x512x256 .f32) (harg20 : arg20.IsWhole)
  (arg21 : Memref sig .tc .vmem S128x256 .f32) (harg21 : arg21.IsWhole)
  (f1 : Buf (Elt F) (arg1.view.loc (c : Thread nD τ)))
  (x2 : Vec F S1x1024x256 .f32)
  (x3 : Vec F S9x128x1024 .f32)
  (x4 : Vec F S1x9x128x128 .f32)
  (x5 : Vec F S11x9x128x128 .f32)
  (x6 : Vec F S11x9x128x128 .f32)
  (x7 : Vec F S6x128x128 .f32)
  (x8 : Vec F S6x128x128 .f32)
  (x9 : Vec F S6x9x128x128 .f32)
  (x10 : Vec F S6x9x128x128 .f32)
  (x11 : Vec F S512x128 .f32)
  (x12 : Vec F S128x256 .f32)
  (x13 : Vec F S128x256 .f32)
  (x14 : Vec F S11x128x256 .f32)
  (x15 : Vec F S11x128x256 .f32)
  (x16 : Vec F S6x128x256 .f32)
  (x17 : Vec F S6x128x256 .f32)
  (x18 : Vec F S6x128x256 .f32)
  (x19 : Vec F S512x256 .f32)

set_option maxHeartbeats 4000000 in
/-- One image: from its features, its words and the weights the call leaves the image's block. -/
theorem fused (hx1 : ∀ k, k0_chk1 (word (arg1.view.read (Elt F) f1) i k)) (K : PUnit → sProp 𝕄) :
    iprop((arg1.view.loc (c : Thread nD τ) ↦[arg1.view.set]{q} f1) ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ (∃ d, owns (c : Thread nD τ) arg20 fullShare d)
        ∗ (∃ f21 : Buf (Elt F) (arg21.view.loc (c : Thread nD τ)), (arg21.view.loc (c : Thread nD τ) ↦[arg21.view.set]{fullShare} f21))
        ∗ (iprop((arg1.view.loc (c : Thread nD τ) ↦[arg1.view.set]{q} f1) ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare (fusedV x3 x4 x5 x6 x7 x8 x9 x10 x14 x15 x16 x17 x18 (arg1.view.read (Elt F) f1) i hx1 x2 x11 x12 x13 x19)
            ∗ (∃ f21 : Buf (Elt F) (arg21.view.loc (c : Thread nD τ)), (arg21.view.loc (c : Thread nD τ) ↦[arg21.view.set]{fullShare} f21))) -∗ K ⟨⟩))
      ⊢ wp frame (wpE (defs₀ (F := F)) Variants.none (c : Thread nD τ) none) Set.univ (cc0__fused_kernel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__fused_kernel_eq_skeleton]
  unfold cc0__fused_kernel_skel
  unfold owns
  iintro ⟨H1, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%f21, H21⟩, Hk⟩
  subst hf2 hf3 hf4 hf5 hf6 hf7 hf8 hf9 hf10 hf11 hf12 hf13 hf14 hf15 hf16 hf17 hf18 hf19
  sl_exec
  sl_step
  iapply Hk
  isplitl [H1]; · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists f7; isplitr
    · ipureintro; rfl
    · iexact H7
  isplitl [H8]
  · iexists f8; isplitr
    · ipureintro; rfl
    · iexact H8
  isplitl [H9]
  · iexists f9; isplitr
    · ipureintro; rfl
    · iexact H9
  isplitl [H10]
  · iexists f10; isplitr
    · ipureintro; rfl
    · iexact H10
  isplitl [H11]
  · iexists f11; isplitr
    · ipureintro; rfl
    · iexact H11
  isplitl [H12]
  · iexists f12; isplitr
    · ipureintro; rfl
    · iexact H12
  isplitl [H13]
  · iexists f13; isplitr
    · ipureintro; rfl
    · iexact H13
  isplitl [H14]
  · iexists f14; isplitr
    · ipureintro; rfl
    · iexact H14
  isplitl [H15]
  · iexists f15; isplitr
    · ipureintro; rfl
    · iexact H15
  isplitl [H16]
  · iexists f16; isplitr
    · ipureintro; rfl
    · iexact H16
  isplitl [H17]
  · iexists f17; isplitr
    · ipureintro; rfl
    · iexact H17
  isplitl [H18]
  · iexists f18; isplitr
    · ipureintro; rfl
    · iexact H18
  isplitl [H19]
  · iexists f19; isplitr
    · ipureintro; rfl
    · iexact H19
  isplitl [H20]
  · iexists _; isplitr; swap; · iexact H20
    ipureintro
    refine (View.read_writes_full _ _ _ _ _).trans ?_
    refine final _ _ _ _ _ _ _ _ _ _ _ _ _ _ _ _ _ _ _ _ hx1 _ ?_ _ ?_
    · exact (stem_eq _ _ _ _ _ _ _ _ _ _ _ _ _ _ _ _ _ _ _ _ _ _ ).trans (stem_whole _ _ _ _ _)
    · exact (View.readAt_writes_full _ _ _ _ _ _).trans (pay2_eq _ _ _ _)
  sl_close

end Run

end Cert.KernelIdeal.Hand

end
-- ==== Proof.KernI.Fused.lean ====
module

public import proofs.«01_k».proof.Proof.KernI.Body
public import Idealize.ShloMosaic.Lib.Pipeline.RegionArraysTS

@[expose] public section

set_option maxRecDepth 16384

/-! # The fused call: one image at each grid point -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg0 (F := F)).Adm) (W : Dev nD → Valuation τ sig (Elt F))

/-- Window `w`'s block at point `t`, of the array as the region finds it. -/
def blk0 (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (W c (Proc.devRef .tc (Pipeline.arrRef spec0 w)))

variable (hX : ∀ (t : Fin (cfg0 a).N) (k : Fin k0_t1_loop.trips), k0_chk1 (word (F := F) (a.1 0) (grid0.coords t) k))

/-- What the call leaves for the image of point `t`. -/
def out0 (c : Dev nD) (t : Fin (cfg0 a).N) : FVec F S1x512x256 .f32 :=
  fusedV (blk0 a W c (1 : Fin 19) t) (blk0 a W c (2 : Fin 19) t) (blk0 a W c (3 : Fin 19) t) (blk0 a W c (4 : Fin 19) t) (blk0 a W c (5 : Fin 19) t) (blk0 a W c (6 : Fin 19) t) (blk0 a W c (7 : Fin 19) t) (blk0 a W c (8 : Fin 19) t) (blk0 a W c (12 : Fin 19) t) (blk0 a W c (13 : Fin 19) t) (blk0 a W c (14 : Fin 19) t) (blk0 a W c (15 : Fin 19) t) (blk0 a W c (16 : Fin 19) t) (a.1 0) (grid0.coords t) (hX t) (blk0 a W c (0 : Fin 19) t) (blk0 a W c (9 : Fin 19) t) (blk0 a W c (10 : Fin 19) t) (blk0 a W c (11 : Fin 19) t) (blk0 a W c (17 : Fin 19) t)

/-- The region's data: the inputs stay, the output block is the image's features. -/
def dat0 (c : Dev nD) : Dat τ (Elt F) Unit ℕ (UR sig nD τ) ℕ (cfg0 a) c where
  A w := W c (Proc.devRef .tc (Pipeline.arrRef spec0 w))
  after w t := if h : w = (18 : Fin 19) then h ▸ out0 a W hX c t else blk0 a W c w t
  Φ _ := iprop(Pipeline.scopedRest (Ix := Unit) (Name := ℕ) (U := UR sig nD τ) (Lvl := ℕ) (Val := Elt F) spec0 c
    ∗ Pipeline.prefHeld (Ix := Unit) (Name := ℕ) (U := UR sig nD τ) (Lvl := ℕ) pre0 c (fun _ => fullShare) a.1)
  q _ := fullShare
  owed _ := 0

theorem dat0_A (c : Dev nD) (w : Fin (cfg0 a).W) : (dat0 a W hX c).A w = W c (Proc.devRef .tc (Pipeline.arrRef spec0 w)) := by
  dsimp only [dat0]

theorem after0_in (c : Dev nD) (w : Fin 19) (hw : w ≠ 18) (t : Fin (cfg0 a).N) : (dat0 a W hX c).after w t = blk0 a W c w t := by
  dsimp only [dat0]; rw [dif_neg hw]

theorem after0_out (c : Dev nD) (t : Fin (cfg0 a).N) : (dat0 a W hX c).after (18 : Fin 19) t = out0 a W hX c t := by
  dsimp only [dat0]; rw [dif_pos rfl]

/-- Every window but the last is an input. -/
theorem in0 : ∀ w : Fin 19, w ≠ 18 → ((cfg0 a).win w).isOut = false :=
  (by decide : ∀ w : Fin 19, w ≠ 18 → (spec0 w).isOut = false)

/-- An input window holds its block at every point: the body leaves it alone. -/
theorem before0_in (c : Dev nD) (w : Fin 19) (hw : w ≠ 18) (t : Fin (cfg0 a).N) (d) : (dat0 a W hX c).before w t d = blk0 a W c w t :=
  ((dat0 a W hX c).before_in_eq_fetched w (in0 a w hw) (fun _ => rfl) (fun _ _ _ => rfl)
    (fun t => by rw [after0_in a W hX c w hw]; unfold Dat.blockOf blk0; rw [dat0_A]; try rfl) t d).trans
    (by
      unfold Dat.fetched Dat.blockOf blk0; rw [dat0_A]
      funext j
      unfold Window.fill
      exact dif_pos (((win0 a w).moved_iff _ j).mpr fun i => (j i).isLt))

/-- The body as the region calls it at point `t`. -/
abbrev bodyAt0 (t : Fin (cfg0 a).N) : Prog (TpuEff nD τ sig (Elt F) Λ₀ .tc) PUnit :=
  cc0__fused_kernel (grid0.coords t) (Memref.whole main_v33) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (spec0_14.stage ((cfg0 a).slots t 14)) (hstage0_14 (((cfg0 a).slots t 14).cast nbuf0_14)) (spec0_15.stage ((cfg0 a).slots t 15)) (hstage0_15 (((cfg0 a).slots t 15).cast nbuf0_15)) (spec0_16.stage ((cfg0 a).slots t 16)) (hstage0_16 (((cfg0 a).slots t 16).cast nbuf0_16)) (spec0_17.stage ((cfg0 a).slots t 17)) (hstage0_17 (((cfg0 a).slots t 17).cast nbuf0_17)) (spec0_18.stage ((cfg0 a).slots t 18)) (hstage0_18 (((cfg0 a).slots t 18).cast nbuf0_18)) (Memref.whole cc0_scratch0) (Memref.isWhole_whole _)

/-- The table, held as the body reads it. -/
theorem table_eq (c : Dev nD) :
    (Pipeline.prefHeld (Ix := Unit) (Name := ℕ) (U := UR sig nD τ) (Lvl := ℕ) pre0 c (fun _ => fullShare) a.1 : sProp 𝕄)
      = ((Memref.whole main_v33).view.loc (c : Thread nD τ) ↦[(Memref.whole main_v33).view.set]{fullShare} (a.1 0)) := by
  unfold Pipeline.prefHeld
  rw [show (Memref.whole main_v33).view.set = Finset.univ from View.set_whole _]
  exact bigSep_univ_eq_bigSepL [(0 : Fin 1)] (by decide) (by decide) _

set_option maxHeartbeats 1000000 in
/-- The body at any point of the region. -/
theorem point0 (c : Dev nD) (t : Fin (cfg0 a).N) :
    iprop((dat0 a W hX c).Φ t.castSucc ∗ (dat0 a W hX c).owesAt () t.castSucc
      ∗ (∃ d, owns (c : Thread nD τ) (spec0_0.stage ((cfg0 a).slots t 0)) fullShare ((dat0 a W hX c).before (0 : Fin 19) t d))
      ∗ (∃ d, owns (c : Thread nD τ) (spec0_1.stage ((cfg0 a).slots t 1)) fullShare ((dat0 a W hX c).before (1 : Fin 19) t d))
      ∗ (∃ d, owns (c : Thread nD τ) (spec0_2.stage ((cfg0 a).slots t 2)) fullShare ((dat0 a W hX c).before (2 : Fin 19) t d))
      ∗ (∃ d, owns (c : Thread nD τ) (spec0_3.stage ((cfg0 a).slots t 3)) fullShare ((dat0 a W hX c).before (3 : Fin 19) t d))
      ∗ (∃ d, owns (c : Thread nD τ) (spec0_4.stage ((cfg0 a).slots t 4)) fullShare ((dat0 a W hX c).before (4 : Fin 19) t d))
      ∗ (∃ d, owns (c : Thread nD τ) (spec0_5.stage ((cfg0 a).slots t 5)) fullShare ((dat0 a W hX c).before (5 : Fin 19) t d))
      ∗ (∃ d, owns (c : Thread nD τ) (spec0_6.stage ((cfg0 a).slots t 6)) fullShare ((dat0 a W hX c).before (6 : Fin 19) t d))
      ∗ (∃ d, owns (c : Thread nD τ) (spec0_7.stage ((cfg0 a).slots t 7)) fullShare ((dat0 a W hX c).before (7 : Fin 19) t d))
      ∗ (∃ d, owns (c : Thread nD τ) (spec0_8.stage ((cfg0 a).slots t 8)) fullShare ((dat0 a W hX c).before (8 : Fin 19) t d))
      ∗ (∃ d, owns (c : Thread nD τ) (spec0_9.stage ((cfg0 a).slots t 9)) fullShare ((dat0 a W hX c).before (9 : Fin 19) t d))
      ∗ (∃ d, owns (c : Thread nD τ) (spec0_10.stage ((cfg0 a).slots t 10)) fullShare ((dat0 a W hX c).before (10 : Fin 19) t d))
      ∗ (∃ d, owns (c : Thread nD τ) (spec0_11.stage ((cfg0 a).slots t 11)) fullShare ((dat0 a W hX c).before (11 : Fin 19) t d))
      ∗ (∃ d, owns (c : Thread nD τ) (spec0_12.stage ((cfg0 a).slots t 12)) fullShare ((dat0 a W hX c).before (12 : Fin 19) t d))
      ∗ (∃ d, owns (c : Thread nD τ) (spec0_13.stage ((cfg0 a).slots t 13)) fullShare ((dat0 a W hX c).before (13 : Fin 19) t d))
      ∗ (∃ d, owns (c : Thread nD τ) (spec0_14.stage ((cfg0 a).slots t 14)) fullShare ((dat0 a W hX c).before (14 : Fin 19) t d))
      ∗ (∃ d, owns (c : Thread nD τ) (spec0_15.stage ((cfg0 a).slots t 15)) fullShare ((dat0 a W hX c).before (15 : Fin 19) t d))
      ∗ (∃ d, owns (c : Thread nD τ) (spec0_16.stage ((cfg0 a).slots t 16)) fullShare ((dat0 a W hX c).before (16 : Fin 19) t d))
      ∗ (∃ d, owns (c : Thread nD τ) (spec0_17.stage ((cfg0 a).slots t 17)) fullShare ((dat0 a W hX c).before (17 : Fin 19) t d))
      ∗ (∃ d, owns (c : Thread nD τ) (spec0_18.stage ((cfg0 a).slots t 18)) fullShare ((dat0 a W hX c).before (18 : Fin 19) t d)))
    ⊢ wp frame (wpE (defs₀ (F := F)) Variants.none c none) Set.univ (bodyAt0 a t) (fun _ =>
      iprop((dat0 a W hX c).Φ t.succ ∗ (dat0 a W hX c).owesAt () t.succ
        ∗ owns (c : Thread nD τ) (spec0_0.stage ((cfg0 a).slots t 0)) fullShare ((dat0 a W hX c).after (0 : Fin 19) t)
        ∗ owns (c : Thread nD τ) (spec0_1.stage ((cfg0 a).slots t 1)) fullShare ((dat0 a W hX c).after (1 : Fin 19) t)
        ∗ owns (c : Thread nD τ) (spec0_2.stage ((cfg0 a).slots t 2)) fullShare ((dat0 a W hX c).after (2 : Fin 19) t)
        ∗ owns (c : Thread nD τ) (spec0_3.stage ((cfg0 a).slots t 3)) fullShare ((dat0 a W hX c).after (3 : Fin 19) t)
        ∗ owns (c : Thread nD τ) (spec0_4.stage ((cfg0 a).slots t 4)) fullShare ((dat0 a W hX c).after (4 : Fin 19) t)
        ∗ owns (c : Thread nD τ) (spec0_5.stage ((cfg0 a).slots t 5)) fullShare ((dat0 a W hX c).after (5 : Fin 19) t)
        ∗ owns (c : Thread nD τ) (spec0_6.stage ((cfg0 a).slots t 6)) fullShare ((dat0 a W hX c).after (6 : Fin 19) t)
        ∗ owns (c : Thread nD τ) (spec0_7.stage ((cfg0 a).slots t 7)) fullShare ((dat0 a W hX c).after (7 : Fin 19) t)
        ∗ owns (c : Thread nD τ) (spec0_8.stage ((cfg0 a).slots t 8)) fullShare ((dat0 a W hX c).after (8 : Fin 19) t)
        ∗ owns (c : Thread nD τ) (spec0_9.stage ((cfg0 a).slots t 9)) fullShare ((dat0 a W hX c).after (9 : Fin 19) t)
        ∗ owns (c : Thread nD τ) (spec0_10.stage ((cfg0 a).slots t 10)) fullShare ((dat0 a W hX c).after (10 : Fin 19) t)
        ∗ owns (c : Thread nD τ) (spec0_11.stage ((cfg0 a).slots t 11)) fullShare ((dat0 a W hX c).after (11 : Fin 19) t)
        ∗ owns (c : Thread nD τ) (spec0_12.stage ((cfg0 a).slots t 12)) fullShare ((dat0 a W hX c).after (12 : Fin 19) t)
        ∗ owns (c : Thread nD τ) (spec0_13.stage ((cfg0 a).slots t 13)) fullShare ((dat0 a W hX c).after (13 : Fin 19) t)
        ∗ owns (c : Thread nD τ) (spec0_14.stage ((cfg0 a).slots t 14)) fullShare ((dat0 a W hX c).after (14 : Fin 19) t)
        ∗ owns (c : Thread nD τ) (spec0_15.stage ((cfg0 a).slots t 15)) fullShare ((dat0 a W hX c).after (15 : Fin 19) t)
        ∗ owns (c : Thread nD τ) (spec0_16.stage ((cfg0 a).slots t 16)) fullShare ((dat0 a W hX c).after (16 : Fin 19) t)
        ∗ owns (c : Thread nD τ) (spec0_17.stage ((cfg0 a).slots t 17)) fullShare ((dat0 a W hX c).after (17 : Fin 19) t)
        ∗ owns (c : Thread nD τ) (spec0_18.stage ((cfg0 a).slots t 18)) fullShare ((dat0 a W hX c).after (18 : Fin 19) t))) := by
  unfold bodyAt0
  have hb0 := before0_in a W hX c 0 (by decide) t
  have hb1 := before0_in a W hX c 1 (by decide) t
  have hb2 := before0_in a W hX c 2 (by decide) t
  have hb3 := before0_in a W hX c 3 (by decide) t
  have hb4 := before0_in a W hX c 4 (by decide) t
  have hb5 := before0_in a W hX c 5 (by decide) t
  have hb6 := before0_in a W hX c 6 (by decide) t
  have hb7 := before0_in a W hX c 7 (by decide) t
  have hb8 := before0_in a W hX c 8 (by decide) t
  have hb9 := before0_in a W hX c 9 (by decide) t
  have hb10 := before0_in a W hX c 10 (by decide) t
  have hb11 := before0_in a W hX c 11 (by decide) t
  have hb12 := before0_in a W hX c 12 (by decide) t
  have hb13 := before0_in a W hX c 13 (by decide) t
  have hb14 := before0_in a W hX c 14 (by decide) t
  have hb15 := before0_in a W hX c 15 (by decide) t
  have hb16 := before0_in a W hX c 16 (by decide) t
  have hb17 := before0_in a W hX c 17 (by decide) t
  simp only [hb0, hb1, hb2, hb3, hb4, hb5, hb6, hb7, hb8, hb9, hb10, hb11, hb12, hb13, hb14, hb15, hb16, hb17]
  rw [show (dat0 a W hX c).Φ t.succ = (dat0 a W hX c).Φ t.castSucc from rfl,
    show (dat0 a W hX c).owesAt () t.succ = (dat0 a W hX c).owesAt () t.castSucc from rfl,
    after0_in a W hX c 0 (by decide), after0_in a W hX c 1 (by decide), after0_in a W hX c 2 (by decide), after0_in a W hX c 3 (by decide), after0_in a W hX c 4 (by decide), after0_in a W hX c 5 (by decide), after0_in a W hX c 6 (by decide), after0_in a W hX c 7 (by decide), after0_in a W hX c 8 (by decide), after0_in a W hX c 9 (by decide), after0_in a W hX c 10 (by decide), after0_in a W hX c 11 (by decide), after0_in a W hX c 12 (by decide), after0_in a W hX c 13 (by decide), after0_in a W hX c 14 (by decide), after0_in a W hX c 15 (by decide), after0_in a W hX c 16 (by decide), after0_in a W hX c 17 (by decide), after0_out,
    show (dat0 a W hX c).Φ t.castSucc = iprop(Pipeline.scopedRest (Ix := Unit) (Name := ℕ) (U := UR sig nD τ) (Lvl := ℕ) (Val := Elt F) spec0 c
      ∗ Pipeline.prefHeld (Ix := Unit) (Name := ℕ) (U := UR sig nD τ) (Lvl := ℕ) pre0 c (fun _ => fullShare) a.1) from rfl,
    table_eq, scopedRest0_eq]
  iintro ⟨⟨⟨HS, HR⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (fused c fullShare (grid0.coords t) (Memref.whole main_v33) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (spec0_14.stage ((cfg0 a).slots t 14)) (hstage0_14 (((cfg0 a).slots t 14).cast nbuf0_14)) (spec0_15.stage ((cfg0 a).slots t 15)) (hstage0_15 (((cfg0 a).slots t 15).cast nbuf0_15)) (spec0_16.stage ((cfg0 a).slots t 16)) (hstage0_16 (((cfg0 a).slots t 16).cast nbuf0_16)) (spec0_17.stage ((cfg0 a).slots t 17)) (hstage0_17 (((cfg0 a).slots t 17).cast nbuf0_17)) (spec0_18.stage ((cfg0 a).slots t 18)) (hstage0_18 (((cfg0 a).slots t 18).cast nbuf0_18)) (Memref.whole cc0_scratch0) (Memref.isWhole_whole _) (a.1 0) (blk0 a W c (0 : Fin 19) t) (blk0 a W c (1 : Fin 19) t) (blk0 a W c (2 : Fin 19) t) (blk0 a W c (3 : Fin 19) t) (blk0 a W c (4 : Fin 19) t) (blk0 a W c (5 : Fin 19) t) (blk0 a W c (6 : Fin 19) t) (blk0 a W c (7 : Fin 19) t) (blk0 a W c (8 : Fin 19) t) (blk0 a W c (9 : Fin 19) t) (blk0 a W c (10 : Fin 19) t) (blk0 a W c (11 : Fin 19) t) (blk0 a W c (12 : Fin 19) t) (blk0 a W c (13 : Fin 19) t) (blk0 a W c (14 : Fin 19) t) (blk0 a W c (15 : Fin 19) t) (blk0 a W c (16 : Fin 19) t) (blk0 a W c (17 : Fin 19) t) (hX t) _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [HS]
  · icases HS with ⟨%g, HS⟩
    iexists g
    rw [show (Memref.whole cc0_scratch0).view.set = Finset.univ from View.set_whole _]
    iexact HS
  iintro ⟨HT, H0, H1, H2, H3, H4, H5, H6, H7, H8, H9, H10, H11, H12, H13, H14, H15, H16, H17, H18, HS⟩
  isplitl [HT HS HR]
  · isplitl [HS HR]
    · isplitl [HS]
      · icases HS with ⟨%g, HS⟩
        iexists g
        rw [show (Memref.whole cc0_scratch0).view.set = Finset.univ from View.set_whole _]
        iexact HS
      iexact HR
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

theorem row0 (t : Fin (cfg0 a).N) : defs₀ (F := F) .tc (cfg0 a).body ((cfg0 a).bodyArgs t ((cfg0 a).slots t)) = bodyAt0 a t := by
  unfold defs₀; rw [Defs.onTc_tc]

set_option maxHeartbeats 1000000 in
/-- The body's obligation at every point of the region. -/
theorem obl0 (c : Dev nD) : BodyObligation (dat0 a W hX c) (defs₀ (F := F)) Variants.none () Set.univ := fun t => by
  rw [bigSep_W0, bigSep_W0, row0]
  exact triple_restated (point0 a W hX c t) rfl .rfl fun _ => .rfl

end Cert.KernelIdeal.Hand

end
-- ==== Proof.KernI.Fc2.lean ====
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.Frame
public import Idealize.ShloMosaic.Lib.Claim
public import Idealize.ShloMosaic.Lib.Ring
public import Idealize.ShloMosaic.Lib.Tactic
public import Idealize.ShloMosaic.Lib.WordCmp
public import Idealize.ShloMosaic.Lib.VecWindow
public import Idealize.ShloMosaic.Lib.Pipeline.Value

@[expose] public section

set_option maxRecDepth 16384

/-! # The last call: bias, ReLU, and the small linear layer -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-buffer stores and loads at offset zero. -/
theorem off2 : (![0, 0] : Fin 2 → ℕ) = fun _ => 0 := by decide

set_option maxHeartbeats 1000000 in
/-- The body on given buffers: the output buffer ends at the layer of the four inputs. -/
theorem fc2_body (c : Dev nD) (E : Set ℕ) (arg0 : Memref sig .tc .vmem S64x1024 .f32) (harg0 : arg0.IsWhole)
    (arg1 : Memref sig .tc .vmem S1x1024 .f32) (harg1 : arg1.IsWhole) (arg2 : Memref sig .tc .vmem S32x1024 .f32) (harg2 : arg2.IsWhole)
    (arg3 : Memref sig .tc .vmem S1x32 .f32) (harg3 : arg3.IsWhole) (arg4 : Memref sig .tc .vmem S64x32 .f32) (harg4 : arg4.IsWhole)
    (x0 : Vec F S64x1024 .f32) (x1 : Vec F S1x1024 .f32) (x2 : Vec F S32x1024 .f32) (x3 : Vec F S1x32 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare (k2_pay1 x0 x1 x2 x3)) -∗ K ⟨⟩))
      ⊢ wp frame (wpE (defs₀ (F := F)) Variants.none c none) E (cc2__fc2_kernel arg0 harg0 arg1 harg1 arg2 harg2 arg3 harg3 arg4 harg4) K := by
  simp only [cc2__fc2_kernel_eq_skeleton]; unfold cc2__fc2_kernel_skel
  unfold owns
  iintro ⟨⟨%f0, %e0, H0⟩, ⟨%f1, %e1, H1⟩, ⟨%f2, %e2, H2⟩, ⟨%f3, %e3, H3⟩, ⟨%d4, %f4, -, H4⟩, Hk⟩
  subst e0 e1 e2 e3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_full _ _ _ _ _).trans ?_
  simp only [View.readAt_eq_ld]
  rw [View.ld_unit_zero off2, View.ld_unit_zero off2, View.ld_unit_zero off2, View.ld_unit_zero off2]

variable (W : Dev nD → Valuation τ sig (Elt F))

/-- Window `w`'s block at point `t`, of the array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (W c (Proc.devRef .tc (Pipeline.arrRef spec2 w)))

/-- The region's data: the inputs stay, the output block is the layer of the input blocks. -/
def dat2 (c : Dev nD) : Dat τ (Elt F) Unit ℕ (UR sig nD τ) ℕ cfg2 c where
  A w := W c (Proc.devRef .tc (Pipeline.arrRef spec2 w))
  after w t := match w with
    | ⟨0, _⟩ => blk2 W c 0 t
    | ⟨1, _⟩ => blk2 W c 1 t
    | ⟨2, _⟩ => blk2 W c 2 t
    | ⟨3, _⟩ => blk2 W c 3 t
    | ⟨4, _⟩ => k2_pay1 (blk2 W c 0 t) (blk2 W c 1 t) (blk2 W c 2 t) (blk2 W c 3 t)
  Φ _ := Pipeline.scopedRest spec2 c
  q _ := fullShare
  owed _ := 0

theorem dat2_A (c : Dev nD) (w : Fin cfg2.W) : (dat2 W c).A w = W c (Proc.devRef .tc (Pipeline.arrRef spec2 w)) := by
  dsimp only [dat2]

theorem after2_0 (c : Dev nD) (t : Fin cfg2.N) : (dat2 W c).after 0 t = blk2 W c 0 t := by dsimp only [dat2]
theorem after2_1 (c : Dev nD) (t : Fin cfg2.N) : (dat2 W c).after 1 t = blk2 W c 1 t := by dsimp only [dat2]
theorem after2_2 (c : Dev nD) (t : Fin cfg2.N) : (dat2 W c).after 2 t = blk2 W c 2 t := by dsimp only [dat2]
theorem after2_3 (c : Dev nD) (t : Fin cfg2.N) : (dat2 W c).after 3 t = blk2 W c 3 t := by dsimp only [dat2]
theorem after2_4 (c : Dev nD) (t : Fin cfg2.N) :
    (dat2 W c).after 4 t = k2_pay1 (blk2 W c 0 t) (blk2 W c 1 t) (blk2 W c 2 t) (blk2 W c 3 t) := by dsimp only [dat2]

/-! Each input window holds its block at every point: the body leaves it alone. -/

theorem before2_0 (c : Dev nD) (t : Fin cfg2.N) (d) : (dat2 W c).before 0 t d = blk2 W c 0 t :=
  ((dat2 W c).before_in_eq_fetched 0 rfl (fun _ => rfl) (fun _ _ _ => rfl) (fun t => by rw [after2_0]; unfold Dat.blockOf blk2; rw [dat2_A]; try rfl) t d).trans
    (by unfold Dat.fetched Dat.blockOf blk2; rw [dat2_A]; try rfl)
theorem before2_1 (c : Dev nD) (t : Fin cfg2.N) (d) : (dat2 W c).before 1 t d = blk2 W c 1 t :=
  ((dat2 W c).before_in_eq_fetched 1 rfl (fun _ => rfl) (fun _ _ _ => rfl) (fun t => by rw [after2_1]; unfold Dat.blockOf blk2; rw [dat2_A]; try rfl) t d).trans
    (by unfold Dat.fetched Dat.blockOf blk2; rw [dat2_A]; try rfl)
theorem before2_2 (c : Dev nD) (t : Fin cfg2.N) (d) : (dat2 W c).before 2 t d = blk2 W c 2 t :=
  ((dat2 W c).before_in_eq_fetched 2 rfl (fun _ => rfl) (fun _ _ _ => rfl) (fun t => by rw [after2_2]; unfold Dat.blockOf blk2; rw [dat2_A]; try rfl) t d).trans
    (by unfold Dat.fetched Dat.blockOf blk2; rw [dat2_A]; try rfl)
theorem before2_3 (c : Dev nD) (t : Fin cfg2.N) (d) : (dat2 W c).before 3 t d = blk2 W c 3 t :=
  ((dat2 W c).before_in_eq_fetched 3 rfl (fun _ => rfl) (fun _ _ _ => rfl) (fun t => by rw [after2_3]; unfold Dat.blockOf blk2; rw [dat2_A]; try rfl) t d).trans
    (by unfold Dat.fetched Dat.blockOf blk2; rw [dat2_A]; try rfl)

/-- The body at the region's one point. -/
theorem point2 (c : Dev nD) (t : Fin cfg2.N) :
    iprop((dat2 W c).Φ t.castSucc ∗ (dat2 W c).owesAt () t.castSucc
      ∗ (∃ d, owns (c : Thread nD τ) (st2_0 t) fullShare ((dat2 W c).before 0 t d))
      ∗ (∃ d, owns (c : Thread nD τ) (st2_1 t) fullShare ((dat2 W c).before 1 t d))
      ∗ (∃ d, owns (c : Thread nD τ) (st2_2 t) fullShare ((dat2 W c).before 2 t d))
      ∗ (∃ d, owns (c : Thread nD τ) (st2_3 t) fullShare ((dat2 W c).before 3 t d))
      ∗ (∃ d, owns (c : Thread nD τ) (st2_4 t) fullShare ((dat2 W c).before 4 t d)))
    ⊢ wp frame (wpE (defs₀ (F := F)) Variants.none c none) Set.univ (bodyAt2 t) (fun _ =>
      iprop((dat2 W c).Φ t.succ ∗ (dat2 W c).owesAt () t.succ
        ∗ owns (c : Thread nD τ) (st2_0 t) fullShare ((dat2 W c).after 0 t)
        ∗ owns (c : Thread nD τ) (st2_1 t) fullShare ((dat2 W c).after 1 t)
        ∗ owns (c : Thread nD τ) (st2_2 t) fullShare ((dat2 W c).after 2 t)
        ∗ owns (c : Thread nD τ) (st2_3 t) fullShare ((dat2 W c).after 3 t)
        ∗ owns (c : Thread nD τ) (st2_4 t) fullShare ((dat2 W c).after 4 t))) := by
  unfold bodyAt2
  simp only [before2_0, before2_1, before2_2, before2_3]
  rw [show (dat2 W c).Φ t.succ = (dat2 W c).Φ t.castSucc from rfl,
    show (dat2 W c).owesAt () t.succ = (dat2 W c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (fc2_body c Set.univ _ _ _ _ _ _ _ _ _ _ (blk2 W c 0 t) (blk2 W c 1 t) (blk2 W c 2 t) (blk2 W c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem row2 (t : Fin cfg2.N) : defs₀ (F := F) .tc cfg2.body (cfg2.bodyArgs t (cfg2.slots t)) = bodyAt2 t := by
  unfold defs₀; rw [Defs.onTc_tc]

/-- The body's obligation at every point of the region. -/
theorem obl2 (c : Dev nD) : BodyObligation (dat2 W c) (defs₀ (F := F)) Variants.none () Set.univ := fun t => by
  rw [bigSep_W2, bigSep_W2, row2]
  exact triple_restated (point2 W c t) rfl .rfl fun _ => .rfl

end Cert.KernelIdeal.Hand

end
-- ==== Proof.KernI.Fc1.lean ====
module

public import proofs.«01_k».proof.Proof.KernI.Fc2

@[expose] public section

set_option maxRecDepth 16384

/-! # The middle call: the large linear layer, summed over four column blocks -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body clears its accumulator at this point. -/
abbrev clears (i : grid1.Coords) : Prop :=
  (Scalar.cmpi .ne (Scalar.extui (Scalar.cmpi .eq (BitVec.ofNat 32 (i 1).val) 0#32)) 0#32) = 1#1

/-- The body writes its accumulator out at this point. -/
abbrev emits (i : grid1.Coords) : Prop := k1_cond2 i = 1#1

theorem clears_iff : ∀ t : Fin cfg1.N, clears (grid1.coords t) ↔ t.val % 4 = 0 :=
  (fun t => by
    have ht : t.val < 8 := Nat.lt_of_lt_of_eq t.isLt N_1
    have e0 : (grid1.coords t 0).val = t.val / 4 % 2 := Pipeline.Grid.coords_val t 0 (by decide) rfl
    have e1 : (grid1.coords t 1).val = t.val / 1 % 4 := Pipeline.Grid.coords_val t 1 (by decide) rfl
    simp only [clears, e0, e1]
    word_cmp
   : ∀ t : Fin grid1.N, clears (grid1.coords t) ↔ t.val % 4 = 0)

theorem emits_iff : ∀ t : Fin cfg1.N, emits (grid1.coords t) ↔ t.val % 4 = 3 :=
  (fun t => by
    have ht : t.val < 8 := Nat.lt_of_lt_of_eq t.isLt N_1
    have e0 : (grid1.coords t 0).val = t.val / 4 % 2 := Pipeline.Grid.coords_val t 0 (by decide) rfl
    have e1 : (grid1.coords t 1).val = t.val / 1 % 4 := Pipeline.Grid.coords_val t 1 (by decide) rfl
    simp only [emits, k1_cond2, e0, e1]
    word_cmp
   : ∀ t : Fin grid1.N, emits (grid1.coords t) ↔ t.val % 4 = 3)

section Body

variable (c : Dev nD) (E : Set ℕ) (i : grid1.Coords) (arg2 : Memref sig .tc .vmem S64x6272 .f32) (harg2 : arg2.IsWhole)
  (arg3 : Memref sig .tc .vmem S512x6272 .f32) (harg3 : arg3.IsWhole) (arg4 : Memref sig .tc .vmem S64x512 .f32) (harg4 : arg4.IsWhole)
  (arg5 : Memref sig .tc .vmem S64x512 .f32) (harg5 : arg5.IsWhole)
  (x0 : Vec F S64x6272 .f32) (x1 : Vec F S512x6272 .f32) (s : Vec F S64x512 .f32)

set_option maxHeartbeats 1000000 in
/-- A point that starts a sum. -/
theorem fc1_first (hc : clears i) (he : ¬ emits i) (K : PUnit → sProp 𝕄) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1
            ∗ owns (c : Thread nD τ) arg5 fullShare (k1_pay2 k1_pay1 x0 x1)) -∗ K ⟨⟩))
      ⊢ wp frame (wpE (defs₀ (F := F)) Variants.none c none) E (cc1__fc1_kernel i arg2 harg2 arg3 harg3 arg4 harg4 arg5 harg5) K := by
  simp only [cc1__fc1_kernel_eq_skeleton]; unfold cc1__fc1_kernel_skel
  unfold owns
  iintro ⟨⟨%f0, %e0, H0⟩, ⟨%f1, %e1, H1⟩, ⟨%ds, %fs, -, HS⟩, Hk⟩
  subst e0 e1
  sl_exec (disch := first | sl_exact hc | sl_exact he)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  refine (View.read_writes_full _ _ _ _ _).trans ?_
  simp only [View.readAt_eq_ld]
  rw [View.ld_unit_zero off2, View.ld_unit_zero off2]
  congr 1
  refine View.readAt_writes_full _ _ _ _ _ _

set_option maxHeartbeats 1000000 in
/-- A point in the middle of a sum. -/
theorem fc1_middle (hc : ¬ clears i) (he : ¬ emits i) (K : PUnit → sProp 𝕄) :
    iprop(owns (c : Thread nD τ) arg2 fullShare x0 ∗ owns (c : Thread nD τ) arg3 fullShare x1 ∗ owns (c : Thread nD τ) arg5 fullShare s
        ∗ (iprop(owns (c : Thread nD τ) arg2 fullShare x0 ∗ owns (c : Thread nD τ) arg3 fullShare x1
            ∗ owns (c : Thread nD τ) arg5 fullShare (k1_pay2 s x0 x1)) -∗ K ⟨⟩))
      ⊢ wp frame (wpE (defs₀ (F := F)) Variants.none c none) E (cc1__fc1_kernel i arg2 harg2 arg3 harg3 arg4 harg4 arg5 harg5) K := by
  simp only [cc1__fc1_kernel_eq_skeleton]; unfold cc1__fc1_kernel_skel
  unfold owns
  iintro ⟨⟨%f0, %e0, H0⟩, ⟨%f1, %e1, H1⟩, ⟨%fs, %es, HS⟩, Hk⟩
  subst e0 e1 es
  sl_exec (disch := first | sl_exact hc | sl_exact he)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  refine (View.read_writes_full _ _ _ _ _).trans ?_
  simp only [View.readAt_eq_ld]
  rw [View.ld_unit_zero off2, View.ld_unit_zero off2, View.ld_unit_zero off2]

set_option maxHeartbeats 1000000 in
/-- A point that ends a sum and writes it out. -/
theorem fc1_last (hc : ¬ clears i) (he : emits i) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare s
        ∗ (iprop(owns (c : Thread nD τ) arg2 fullShare x0 ∗ owns (c : Thread nD τ) arg3 fullShare x1
            ∗ owns (c : Thread nD τ) arg4 fullShare (k1_pay2 s x0 x1)
            ∗ owns (c : Thread nD τ) arg5 fullShare (k1_pay2 s x0 x1)) -∗ K ⟨⟩))
      ⊢ wp frame (wpE (defs₀ (F := F)) Variants.none c none) E (cc1__fc1_kernel i arg2 harg2 arg3 harg3 arg4 harg4 arg5 harg5) K := by
  simp only [cc1__fc1_kernel_eq_skeleton]; unfold cc1__fc1_kernel_skel
  unfold owns
  iintro ⟨⟨%f0, %e0, H0⟩, ⟨%f1, %e1, H1⟩, ⟨%d4, %f4, -, H4⟩, ⟨%fs, %es, HS⟩, Hk⟩
  subst e0 e1 es
  sl_exec (disch := first | sl_exact hc | sl_exact he)
  sl_step
  have hs : ∀ (g0 : arg2.view.ty.Contents (Elt F)) (g1 : arg3.view.ty.Contents (Elt F)) (gs : arg5.view.ty.Contents (Elt F)),
      k1_pay2 (View.readAt (Elt F) arg5.view (Rect.unit ![0, 0] S64x512.size inb_S64x512_S64x512_0_0).toLoadRect gs)
        (View.readAt (Elt F) arg2.view (Rect.unit ![0, 0] S64x6272.size inb_S64x6272_S64x6272_0_0).toLoadRect g0)
        (View.readAt (Elt F) arg3.view (Rect.unit ![0, 0] S512x6272.size inb_S512x6272_S512x6272_0_0).toLoadRect g1)
        = k1_pay2 (View.read (Elt F) arg5.view gs) (View.read (Elt F) arg2.view g0) (View.read (Elt F) arg3.view g1) := by
    intro g0 g1 gs
    simp only [View.readAt_eq_ld]
    rw [View.ld_unit_zero off2, View.ld_unit_zero off2, View.ld_unit_zero off2]
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    refine (View.read_writes_full _ _ _ _ _).trans ?_
    exact (View.readAt_writes_full _ _ _ _ _ _).trans (hs _ _ _)
  iexists _; isplitr
  swap; · iexact HS
  ipureintro
  exact (View.read_writes_full _ _ _ _ _).trans (hs _ _ _)

end Body

variable (W : Dev nD → Valuation τ sig (Elt F))

/-- Window `w`'s block at point `t`, of the array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The accumulator after point `n`: the sum since the last point that is a multiple of four. -/
def acc1 (c : Dev nD) : (n : ℕ) → n < cfg1.N → FVec F S64x512 .f32
  | 0, h => k1_pay2 k1_pay1 (blk1 W c 0 ⟨0, h⟩) (blk1 W c 1 ⟨0, h⟩)
  | n + 1, h => k1_pay2 (if (n + 1) % 4 = 0 then k1_pay1 else acc1 c n (Nat.lt_of_succ_lt h)) (blk1 W c 0 ⟨n + 1, h⟩) (blk1 W c 1 ⟨n + 1, h⟩)

/-- The accumulator as the invariant holds it before point `k`: at anything before the first, else at the sum so far. -/
def held1 (c : Dev nD) (k : Fin (cfg1.N + 1)) : sProp 𝕄 :=
  match k with
  | ⟨0, _⟩ => iprop(∃ d, owns (c : Thread nD τ) (Memref.whole cc1_scratch0) fullShare d)
  | ⟨n + 1, h⟩ => owns (c : Thread nD τ) (Memref.whole cc1_scratch0) fullShare (acc1 W c n (Nat.lt_of_succ_lt_succ h))

/-- The region's data: the inputs stay, the output block is the accumulator. -/
def dat1 (c : Dev nD) : Dat τ (Elt F) Unit ℕ (UR sig nD τ) ℕ cfg1 c where
  A w := W c (Proc.devRef .tc (Pipeline.arrRef spec1 w))
  after w t := match w with
    | ⟨0, _⟩ => blk1 W c 0 t
    | ⟨1, _⟩ => blk1 W c 1 t
    | ⟨2, _⟩ => acc1 W c t.val t.isLt
  Φ k := iprop(held1 W c k ∗ Pipeline.scopedRestBut (Ix := Unit) (Name := ℕ) (U := UR sig nD τ) (Lvl := ℕ) (Val := Elt F) spec1 c [cc1_scratch0])
  q _ := fullShare
  owed _ := 0

theorem dat1_A (c : Dev nD) (w : Fin cfg1.W) : (dat1 W c).A w = W c (Proc.devRef .tc (Pipeline.arrRef spec1 w)) := by
  dsimp only [dat1]
theorem after1_0 (c : Dev nD) (t : Fin cfg1.N) : (dat1 W c).after 0 t = blk1 W c 0 t := by dsimp only [dat1]
theorem after1_1 (c : Dev nD) (t : Fin cfg1.N) : (dat1 W c).after 1 t = blk1 W c 1 t := by dsimp only [dat1]
theorem after1_2 (c : Dev nD) (t : Fin cfg1.N) : (dat1 W c).after 2 t = acc1 W c t.val t.isLt := by dsimp only [dat1]
theorem dat1_Φ (c : Dev nD) (k : Fin (cfg1.N + 1)) :
    (dat1 W c).Φ k = iprop(held1 W c k ∗ Pipeline.scopedRestBut (Ix := Unit) (Name := ℕ) (U := UR sig nD τ) (Lvl := ℕ) (Val := Elt F) spec1 c [cc1_scratch0]) := by
  dsimp only [dat1]

theorem before1_0 (c : Dev nD) (t : Fin cfg1.N) (d) : (dat1 W c).before 0 t d = blk1 W c 0 t :=
  ((dat1 W c).before_in_eq_fetched 0 rfl (fun _ => rfl) (fun _ _ _ => rfl) (fun t => by rw [after1_0]; unfold Dat.blockOf blk1; rw [dat1_A]; try rfl) t d).trans
    (by unfold Dat.fetched Dat.blockOf blk1; rw [dat1_A]; try rfl)
theorem before1_1 (c : Dev nD) (t : Fin cfg1.N) (d) : (dat1 W c).before 1 t d = blk1 W c 1 t :=
  ((dat1 W c).before_in_eq_fetched 1 rfl (fun _ => rfl) (fun _ _ _ => rfl) (fun t => by rw [after1_1]; unfold Dat.blockOf blk1; rw [dat1_A]; try rfl) t d).trans
    (by unfold Dat.fetched Dat.blockOf blk1; rw [dat1_A]; try rfl)

/-- What the accumulator holds after a point that starts a sum. -/
theorem acc1_clear (c : Dev nD) (t : Fin cfg1.N) (h : t.val % 4 = 0) :
    acc1 W c t.val t.isLt = k1_pay2 k1_pay1 (blk1 W c 0 t) (blk1 W c 1 t) := by
  obtain ⟨n, hn⟩ := t
  cases n with
  | zero => rfl
  | succ n => show k1_pay2 _ _ _ = _; rw [if_pos h]

/-- What the accumulator holds at any other point. -/
theorem acc1_add (c : Dev nD) (n : ℕ) (hn : n + 1 < cfg1.N) (h : ¬ (n + 1) % 4 = 0) :
    acc1 W c (n + 1) hn = k1_pay2 (acc1 W c n (Nat.lt_of_succ_lt hn)) (blk1 W c 0 ⟨n + 1, hn⟩) (blk1 W c 1 ⟨n + 1, hn⟩) := by
  show k1_pay2 _ _ _ = _; rw [if_neg h]

theorem held1_succ (c : Dev nD) (t : Fin cfg1.N) :
    held1 W c t.succ = owns (c : Thread nD τ) (Memref.whole cc1_scratch0) fullShare (acc1 W c t.val t.isLt) := rfl

theorem held1_any (c : Dev nD) (k : Fin (cfg1.N + 1)) :
    held1 W c k ⊢ iprop(∃ d, owns (c : Thread nD τ) (Memref.whole cc1_scratch0) fullShare d) := by
  obtain ⟨n, hn⟩ := k
  cases n with
  | zero => exact .rfl
  | succ n =>
    show owns _ _ _ _ ⊢ _
    iintro H; iexists _; iexact H

/-- What the output window's buffer is left at: what it held unless the point writes it out. -/
def left1 (c : Dev nD) (t : Fin cfg1.N) : sProp 𝕄 :=
  match cfg1.idle 2 (cfg1.grid.coords t) with
  | true =>
    match (cfg1.win 2).flush t with
    | false => iprop(∃ d, owns (c : Thread nD τ) (st1_2 t) fullShare ((dat1 W c).before 2 t d))
    | true => owns (c : Thread nD τ) (st1_2 t) fullShare ((dat1 W c).after 2 t)
  | false => owns (c : Thread nD τ) (st1_2 t) fullShare ((dat1 W c).after 2 t)

theorem left1_emits (c : Dev nD) (t : Fin cfg1.N) (h : emits (grid1.coords t)) :
    left1 W c t = owns (c : Thread nD τ) (st1_2 t) fullShare ((dat1 W c).after 2 t) := by
  have hi : cfg1.idle 2 (cfg1.grid.coords t) = false := by
    show (!(k1_cond2 (grid1.coords t) == 1#1)) = false
    rw [show k1_cond2 (grid1.coords t) = 1#1 from h]; rfl
  unfold left1; rw [hi]

theorem left1_not (c : Dev nD) (t : Fin cfg1.N) (h : ¬ emits (grid1.coords t)) :
    left1 W c t = iprop(∃ d, owns (c : Thread nD τ) (st1_2 t) fullShare ((dat1 W c).before 2 t d)) := by
  have hi : cfg1.idle 2 (cfg1.grid.coords t) = true := by
    show (!(k1_cond2 (grid1.coords t) == 1#1)) = true
    rw [Bool.not_eq_true', beq_eq_false_iff_ne]; exact h
  have hf : (cfg1.win 2).flush t = false := by
    rw [Bool.eq_false_iff]
    intro e; exact h ((emits_iff t).mpr ((flush1_2 t).mp e))
  unfold left1; rw [hi, hf]

/-- The body at any point of the region. -/
theorem point1 (c : Dev nD) (t : Fin cfg1.N) :
    iprop((dat1 W c).Φ t.castSucc ∗ (dat1 W c).owesAt () t.castSucc
      ∗ (∃ d, owns (c : Thread nD τ) (st1_0 t) fullShare ((dat1 W c).before 0 t d))
      ∗ (∃ d, owns (c : Thread nD τ) (st1_1 t) fullShare ((dat1 W c).before 1 t d))
      ∗ (∃ d, owns (c : Thread nD τ) (st1_2 t) fullShare ((dat1 W c).before 2 t d)))
    ⊢ wp frame (wpE (defs₀ (F := F)) Variants.none c none) Set.univ (bodyAt1 t) (fun _ =>
      iprop((dat1 W c).Φ t.succ ∗ (dat1 W c).owesAt () t.succ
        ∗ owns (c : Thread nD τ) (st1_0 t) fullShare ((dat1 W c).after 0 t)
        ∗ owns (c : Thread nD τ) (st1_1 t) fullShare ((dat1 W c).after 1 t)
        ∗ left1 W c t)) := by
  unfold bodyAt1
  simp only [before1_0, before1_1]
  rw [dat1_Φ, dat1_Φ, held1_succ,
    show (dat1 W c).owesAt () t.succ = (dat1 W c).owesAt () t.castSucc from rfl, after1_0, after1_1]
  by_cases hc : clears (grid1.coords t)
  · have h4 := (clears_iff t).mp hc
    have he : ¬ emits (grid1.coords t) := fun e => by have := (emits_iff t).mp e; omega
    rw [left1_not W c t he, acc1_clear W c t h4]
    iintro ⟨⟨HS, HΦ⟩, Ho, ⟨%d0, H0⟩, ⟨%d1, H1⟩, H2⟩
    ihave HS' := (held1_any W c t.castSucc) $$ HS
    iapply (fc1_first c Set.univ (grid1.coords t) _ _ _ _ _ _ _ _ (blk1 W c 0 t) (blk1 W c 1 t) hc he _)
    isplitl [H0]; · iexact H0
    isplitl [H1]; · iexact H1
    isplitl [HS']; · iexact HS'
    iintro ⟨H0, H1, HS⟩
    isplitl [HS HΦ]
    · isplitl [HS]; · iexact HS
      iexact HΦ
    isplitl [Ho]; · iexact Ho
    isplitl [H0]; · iexact H0
    isplitl [H1]; · iexact H1
    iexact H2
  · have h4 : ¬ t.val % 4 = 0 := fun e => hc ((clears_iff t).mpr e)
    obtain ⟨n, hn⟩ := t
    obtain _ | n := n
    · exact absurd rfl h4
    rw [show held1 W c (Fin.castSucc ⟨n + 1, hn⟩) = owns (c : Thread nD τ) (Memref.whole cc1_scratch0) fullShare (acc1 W c n (Nat.lt_of_succ_lt hn)) from rfl]
    by_cases he : emits (grid1.coords ⟨n + 1, hn⟩)
    · rw [left1_emits W c _ he, after1_2]
      simp only [acc1_add W c n hn h4]
      iintro ⟨⟨HS, HΦ⟩, Ho, ⟨%d0, H0⟩, ⟨%d1, H1⟩, ⟨%d2, H2⟩⟩
      iapply (fc1_last c Set.univ (grid1.coords ⟨n + 1, hn⟩) _ _ _ _ _ _ _ _ (blk1 W c 0 ⟨n + 1, hn⟩) (blk1 W c 1 ⟨n + 1, hn⟩) (acc1 W c n (Nat.lt_of_succ_lt hn)) hc he _)
      isplitl [H0]; · iexact H0
      isplitl [H1]; · iexact H1
      isplitl [H2]; · iexists _; iexact H2
      isplitl [HS]; · iexact HS
      iintro ⟨H0, H1, H2, HS⟩
      isplitl [HS HΦ]
      · isplitl [HS]; · iexact HS
        iexact HΦ
      isplitl [Ho]; · iexact Ho
      isplitl [H0]; · iexact H0
      isplitl [H1]; · iexact H1
      iexact H2
    · rw [left1_not W c _ he]
      simp only [acc1_add W c n hn h4]
      iintro ⟨⟨HS, HΦ⟩, Ho, ⟨%d0, H0⟩, ⟨%d1, H1⟩, H2⟩
      iapply (fc1_middle c Set.univ (grid1.coords ⟨n + 1, hn⟩) _ _ _ _ _ _ _ _ (blk1 W c 0 ⟨n + 1, hn⟩) (blk1 W c 1 ⟨n + 1, hn⟩) (acc1 W c n (Nat.lt_of_succ_lt hn)) hc he _)
      isplitl [H0]; · iexact H0
      isplitl [H1]; · iexact H1
      isplitl [HS]; · iexact HS
      iintro ⟨H0, H1, HS⟩
      isplitl [HS HΦ]
      · isplitl [HS]; · iexact HS
        iexact HΦ
      isplitl [Ho]; · iexact Ho
      isplitl [H0]; · iexact H0
      isplitl [H1]; · iexact H1
      iexact H2

theorem row1 (t : Fin cfg1.N) : defs₀ (F := F) .tc cfg1.body (cfg1.bodyArgs t (cfg1.slots t)) = bodyAt1 t := by
  unfold defs₀; rw [Defs.onTc_tc]

/-- The body's obligation at every point of the region. -/
theorem obl1 (c : Dev nD) : BodyObligation (dat1 W c) (defs₀ (F := F)) Variants.none () Set.univ := fun t => by
  rw [bigSep_W1, bigSep_W1, row1]
  exact triple_restated (point1 W c t) rfl .rfl fun _ => .rfl

end Cert.KernelIdeal.Hand

end
-- ==== Proof.KernI.Run.lean ====
module

public import proofs.«01_k».proof.Proof.KernI.Fused
public import proofs.«01_k».proof.Proof.KernI.Fc1
public import proofs.«01_k».proof.Proof.Gen.KernelIdeal.Regions
public import Idealize.ShloMosaic.Lib.Pipeline.RegionArraysS

@[expose] public section

set_option maxRecDepth 16384

/-! # The run of the three calls and the host operations between them -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The word table as the first call finds it. -/
def tbl : (pcfg0 (F := F)).Adm := ⟨fun k => V5 m 0 (Proc.devRef .tc (pre0.ref k)), trivial⟩

/-- The tables of the three calls: only the first has one. -/
def tbls : (p : Fin 3) → (pcfgs (F := F) p).Adm
  | ⟨0, _⟩ => tbl m
  | ⟨1, _⟩ => cfg1.toPCfg_adm
  | ⟨2, _⟩ => cfg2.toPCfg_adm
  | ⟨n + 3, h⟩ => absurd h (by omega)

/-- Every word of the table names a layer that exists. -/
def Words : Prop := ∀ (t : Fin (cfg0 (tbl m)).N) (k : Fin k0_t1_loop.trips), k0_chk1 (word (F := F) ((tbl m).1 0) (grid0.coords t) k)

variable (hX : Words m)

/-- What the first call leaves. -/
def o6 (c : Dev nD) : Buf (Elt F) ((c : Thread nD τ).loc main_v68) := (dat0 (tbl m) (V5 m) hX c).arrAt (18 : Fin 19) (cfg0 (tbl m)).N

/-- The buffers when the second call is entered. -/
def W7 (c : Dev nD) : Valuation τ sig (Elt F) := StableHlo.after hostOps1 (Function.update (V5 m c) main_v68 (o6 m hX c))

/-- What the second call leaves. -/
def o8 (c : Dev nD) : Buf (Elt F) ((c : Thread nD τ).loc main_v72) := (dat1 (W7 m hX) c).arrAt 2 cfg1.N

/-- The buffers when the third call is entered. -/
def W9 (c : Dev nD) : Valuation τ sig (Elt F) := StableHlo.after hostOps2 (Function.update (W7 m hX c) main_v72 (o8 m hX c))

/-- What the third call leaves. -/
def o10 (c : Dev nD) : Buf (Elt F) ((c : Thread nD τ).loc main_v75) := (dat2 (W9 m hX) c).arrAt 4 cfg2.N

/-- What the calls leave, by item. -/
def outs : Outs (F := F) := fun n r c =>
  if n = 6 then Function.update (V5 m c) main_v68 (o6 m hX c) r
  else if n = 8 then Function.update (W7 m hX c) main_v72 (o8 m hX c) r
  else Function.update (W9 m hX c) main_v75 (o10 m hX c) r

theorem outs6 (c : Dev nD) : outs m hX 6 main_v68 c = o6 m hX c := by
  unfold outs; rw [if_pos rfl]; exact Function.update_self ..
theorem outs8 (c : Dev nD) : outs m hX 8 main_v72 c = o8 m hX c := by
  unfold outs; rw [if_neg (by decide), if_pos rfl]; exact Function.update_self ..
theorem outs10 (c : Dev nD) : outs m hX 10 main_v75 c = o10 m hX c := by
  unfold outs; rw [if_neg (by decide), if_neg (by decide)]; exact Function.update_self ..

theorem V7_eq (c : Dev nD) : V7 m (outs m hX) c = W7 m hX c := by
  unfold V7 V6 W7; rw [outs6]
theorem V8_eq (c : Dev nD) : V8 m (outs m hX) c = Function.update (W7 m hX c) main_v72 (o8 m hX c) := by
  unfold V8; rw [outs8, V7_eq]
theorem V9_eq (c : Dev nD) : V9 m (outs m hX) c = W9 m hX c := by
  unfold V9 W9; rw [V8_eq]
theorem V10_eq (c : Dev nD) : V10 m (outs m hX) c = Function.update (W9 m hX c) main_v75 (o10 m hX c) := by
  unfold V10; rw [outs10, V9_eq]

/-- The data of the three calls. -/
def pdats : (p : Fin 3) → (c : Dev nD) → Dat τ (Elt F) Unit ℕ (UR sig nD τ) ℕ (Pipeline.pin (pcfgs (F := F)) (tbls m) p) c
  | ⟨0, _⟩ => dat0 (tbl m) (V5 m) hX
  | ⟨1, _⟩ => dat1 (W7 m hX)
  | ⟨2, _⟩ => dat2 (W9 m hX)
  | ⟨n + 3, h⟩ => absurd h (by omega)

/-- One level, at every counter of a core. -/
def Lf : GSem nD τ sig → Finset Unit := fun g => if g.1.2 = .tc then {()} else ∅
abbrev lvf : GSem nD τ sig → Unit → ℕ := fun _ _ => 0
theorem Lf_tc (g : GSem nD τ sig) (h : g.1.2 ≠ .tc) : Lf g = ∅ := if_neg h

/-- Nothing is owed. -/
abbrev D0 : Dev nD → CellTallies nD τ sig Unit := fun _ => 0

theorem cut (p : Fin 3) : Pipeline.LevelCut (pcfgs (F := F)) (tbls m) () Lf lvf p D0 (fun _ => 0) :=
  ⟨fun c w s => by unfold Lf; rw [if_pos rfl]; exact Finset.mem_singleton_self _, fun _ _ _ => le_refl _, fun c g i h => absurd h (lt_irrefl 0)⟩

abbrev uc : Finset (DevRef τ sig) := Pipeline.ucRefs τ sig
abbrev none' : Dev nD → sProp 𝕄 := fun _ => iprop(emp)

/-- The buffers after a region are the buffers before with the one output replaced. -/
theorem after_eq {cfg : Cfg sig Λ₀} {c : Dev nD} (dat : Dat τ (Elt F) Unit ℕ (UR sig nD τ) ℕ cfg c) (V : Valuation τ sig (Elt F))
    (hinj : Function.Injective (Pipeline.arrRef cfg.spec)) (hA : ∀ w, dat.A w = V (Proc.devRef .tc (Pipeline.arrRef cfg.spec w)))
    (w : Fin cfg.W) (hw : ∀ w', (cfg.win w').isOut = true → w' = w) (o : Buf (Elt F) ((c : Thread nD τ).loc (Pipeline.arrRef cfg.spec w))) (ho : dat.arrAt w cfg.N = o) :
    ∀ b ∈ uc, Pipeline.afterRegion dat V b = Function.update V (Proc.devRef .tc (Pipeline.arrRef cfg.spec w)) o b := by
  intro b hb
  obtain ⟨r, -, rfl⟩ := Finset.mem_map.mp (Finset.mem_filter.mp hb).1
  by_cases h : r = Pipeline.arrRef cfg.spec w
  · subst h
    exact (Pipeline.afterRegion_arr dat V hinj w).trans (ho.trans (Function.update_self (Proc.devRef .tc (Pipeline.arrRef cfg.spec w)) o V).symm)
  · refine (Pipeline.afterRegion_keeps dat V hinj hA r fun w' e => ?_).trans (Function.update_of_ne (StableHlo.devRef_ne_of_ne h) _ _).symm
    rw [← Bool.not_eq_true]
    intro hout
    exact h (e.symm.trans (congrArg _ (hw w' hout)))

theorem enter0 (c : Dev nD) : iprop((Pipeline.scopedRest (τ := τ) (Ix := Unit) (Name := ℕ) (U := UR sig nD τ) (Lvl := ℕ) (Val := Elt F) spec0 c ∗ emp) ∗ Pipeline.prefHeld (τ := τ) (Ix := Unit) (Name := ℕ) (U := UR sig nD τ) (Lvl := ℕ) pre0 c (fun _ => fullShare) (tbl m).1) ⊢ iprop(Pipeline.scopedRest (τ := τ) (Ix := Unit) (Name := ℕ) (U := UR sig nD τ) (Lvl := ℕ) (Val := Elt F) spec0 c ∗ Pipeline.prefHeld (τ := τ) (Ix := Unit) (Name := ℕ) (U := UR sig nD τ) (Lvl := ℕ) pre0 c (fun _ => fullShare) (tbl m).1) := by
  iintro ⟨⟨H, -⟩, T⟩
  isplitl [H]; · iexact H
  iexact T

theorem leave0 (c : Dev nD) : iprop(Pipeline.scopedRest (τ := τ) (Ix := Unit) (Name := ℕ) (U := UR sig nD τ) (Lvl := ℕ) (Val := Elt F) spec0 c ∗ Pipeline.prefHeld (τ := τ) (Ix := Unit) (Name := ℕ) (U := UR sig nD τ) (Lvl := ℕ) pre0 c (fun _ => fullShare) (tbl m).1) ⊢ iprop((Pipeline.scopedRest (τ := τ) (Ix := Unit) (Name := ℕ) (U := UR sig nD τ) (Lvl := ℕ) (Val := Elt F) spec0 c ∗ emp) ∗ Pipeline.prefHeld (τ := τ) (Ix := Unit) (Name := ℕ) (U := UR sig nD τ) (Lvl := ℕ) pre0 c (fun _ => fullShare) (tbl m).1) := by
  iintro ⟨H, T⟩
  isplitl [H]
  · isplitl [H]; · iexact H
    iempintro
  iexact T

theorem enter1 (c : Dev nD) : iprop(Pipeline.scopedRest (τ := τ) (Ix := Unit) (Name := ℕ) (U := UR sig nD τ) (Lvl := ℕ) (Val := Elt F) spec1 c ∗ emp) ⊢ iprop(held1 (W7 m hX) c 0 ∗ Pipeline.scopedRestBut (τ := τ) (Ix := Unit) (Name := ℕ) (U := UR sig nD τ) (Lvl := ℕ) (Val := Elt F) spec1 c [cc1_scratch0]) := by
  rw [scopedRest1_split]
  iintro ⟨⟨⟨%f, H⟩, R⟩, -⟩
  isplitl [H]
  · iapply (show iprop(∃ d, owns (c : Thread nD τ) (Memref.whole cc1_scratch0) fullShare d) ⊢ held1 (W7 m hX) c 0 from .rfl)
    unfold owns
    iexists f, f
    isplitr; · ipureintro; rfl
    rw [show (Memref.whole cc1_scratch0).view.set = Finset.univ from View.set_whole _]
    iexact H
  iexact R

theorem leave1 (c : Dev nD) : iprop(held1 (W7 m hX) c (Fin.last _) ∗ Pipeline.scopedRestBut (τ := τ) (Ix := Unit) (Name := ℕ) (U := UR sig nD τ) (Lvl := ℕ) (Val := Elt F) spec1 c [cc1_scratch0]) ⊢ iprop(Pipeline.scopedRest (τ := τ) (Ix := Unit) (Name := ℕ) (U := UR sig nD τ) (Lvl := ℕ) (Val := Elt F) spec1 c ∗ emp) := by
  rw [scopedRest1_split]
  iintro ⟨H, R⟩
  ihave H' := (held1_any (W7 m hX) c (Fin.last _)) $$ H
  unfold owns
  icases H' with ⟨%d, %f, -, H⟩
  isplitl [H R]
  · isplitl [H]
    · iexists f
      rw [show (Memref.whole cc1_scratch0).view.set = Finset.univ from View.set_whole _]
      iexact H
    iexact R
  iempintro

theorem enter2 (c : Dev nD) : iprop(Pipeline.scopedRest (τ := τ) (Ix := Unit) (Name := ℕ) (U := UR sig nD τ) (Lvl := ℕ) (Val := Elt F) spec2 c ∗ emp) ⊢ Pipeline.scopedRest (τ := τ) (Ix := Unit) (Name := ℕ) (U := UR sig nD τ) (Lvl := ℕ) (Val := Elt F) spec2 c := by
  iintro ⟨H, -⟩; iexact H
theorem leave2 (c : Dev nD) : Pipeline.scopedRest (τ := τ) (Ix := Unit) (Name := ℕ) (U := UR sig nD τ) (Lvl := ℕ) (Val := Elt F) spec2 c ⊢ iprop(Pipeline.scopedRest (τ := τ) (Ix := Unit) (Name := ℕ) (U := UR sig nD τ) (Lvl := ℕ) (Val := Elt F) spec2 c ∗ emp) := by
  iintro H
  isplitl [H]; · iexact H
  iempintro

set_option backward.isDefEq.respectTransparency.types false in
/-- The first call's record. -/
def R0 : RegionSeg (pcfgs (F := F)) (tbls m) (pdats m hX) () defs₀ Variants.none Lf lvf 0 :=
  RegionSeg.ofHeldInT (pcfgs (F := F)) (tbls m) (pdats m hX) () defs₀ Variants.none Lf lvf 0 D0 uc none' none' launch0
    (fun c => (obl0 (tbl m) (V5 m) hX c).loose) (fun _ _ => rfl) (fun _ => rfl)
    (fun c => (dat0 (tbl m) (V5 m) hX c).share_full fun _ => rfl)
    (fun c => enter0 m c) (fun c => leave0 m c)
    (fun _ => 0) (cut m 0) none' (V5 m) (fun c w => dat0_A (tbl m) (V5 m) hX c w)
    (fun c k => by rw [Subsingleton.elim c 0]; rfl)

set_option backward.isDefEq.respectTransparency.types false in
/-- The second call's record. -/
def R1 : RegionSeg (pcfgs (F := F)) (tbls m) (pdats m hX) () defs₀ Variants.none Lf lvf 1 :=
  RegionSeg.ofHeldIn (pcfgs (F := F)) (tbls m) (pdats m hX) () defs₀ Variants.none Lf lvf 1 D0 uc none' none' launch1 rfl
    (fun c => (obl1 (W7 m hX) c).loose) (fun _ _ => rfl) (fun _ => rfl)
    (fun c => (dat1 (W7 m hX) c).share_full fun _ => rfl)
    (fun c => enter1 m hX c) (fun c => leave1 m hX c)
    (fun _ => 0) (cut m 1) none' (W7 m hX) (fun c w => dat1_A (W7 m hX) c w)

set_option backward.isDefEq.respectTransparency.types false in
/-- The third call's record. -/
def R2 : RegionSeg (pcfgs (F := F)) (tbls m) (pdats m hX) () defs₀ Variants.none Lf lvf 2 :=
  RegionSeg.ofHeldIn (pcfgs (F := F)) (tbls m) (pdats m hX) () defs₀ Variants.none Lf lvf 2 D0 uc none' none' launch2 rfl
    (fun c => (obl2 (W9 m hX) c).loose) (fun _ _ => rfl) (fun _ => rfl)
    (fun c => (dat2 (W9 m hX) c).share_full fun _ => rfl)
    (fun c => enter2 c) (fun c => leave2 c)
    (fun _ => 0) (cut m 2) none' (W9 m hX) (fun c w => dat2_A (W9 m hX) c w)

/-- What a core holds besides its buffers between the items. -/
def E (c : Dev nD) : sProp 𝕄 := iprop((∃ W, owes (c : Thread nD τ) (0 : CellTallies nD τ sig Unit) W) ∗ emp ∗ emp)

theorem sub0 : Pipeline.arrRefs (τ := τ) (pcfgs (F := F) 0).spec ⊆ uc :=
  Pipeline.arrRefs_sub_ucRefs _ (show ∀ w, (Pipeline.arrRef spec0 w).isScoped = false by decide)
theorem sub0' : Pipeline.tblRefs (τ := τ) (pcfgs (F := F) 0).pre ⊆ uc := Pipeline.tblRefs_sub_ucRefs _ (show ∀ k, (pre0.ref k).isScoped = false by decide)
theorem sub1 : Pipeline.arrRefs (τ := τ) (pcfgs (F := F) 1).spec ⊆ uc :=
  Pipeline.arrRefs_sub_ucRefs _ (show ∀ w, (Pipeline.arrRef spec1 w).isScoped = false by decide)
theorem sub2 : Pipeline.arrRefs (τ := τ) (pcfgs (F := F) 2).spec ⊆ uc :=
  Pipeline.arrRefs_sub_ucRefs _ (show ∀ w, (Pipeline.arrRef spec2 w).isScoped = false by decide)

set_option backward.isDefEq.respectTransparency.types false in
theorem pre0' (c : Dev nD) : iprop(StableHlo.held (c : Thread nD τ) (Pipeline.ucRefs τ sig) (V5 m c) ∗ E (F := F) c) ⊢ (R0 m hX).pre c := by
  unfold R0 E
  exact RegionSeg.ofHeldInT_pre (D := D0) (X := none') (R := none') sub0 sub0' c
set_option backward.isDefEq.respectTransparency.types false in
theorem pre1' (c : Dev nD) : iprop(StableHlo.held (c : Thread nD τ) (Pipeline.ucRefs τ sig) (V7 m (outs m hX) c) ∗ E (F := F) c) ⊢ (R1 m hX).pre c := by
  rw [V7_eq]
  unfold R1 E
  exact RegionSeg.ofHeldIn_pre (D := D0) (X := none') (R := none') sub1 c
set_option backward.isDefEq.respectTransparency.types false in
theorem pre2' (c : Dev nD) : iprop(StableHlo.held (c : Thread nD τ) (Pipeline.ucRefs τ sig) (V9 m (outs m hX) c) ∗ E (F := F) c) ⊢ (R2 m hX).pre c := by
  rw [V9_eq]
  unfold R2 E
  exact RegionSeg.ofHeldIn_pre (D := D0) (X := none') (R := none') sub2 c

theorem only0 : ∀ w' : Fin 19, (win0 (F := F) (tbl m) w').isOut = true → w' = 18 :=
  show ∀ w' : Fin 19, (spec0 w').isOut = true → w' = 18 by decide
theorem only1 : ∀ w' : Fin 3, (win1 w').isOut = true → w' = 2 := by decide
theorem only2 : ∀ w' : Fin 5, (win2 w').isOut = true → w' = 4 := by decide

set_option backward.isDefEq.respectTransparency.types false in
theorem post0' (c : Dev nD) : (R0 m hX).post c ⊢ iprop(StableHlo.held (c : Thread nD τ) (Pipeline.ucRefs τ sig) (V6 m (outs m hX) c) ∗ E (F := F) c) := by
  rw [show StableHlo.held (Ix := Unit) (Name := ℕ) (U := UR sig nD τ) (Lvl := ℕ) (c.tc : Thread nD τ) uc (V6 m (outs m hX) c)
      = StableHlo.held (c.tc : Thread nD τ) uc (Pipeline.afterRegion (pdats m hX 0 c) (V5 m c)) from ?_]
  · unfold R0 E
    exact RegionSeg.ofHeldInT_post (D := D0) (Y := none') (R := none') sub0 sub0' c
  · unfold V6; rw [outs6]
    exact (StableHlo.held_congr (c.tc : Thread nD τ) (after_eq (F := F) (dat0 (tbl m) (V5 m) hX c) (V5 m c) (launch0 (F := F)).win.arr_inj
      (fun w => dat0_A (tbl m) (V5 m) hX c w) (18 : Fin 19) (only0 m) (o6 m hX c) rfl)).symm

set_option backward.isDefEq.respectTransparency.types false in
theorem post1' (c : Dev nD) : (R1 m hX).post c ⊢ iprop(StableHlo.held (c : Thread nD τ) (Pipeline.ucRefs τ sig) (V8 m (outs m hX) c) ∗ E (F := F) c) := by
  rw [show StableHlo.held (Ix := Unit) (Name := ℕ) (U := UR sig nD τ) (Lvl := ℕ) (c.tc : Thread nD τ) uc (V8 m (outs m hX) c)
      = StableHlo.held (c.tc : Thread nD τ) uc (Pipeline.afterRegion (pdats m hX 1 c) (W7 m hX c)) from ?_]
  · unfold R1 E
    exact RegionSeg.ofHeldIn_post (D := D0) (Y := none') (R := none') sub1 c
  · rw [V8_eq]
    exact (StableHlo.held_congr (c.tc : Thread nD τ) (after_eq (F := F) (dat1 (W7 m hX) c) (W7 m hX c) (launch1 (F := F)).win.arr_inj
      (fun w => dat1_A (W7 m hX) c w) (2 : Fin 3) only1 (o8 m hX c) rfl)).symm

set_option backward.isDefEq.respectTransparency.types false in
theorem post2' (c : Dev nD) : (R2 m hX).post c ⊢ iprop(StableHlo.held (c : Thread nD τ) (Pipeline.ucRefs τ sig) (V10 m (outs m hX) c) ∗ E (F := F) c) := by
  rw [show StableHlo.held (Ix := Unit) (Name := ℕ) (U := UR sig nD τ) (Lvl := ℕ) (c.tc : Thread nD τ) uc (V10 m (outs m hX) c)
      = StableHlo.held (c.tc : Thread nD τ) uc (Pipeline.afterRegion (pdats m hX 2 c) (W9 m hX c)) from ?_]
  · unfold R2 E
    exact RegionSeg.ofHeldIn_post (D := D0) (Y := none') (R := none') sub2 c
  · rw [V10_eq]
    exact (StableHlo.held_congr (c.tc : Thread nD τ) (after_eq (F := F) (dat2 (W9 m hX) c) (W9 m hX c) (launch2 (F := F)).win.arr_inj
      (fun w => dat2_A (W9 m hX) c w) (4 : Fin 5) only2 (o10 m hX c) rfl)).symm

theorem leaveE {c : Dev nD} : E (F := F) c ⊢ (iprop(∃ W, owes (c : Thread nD τ) (0 : CellTallies nD τ sig Unit) W) : sProp 𝕄) := by
  unfold E
  iintro ⟨H, -⟩
  iexact H

theorem enterE : iprop((bigSep Finset.univ fun c : Dev nD => iprop(unscopedSems0 c ∗ owes (c : Thread nD τ) (0 : CellTallies nD τ sig Unit) ∅
      ∗ Pipeline.launchCred (fun _ => 0) c ∗ prngReg c (ρ c) ∗ emp)) ∗ levAts Lf lvf)
    ⊢ (|={Set.univ}=> bigSep Finset.univ (E (F := F)) : sProp 𝕄) := by
  have h : (bigSep Finset.univ fun c : Dev nD => iprop(unscopedSems0 c ∗ owes (c : Thread nD τ) (0 : CellTallies nD τ sig Unit) ∅
      ∗ Pipeline.launchCred (fun _ => 0) c ∗ prngReg c (ρ c) ∗ emp)) ⊢ (bigSep Finset.univ (E (F := F)) : sProp 𝕄) := by
    refine bigSep_mono fun c _ => ?_
    change (_ : sProp 𝕄) ⊢ E (F := F) c
    unfold E
    iintro ⟨-, H, -⟩
    isplitl [H]
    · iexists ∅; iexact H
    isplitl [] <;> iempintro
  iintro ⟨H, -⟩
  imodintro
  iapply h
  iexact H

theorem ghost : (ownU (initOf (Pipeline.cells (Pipeline.pin (pcfgs (F := F)) (tbls m)) (cellOf_inj (tbls m))) (Pipeline.launchToks (Pipeline.pin (pcfgs (F := F)) (tbls m)) (cellOf_inj (tbls m)))) : sProp 𝕄)
    ⊢ |={Set.univ}=> iprop(BI.own (emb₁ (initOf (Pipeline.cells (Pipeline.pin (pcfgs (F := F)) (tbls m)) (cellOf_inj (tbls m))) (Pipeline.launchToks (Pipeline.pin (pcfgs (F := F)) (tbls m)) (cellOf_inj (tbls m)))))
      ∗ bigSep Finset.univ (fun _ : Dev nD => (BI.emp : sProp 𝕄))) := by
  iintro Hu
  imodintro
  isplitl [Hu]
  · iapply (show (ownU _ : sProp 𝕄) ⊢ BI.own (emb₁ (initOf (Pipeline.cells (Pipeline.pin (pcfgs (F := F)) (tbls m)) (cellOf_inj (tbls m))) (Pipeline.launchToks (Pipeline.pin (pcfgs (F := F)) (tbls m)) (cellOf_inj (tbls m))))) from .rfl)
    iexact Hu
  iapply (show (BI.emp : sProp 𝕄) ⊢ bigSep Finset.univ (fun _ : Dev nD => BI.emp) from by rw [BI.bigSep_emp_const])
  iempintro

set_option backward.isDefEq.respectTransparency.types false in
/-- Every run ends, its buffers at the last valuation and every counter at zero. -/
theorem run : θ_run defs (onTc (τ := τ) (main (F := F))) ⟨m, fun _ => 0, ρ⟩ (fun r =>
    (∀ c : Dev nD, ∀ b ∈ Pipeline.ucRefs τ sig, r.2.mem ((c : Thread nD τ).1, b) = V10 m (outs m hX) c b) ∧ r.2.sem = fun _ => 0) := by
  refine Pipeline.θ_run_regions_kit_dev_sems (pcfgs (F := F)) (tbls m) (pdats m hX) () (cellOf_inj (tbls m)) emb₁ defs₀ Variants.none Lf lvf m ρ main
    (segs m (outs m hX) Variants.none Lf lvf (fun _ => E) () (tbls m) (pdats m hX) (R0 m hX) (R1 m hX) (R2 m hX))
    (fun c Q => by
      rewrite [main_chain c, Seg.run_eq_chain,
        show (segs m (outs m hX) Variants.none Lf lvf (fun _ => E) () (tbls m) (pdats m hX) (R0 m hX) (R1 m hX) (R2 m hX) c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      dsimp (config := { failIfUnchanged := false }) only
      exact .rfl)
    (fun c => by simp only [segs, Seg.pipes_host, Seg.pipes_region, Seg.pipes_nil]; decide) (fun _ => 0) Lf_tc (fun _ => (BI.emp : sProp 𝕄))
    (initOf (Pipeline.cells (Pipeline.pin (pcfgs (F := F)) (tbls m)) (cellOf_inj (tbls m))) (Pipeline.launchToks (Pipeline.pin (pcfgs (F := F)) (tbls m)) (cellOf_inj (tbls m)))) (ghost m)
    (T₀ := fun c => iprop(StableHlo.held (c : Thread nD τ) (Pipeline.ucRefs τ sig) (V0 m c) ∗ E c))
    (Tₙ := fun c => StableHlo.held (c : Thread nD τ) (Pipeline.ucRefs τ sig) (V10 m (outs m hX) c))
    (hch := fun c => ⟨.rfl, .rfl, .rfl, .rfl, .rfl, pre0' m hX c, post0' m hX c, pre1' m hX c, post1' m hX c, pre2' m hX c,
      (post2' m hX c).trans (sep_mono .rfl leaveE)⟩)
    (hinit := ?_) (QY := fun c s => ∀ b ∈ Pipeline.ucRefs τ sig, s.mem ((c : Thread nD τ).1, b) = V10 m (outs m hX) c b)
    (hfin := fun c s' => ?_) (hQ := fun _ h hz => ⟨h, funext fun g => hz g (.inr (regions_no_unscoped g.2))⟩)
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅ ∗ Pipeline.launchCred (fun _ => 0) c ∗ prngReg c (ρ c) ∗ emp))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod enterE ρ $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V10 m (outs m hX) c) s') $$ [Hh HSI]
    · isplitl [Hh] <;> iassumption
    icases Hr with ⟨%h, HSI⟩
    imodintro
    isplitr
    · ipureintro
      exact fun b hb => h b hb
    · iexact HSI

end Cert.KernelIdeal.Hand

end
-- ==== Proof.KernI.Words.lean ====
module

public import proofs.«01_k».proof.Proof.KernI.Run
public import Idealize.ShloMosaic.Lib.ValueIdxCore
public import Idealize.ShloMosaic.Lib.StableHlo.RunClose

@[expose] public section

set_option maxRecDepth 16384

/-! # The table of words: what the host makes of the tokens, and that every word names a layer that exists -/

noncomputable section

namespace Cert.KernelIdeal.Hand

open Cert.KernelIdeal Cert.KernelIdeal.Gen
open Idealize.ShloMosaic Idealize.ShloMosaic.TcCoe Idealize.ShloMosaic.ValueIdx
open Idealize.SL.Sem

variable {F : FTy → Type} [FloatOps F]

/-- A table index made non-negative, as the host does it before a lookup of `n` entries. -/
def wrapT (n : BitVec 32) (p : IVec S64x25 32) : IVec S64x25 32 :=
  select (cmpi .slt p (broadcastInDim S64x25 ![] bcast_S_S64x25 (constantI S_ 32 0#32)))
    (addi p (broadcastInDim S64x25 ![] bcast_S_S64x25 (constantI S_ 32 n))) p

/-- The kind of layer each token stands for. -/
def kindT (p : IVec S64x25 32) : IVec S64x25 32 :=
  Host.gather gather_S21_S64x25x1_S64x25_n_0_n_n_0_2_1 (fun i => lit0 (S21.rowMajor i))
    (broadcastInDim S64x25x1 ![0, 1] bcast_S64x25_S64x25x1_0_1 (wrapT 21#32 p))

/-- The table of words, of the tokens. -/
def codeT (p : IVec S64x25 32) : IVec S64x25 32 :=
  ori (ori (Host.shli (Host.gather gather_S4_S64x25x1_S64x25_n_0_n_n_0_2_1 (fun i => lit2 (S4.rowMajor i))
        (broadcastInDim S64x25x1 ![0, 1] bcast_S64x25_S64x25x1_0_1 (wrapT 4#32 (kindT (Host.reverse [1] p)))))
        (broadcastInDim S64x25 ![] bcast_S_S64x25 (constantI S_ 32 6#32)))
      (Host.shli (select (cmpi .eq (kindT (Host.reverse [1] p)) (broadcastInDim S64x25 ![] bcast_S_S64x25 (constantI S_ 32 1#32)))
        (broadcastInDim S64x25 ![] bcast_S_S64x25 (constantI S_ 32 1#32)) (broadcastInDim S64x25 ![] bcast_S_S64x25 (constantI S_ 32 0#32)))
        (broadcastInDim S64x25 ![] bcast_S_S64x25 (constantI S_ 32 5#32))))
    (Host.gather gather_S21_S64x25x1_S64x25_n_0_n_n_0_2_1 (fun i => lit1 (S21.rowMajor i))
      (broadcastInDim S64x25x1 ![0, 1] bcast_S64x25_S64x25x1_0_1 (wrapT 21#32 (Host.reverse [1] p))))

variable (m : (ℓ : Loc nD τ sig) → Buf (Elt F) ℓ)

set_option maxHeartbeats 4000000 in
theorem table_val (c : Dev nD) : V5 m c (Proc.devRef .tc main_v33) = codeT (m ((c.tc : Thread nD τ).loc main_arg1)) := by
  unfold codeT kindT wrapT
  simp only [V5, V4, V3, V2, V1, V0, hostOps0_4, hostOps0_3, hostOps0_2, hostOps0_1, hostOps0]
  after_results_entrywise []

end Cert.KernelIdeal.Hand

end
-- ==== Proof.KernI.Tab.lean ====
module

public import proofs.«01_k».proof.Proof.KernI.Words
public import Idealize.ShloMosaic.Lib.Pointwise

@[expose] public section

set_option maxRecDepth 16384

/-! # The words, one by one -/

noncomputable section

namespace Cert.KernelIdeal.Hand

open Cert.KernelIdeal Cert.KernelIdeal.Gen
open Idealize.ShloMosaic Idealize.ShloMosaic.TcCoe Idealize.ShloMosaic.ValueIdx
open Idealize.SL.Sem

variable {F : FTy → Type} [FloatOps F]

/-- One index made non-negative. -/
def wrap (n w : BitVec 32) : BitVec 32 := Scalar.select (IntOp.cmpi .slt w 0#32) (IntOp.addi w n) w
/-- The entry of a table of 21 a token reads. -/
def entry (w : BitVec 32) : Fin 21 := ⟨min (wrap 21#32 w).toInt.toNat 20, by omega⟩
/-- The arm of a kind of layer. -/
def arm (k : BitVec 32) : BitVec 32 := lit2 ⟨min (wrap 4#32 k).toInt.toNat 3, by omega⟩
/-- The word of an entry. -/
def tab (q : Fin 21) : BitVec 32 :=
  IntOp.ori (IntOp.ori (IntOp.shli .host (arm (lit0 q)) 6#32)
    (IntOp.shli .host (Scalar.select (IntOp.cmpi .eq (lit0 q) 1#32) 1#32 0#32) 5#32)) (lit1 q)

theorem row21 (i : Fin 21) : S21.rowMajor (ValueIdx.ix1 i) = i := Fin.ext (Shape.rowMajor_val_one _)
theorem row4 (i : Fin 4) : S4.rowMajor (ValueIdx.ix1 i) = i := Fin.ext (Shape.rowMajor_val_one _)

theorem wrapT_apply (n : BitVec 32) (p : IVec S64x25 32) (j : S64x25.Idx) : wrapT n p j = wrap n (p j) := rfl

theorem col_apply (v : IVec S64x25 32) (y : S64x25.Idx) :
    broadcastInDim S64x25x1 ![0, 1] bcast_S64x25_S64x25x1_0_1 v (takeIdx y) = v y := by
  unfold broadcastInDim
  refine congrArg v (funext fun a => ?_)
  match a with
  | ⟨0, _⟩ => rfl
  | ⟨1, _⟩ => rfl

/-- A lookup in a table of 21 words. -/
theorem take21 (f : Fin 21 → BitVec 32) (v : IVec S64x25 32) (j : S64x25.Idx) :
    Host.gather gather_S21_S64x25x1_S64x25_n_0_n_n_0_2_1 (fun i => f (S21.rowMajor i))
      (broadcastInDim S64x25x1 ![0, 1] bcast_S64x25_S64x25x1_0_1 v) j = f ⟨min (v j).toInt.toNat 20, by omega⟩ := by
  refine (gather_take_apply (N := 21) (R := 64) (C := 25) (by decide) gather_S21_S64x25x1_S64x25_n_0_n_n_0_2_1_wf _ _ j).trans ?_
  rw [row21]
  refine congrArg f (Fin.ext ?_)
  show min _ 20 = min _ 20
  rw [col_apply]

/-- A lookup in a table of 4 words. -/
theorem take4 (f : Fin 4 → BitVec 32) (v : IVec S64x25 32) (j : S64x25.Idx) :
    Host.gather gather_S4_S64x25x1_S64x25_n_0_n_n_0_2_1 (fun i => f (S4.rowMajor i))
      (broadcastInDim S64x25x1 ![0, 1] bcast_S64x25_S64x25x1_0_1 v) j = f ⟨min (v j).toInt.toNat 3, by omega⟩ := by
  refine (gather_take_apply (N := 4) (R := 64) (C := 25) (by decide) gather_S4_S64x25x1_S64x25_n_0_n_n_0_2_1_wf _ _ j).trans ?_
  rw [row4]
  refine congrArg f (Fin.ext ?_)
  show min _ 3 = min _ 3
  rw [col_apply]

theorem kindT_apply (p : IVec S64x25 32) (j : S64x25.Idx) : kindT p j = lit0 (entry (p j)) := take21 lit0 _ j

/-- The word put together of its three parts, one entry at a time. -/
theorem parts_apply (A K B : IVec S64x25 32) (j : S64x25.Idx) :
    ori (ori (Host.shli A (broadcastInDim S64x25 ![] bcast_S_S64x25 (constantI S_ 32 6#32)))
      (Host.shli (select (cmpi .eq K (broadcastInDim S64x25 ![] bcast_S_S64x25 (constantI S_ 32 1#32)))
        (broadcastInDim S64x25 ![] bcast_S_S64x25 (constantI S_ 32 1#32)) (broadcastInDim S64x25 ![] bcast_S_S64x25 (constantI S_ 32 0#32)))
        (broadcastInDim S64x25 ![] bcast_S_S64x25 (constantI S_ 32 5#32)))) B j
      = IntOp.ori (IntOp.ori (IntOp.shli .host (A j) 6#32) (IntOp.shli .host (Scalar.select (IntOp.cmpi .eq (K j) 1#32) 1#32 0#32) 5#32)) (B j) := rfl

theorem arm_apply (K : IVec S64x25 32) (j : S64x25.Idx) :
    Host.gather gather_S4_S64x25x1_S64x25_n_0_n_n_0_2_1 (fun i => lit2 (S4.rowMajor i))
        (broadcastInDim S64x25x1 ![0, 1] bcast_S64x25_S64x25x1_0_1 (wrapT 4#32 K)) j = arm (K j) := by
  refine (take4 lit2 (wrapT 4#32 K) j).trans ?_
  unfold arm
  refine congrArg lit2 (Fin.ext ?_)
  show min _ 3 = min _ 3
  rw [wrapT_apply]

theorem codeT_apply (p : IVec S64x25 32) (j : S64x25.Idx) : codeT p j = tab (entry (Host.reverse [1] p j)) := by
  have h1 : kindT (Host.reverse [1] p) j = lit0 (entry (Host.reverse [1] p j)) := kindT_apply _ j
  have h2 : Host.gather gather_S4_S64x25x1_S64x25_n_0_n_n_0_2_1 (fun i => lit2 (S4.rowMajor i))
        (broadcastInDim S64x25x1 ![0, 1] bcast_S64x25_S64x25x1_0_1 (wrapT 4#32 (kindT (Host.reverse [1] p)))) j
      = arm (kindT (Host.reverse [1] p) j) := arm_apply _ j
  have h3 : Host.gather gather_S21_S64x25x1_S64x25_n_0_n_n_0_2_1 (fun i => lit1 (S21.rowMajor i))
      (broadcastInDim S64x25x1 ![0, 1] bcast_S64x25_S64x25x1_0_1 (wrapT 21#32 (Host.reverse [1] p))) j
      = lit1 (entry (Host.reverse [1] p j)) := take21 lit1 _ j
  unfold codeT
  refine (parts_apply _ _ _ j).trans ?_
  rw [h2, h3, h1]
  rfl

/-- Every word of the table names a layer that exists. -/
theorem tab_ok : ∀ q : Fin 21, k0_chk1 (tab q) := by decide +kernel

variable (m : (ℓ : Loc nD τ sig) → Buf (Elt F) ℓ)

theorem off1_0 (i : grid0.Coords) (k : Fin k0_t1_loop.trips) : k0_off1 i k 0 + 0 = (i 0).val :=
  (by decide +kernel : ∀ n : Fin 64, (Scalar.indexCast (BitVec.ofNat 32 n.val)).toNat + 0 = n.val) (i 0)
theorem off1_1 (i : grid0.Coords) (k : Fin k0_t1_loop.trips) : k0_off1 i k 1 + 0 = k.val :=
  (by decide +kernel : ∀ k : Fin k0_t1_loop.trips, (Scalar.indexCast (Scf.iv 0#32 1#32 k)).toNat + 0 = k.val) k

theorem word_tbl (i : grid0.Coords) (k : Fin k0_t1_loop.trips) :
    ∃ j : S64x25.Idx, (j 0).val = (i 0).val ∧ (j 1).val = k.val
      ∧ word (F := F) ((tbl m).1 0) i k = tab (entry (Host.reverse [1] (m (((0 : Dev nD).tc : Thread nD τ).loc main_arg1)) j)) := by
  refine ⟨(Rect.unit (s := S64x25) (k0_off1 i k) S1x1.size (k0_off1_inb i k)).idx (Shape.Idx.first (numel1_S1x1.symm ▸ Nat.one_pos)), ?_, ?_, ?_⟩
  · show k0_off1 i k 0 + 0 = _
    exact off1_0 i k
  · show k0_off1 i k 1 + 0 = _
    exact off1_1 i k
  · refine Eq.trans ?_ (codeT_apply _ _)
    exact congrFun (table_val m 0) _

theorem words : Words m := fun t k => by
  obtain ⟨j, -, -, h⟩ := word_tbl m (grid0.coords t) k
  rw [h]
  exact tab_ok _

end Cert.KernelIdeal.Hand

end
-- ==== Proof.KernI.Frame.lean ====
module

public import proofs.«01_k».proof.Proof.KernI.Tab

@[expose] public section

set_option maxRecDepth 16384

/-! # The frame: the arguments come back unchanged and every semaphore ends at zero -/

noncomputable section

namespace Cert.KernelIdeal.Hand

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

/-- A host buffer at the end, from the run's word on all of them. -/
theorem endsAt {mem : (ℓ : Loc nD τ sig) → Buf (Elt F) ℓ}
    (h : ∀ c : Dev nD, ∀ b ∈ Pipeline.ucRefs τ sig, mem ((c : Thread nD τ).1, b) = V10 m (outs m (words m)) c b)
    (c : Dev nD) (b : Ref sig .tc) (hb : (Proc.devRef (τ := τ) .tc b).isScoped = false) {v : Buf (Elt F) ((c : Thread nD τ).loc b)}
    (hv : V10 m (outs m (words m)) c b = v) : mem ((c : Thread nD τ).loc b) = v :=
  (h c (Proc.devRef .tc b) (Finset.mem_filter.mpr ⟨StableHlo.devRef_mem_tcRefs b, by simp [hb]⟩)).trans hv

/-- The run, with its arguments as launched. -/
theorem frame : θ_run defs (onTc (τ := τ) (main (F := F))) ⟨m, fun _ => 0, ρ⟩ (fun r =>
    (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) ∧ r.2.sem = fun _ => 0) :=
  (θ_run defs _ _).mono (fun _ h => ⟨fun c => ⟨
      endsAt m h.1 c main_arg0 (by decide) (V10_main_arg0 m _ c),
      endsAt m h.1 c main_arg1 (by decide) (V10_main_arg1 m _ c),
      endsAt m h.1 c main_arg2 (by decide) (V10_main_arg2 m _ c),
      endsAt m h.1 c main_arg3 (by decide) (V10_main_arg3 m _ c),
      endsAt m h.1 c main_arg4 (by decide) (V10_main_arg4 m _ c),
      endsAt m h.1 c main_arg5 (by decide) (V10_main_arg5 m _ c),
      endsAt m h.1 c main_arg6 (by decide) (V10_main_arg6 m _ c),
      endsAt m h.1 c main_arg7 (by decide) (V10_main_arg7 m _ c),
      endsAt m h.1 c main_arg8 (by decide) (V10_main_arg8 m _ c),
      endsAt m h.1 c main_arg9 (by decide) (V10_main_arg9 m _ c),
      endsAt m h.1 c main_arg10 (by decide) (V10_main_arg10 m _ c),
      endsAt m h.1 c main_arg11 (by decide) (V10_main_arg11 m _ c),
      endsAt m h.1 c main_arg12 (by decide) (V10_main_arg12 m _ c),
      endsAt m h.1 c main_arg13 (by decide) (V10_main_arg13 m _ c),
      endsAt m h.1 c main_arg14 (by decide) (V10_main_arg14 m _ c),
      endsAt m h.1 c main_arg15 (by decide) (V10_main_arg15 m _ c),
      endsAt m h.1 c main_arg16 (by decide) (V10_main_arg16 m _ c),
      endsAt m h.1 c main_arg17 (by decide) (V10_main_arg17 m _ c),
      endsAt m h.1 c main_arg18 (by decide) (V10_main_arg18 m _ c),
      endsAt m h.1 c main_arg19 (by decide) (V10_main_arg19 m _ c),
      endsAt m h.1 c main_arg20 (by decide) (V10_main_arg20 m _ c),
      endsAt m h.1 c main_arg21 (by decide) (V10_main_arg21 m _ c)⟩, h.2⟩) (run m ρ (words m))

end Cert.KernelIdeal.Hand

end
-- ==== Proof.Math.Spec.lean ====
module

public import Idealize.ShloMosaic.Lib.Pointwise

@[expose] public section

/-! # The network's mathematics over the extended reals

An image is a function of a channel, a row and a column. -/

noncomputable section

namespace Cert.Net

/-- An image of `C` channels. -/
abbrev Img (C : ℕ) := Fin C → Fin 14 → Fin 14 → EReal

/-- The image with a border of one zero: row and column counted from the border. -/
def padd {C : ℕ} (x : Img C) (c : Fin C) (r q : ℕ) : EReal :=
  if h : (1 ≤ r ∧ r ≤ 14) ∧ (1 ≤ q ∧ q ≤ 14) then x c ⟨r - 1, by omega⟩ ⟨q - 1, by omega⟩ else 0

/-- A weight of a 3 by 3 convolution: window position, output channel, input channel. -/
abbrev Wt (C : ℕ) := Fin 9 → Fin 128 → Fin C → EReal

/-- A 3 by 3 convolution with a border of zeros. -/
def conv3 {C : ℕ} (w : Wt C) (x : Img C) : Img 128 := fun o h v =>
  ∑ k : Fin 9, ∑ c : Fin C, w k o c * padd x c (h.val + k.val / 3) (v.val + k.val % 3)

/-- A convolution, its bias and its positive part. -/
def layer {C : ℕ} (w : Wt C) (b : Fin 128 → EReal) (x : Img C) : Img 128 := fun o h v => max (conv3 w x o h v + b o) 0

/-- A residual block. -/
def block (w1 : Wt 128) (b1 : Fin 128 → EReal) (w2 : Wt 128) (b2 : Fin 128 → EReal) (x : Img 128) : Img 128 := fun o h v =>
  max (x o h v + (conv3 w2 (layer w1 b1 x) o h v + b2 o)) 0

/-- The projection in front of a binary module. -/
def joint (wa wb : Fin 128 → Fin 128 → EReal) (b : Fin 128 → EReal) (x s : Img 128) : Img 128 := fun o h v =>
  max ((∑ c, wa o c * x c h v) + (∑ c, wb o c * s c h v) + b o) 0

/-- The modules' parameters. -/
structure Par where
  uw1 : Fin 11 → Wt 128
  ub1 : Fin 11 → Fin 128 → EReal
  uw2 : Fin 11 → Wt 128
  ub2 : Fin 11 → Fin 128 → EReal
  wa : Fin 6 → Fin 128 → Fin 128 → EReal
  wb : Fin 6 → Fin 128 → Fin 128 → EReal
  bp : Fin 6 → Fin 128 → EReal
  bw1 : Fin 6 → Wt 128
  bb1 : Fin 6 → Fin 128 → EReal
  bw2 : Fin 6 → Wt 128
  bb2 : Fin 6 → Fin 128 → EReal

/-- The kind of a token: 0 does nothing, 1 is the scene, 2 a unary module, 3 a binary one. -/
def kind (q : Fin 21) : ℕ := if q.val < 4 then 0 else if q.val = 4 then 1 else if q.val < 15 then 2 else 3
/-- The unary module of a token. -/
def unary (q : Fin 21) : Fin 11 := if h : 4 ≤ q.val ∧ q.val < 15 then ⟨q.val - 4, by omega⟩ else 0
/-- The binary module of a token. -/
def binary (q : Fin 21) : Fin 6 := if h : 15 ≤ q.val then ⟨q.val - 15, by omega⟩ else 0

/-- One token of the program: from the output and the saved image to the next ones. -/
def step (p : Par) (feat : Img 128) (q : Fin 21) (a : Img 128 × Img 128) : Img 128 × Img 128 :=
  if kind q = 0 then a
  else if kind q = 1 then (block (p.uw1 (unary q)) (p.ub1 (unary q)) (p.uw2 (unary q)) (p.ub2 (unary q)) feat, a.1)
  else if kind q = 2 then (block (p.uw1 (unary q)) (p.ub1 (unary q)) (p.uw2 (unary q)) (p.ub2 (unary q)) a.1, a.2)
  else (block (p.bw1 (binary q)) (p.bb1 (binary q)) (p.bw2 (binary q)) (p.bb2 (binary q))
    (joint (p.wa (binary q)) (p.wb (binary q)) (p.bp (binary q)) a.1 a.2), a.2)

/-- The images after `n` tokens. -/
def after (p : Par) (feat : Img 128) (q : ℕ → Fin 21) : ℕ → Img 128 × Img 128
  | 0 => (feat, feat)
  | n + 1 => step p feat (q n) (after p feat q n)

/-- The image the network's modules leave: the stem, then the 25 tokens. -/
def modules (p : Par) (w1 : Wt 1024) (b1 : Fin 128 → EReal) (w2 : Wt 128) (b2 : Fin 128 → EReal) (q : ℕ → Fin 21) (x : Img 1024) : Img 128 :=
  (after p (layer w2 b2 (layer w1 b1 x)) q 25).1

/-- The classifier at one pixel. -/
def classify (w : Fin 512 → Fin 128 → EReal) (b : Fin 512 → EReal) (x : Img 128) (o : Fin 512) (h v : Fin 14) : EReal :=
  max ((∑ c, w o c * x c h v) + b o) 0

/-- The maximum over a 2 by 2 window of the classifier. -/
def pooled (w : Fin 512 → Fin 128 → EReal) (b : Fin 512 → EReal) (x : Img 128) (o : Fin 512) (i j : Fin 7) : EReal :=
  max (max (classify w b x o ⟨2 * i, by omega⟩ ⟨2 * j, by omega⟩) (classify w b x o ⟨2 * i, by omega⟩ ⟨2 * j + 1, by omega⟩))
    (max (classify w b x o ⟨2 * i + 1, by omega⟩ ⟨2 * j, by omega⟩) (classify w b x o ⟨2 * i + 1, by omega⟩ ⟨2 * j + 1, by omega⟩))

theorem padd_inside {C : ℕ} (x : Img C) (c : Fin C) (h v : Fin 14) : padd x c (h.val + 1) (v.val + 1) = x c h v := by
  unfold padd
  rw [dif_pos (by omega)]
  rfl

end Cert.Net

end
-- ==== Proof.Math.Lanes.lean ====
module

public import proofs.«01_k».proof.Proof.KernI.Fun
public import proofs.«01_k».proof.Proof.Math.Spec
public import Idealize.ShloMosaic.Lib.Pointwise

@[expose] public section

set_option maxRecDepth 16384

/-! # The fused call's layout: images in 256 lanes -/

noncomputable section

namespace Cert.KernelIdeal.Hand

open Cert.KernelIdeal Cert.KernelIdeal.Gen Cert.Net
open Idealize.ShloMosaic Idealize.ShloMosaic.TcCoe

/-- The lane a window position of a pixel reads. -/
def tap (k : Fin 9) (h v : Fin 14) : Fin 256 := ⟨(h.val + k.val / 3) * 16 + (v.val + k.val % 3), by omega⟩
/-- The lane of a pixel. -/
abbrev lane (h v : Fin 14) : Fin 256 := tap 4 h v

variable (y : FVec Ideal S128x256 .f32) (o : Fin 128) (h v : Fin 14)

theorem rollR17_of (s t : Fin 256) (e : t.val = (s.val + 239) % 256) : rollR17 y (ix2 o s) = y (ix2 o t) := by
  pointwise [rollR17]; split <;> exact congrArg (fun i => y (ix2 o i)) (Fin.ext (by dsimp only; omega))
theorem rollR17_at : rollR17 y (ix2 o (lane h v)) = y (ix2 o (tap 0 h v)) := rollR17_of y o _ _ (by show (h.val + 0) * 16 + (v.val + 0) = ((h.val + 1) * 16 + (v.val + 1) + 239) % 256; omega)
theorem rollR16_of (s t : Fin 256) (e : t.val = (s.val + 240) % 256) : rollR16 y (ix2 o s) = y (ix2 o t) := by
  pointwise [rollR16]; split <;> exact congrArg (fun i => y (ix2 o i)) (Fin.ext (by dsimp only; omega))
theorem rollR16_at : rollR16 y (ix2 o (lane h v)) = y (ix2 o (tap 1 h v)) := rollR16_of y o _ _ (by show (h.val + 0) * 16 + (v.val + 1) = ((h.val + 1) * 16 + (v.val + 1) + 240) % 256; omega)
theorem rollR15_of (s t : Fin 256) (e : t.val = (s.val + 241) % 256) : rollR15 y (ix2 o s) = y (ix2 o t) := by
  pointwise [rollR15]; split <;> exact congrArg (fun i => y (ix2 o i)) (Fin.ext (by dsimp only; omega))
theorem rollR15_at : rollR15 y (ix2 o (lane h v)) = y (ix2 o (tap 2 h v)) := rollR15_of y o _ _ (by show (h.val + 0) * 16 + (v.val + 2) = ((h.val + 1) * 16 + (v.val + 1) + 241) % 256; omega)
theorem rollR1_of (s t : Fin 256) (e : t.val = (s.val + 255) % 256) : rollR1 y (ix2 o s) = y (ix2 o t) := by
  pointwise [rollR1]; split <;> exact congrArg (fun i => y (ix2 o i)) (Fin.ext (by dsimp only; omega))
theorem rollR1_at : rollR1 y (ix2 o (lane h v)) = y (ix2 o (tap 3 h v)) := rollR1_of y o _ _ (by show (h.val + 1) * 16 + (v.val + 0) = ((h.val + 1) * 16 + (v.val + 1) + 255) % 256; omega)
theorem rollL1_of (s t : Fin 256) (e : t.val = (s.val + 1) % 256) : rollL1 y (ix2 o s) = y (ix2 o t) := by
  pointwise [rollL1]; split <;> exact congrArg (fun i => y (ix2 o i)) (Fin.ext (by dsimp only; omega))
theorem rollL1_at : rollL1 y (ix2 o (lane h v)) = y (ix2 o (tap 5 h v)) := rollL1_of y o _ _ (by show (h.val + 1) * 16 + (v.val + 2) = ((h.val + 1) * 16 + (v.val + 1) + 1) % 256; omega)
theorem rollL15_of (s t : Fin 256) (e : t.val = (s.val + 15) % 256) : rollL15 y (ix2 o s) = y (ix2 o t) := by
  pointwise [rollL15]; split <;> exact congrArg (fun i => y (ix2 o i)) (Fin.ext (by dsimp only; omega))
theorem rollL15_at : rollL15 y (ix2 o (lane h v)) = y (ix2 o (tap 6 h v)) := rollL15_of y o _ _ (by show (h.val + 2) * 16 + (v.val + 0) = ((h.val + 1) * 16 + (v.val + 1) + 15) % 256; omega)
theorem rollL16_of (s t : Fin 256) (e : t.val = (s.val + 16) % 256) : rollL16 y (ix2 o s) = y (ix2 o t) := by
  pointwise [rollL16]; split <;> exact congrArg (fun i => y (ix2 o i)) (Fin.ext (by dsimp only; omega))
theorem rollL16_at : rollL16 y (ix2 o (lane h v)) = y (ix2 o (tap 7 h v)) := rollL16_of y o _ _ (by show (h.val + 2) * 16 + (v.val + 1) = ((h.val + 1) * 16 + (v.val + 1) + 16) % 256; omega)
theorem rollL17_of (s t : Fin 256) (e : t.val = (s.val + 17) % 256) : rollL17 y (ix2 o s) = y (ix2 o t) := by
  pointwise [rollL17]; split <;> exact congrArg (fun i => y (ix2 o i)) (Fin.ext (by dsimp only; omega))
theorem rollL17_at : rollL17 y (ix2 o (lane h v)) = y (ix2 o (tap 8 h v)) := rollL17_of y o _ _ (by show (h.val + 2) * 16 + (v.val + 2) = ((h.val + 1) * 16 + (v.val + 1) + 17) % 256; omega)

theorem nine_at (y : Fin 9 → FVec Ideal S128x256 .f32) :
    nine y (ix2 o (lane h v)) = ∑ k : Fin 9, y k (ix2 o (tap k h v)) := by
  unfold nine
  show ((((((((y 4 (ix2 o (lane h v)) + rollR17 (y 0) (ix2 o (lane h v))) + rollR16 (y 1) (ix2 o (lane h v))) + rollR15 (y 2) (ix2 o (lane h v))) + rollR1 (y 3) (ix2 o (lane h v)))
    + rollL1 (y 5) (ix2 o (lane h v))) + rollL15 (y 6) (ix2 o (lane h v))) + rollL16 (y 7) (ix2 o (lane h v))) + rollL17 (y 8) (ix2 o (lane h v)) : EReal) = _
  rw [rollR17_at, rollR16_at, rollR15_at, rollR1_at, rollL1_at, rollL15_at, rollL16_at, rollL17_at]
  simp only [Fin.sum_univ_succ, Fin.sum_univ_zero]
  show _ = (y 0 (ix2 o (tap 0 h v)) + (y 1 (ix2 o (tap 1 h v)) + (y 2 (ix2 o (tap 2 h v)) + (y 3 (ix2 o (tap 3 h v)) + (y 4 (ix2 o (tap 4 h v)) + (y 5 (ix2 o (tap 5 h v)) + (y 6 (ix2 o (tap 6 h v)) + (y 7 (ix2 o (tap 7 h v)) + (y 8 (ix2 o (tap 8 h v)) + 0)))))))) : EReal)
  abel

theorem dotW_at (w : Vec Ideal S1x1x128x128 .f32) (x : FVec Ideal S128x256 .f32) (o : Fin 128) (s : Fin 256) :
    dotW w x (ix2 o s) = ∑ c : Fin 128, w (ix4 0 0 o c) * x (ix2 c s) := by
  pointwise [dotW]

theorem dotX_at (w : Vec Ideal S1x128x1024 .f32) (x : FVec Ideal S1024x256 .f32) (o : Fin 128) (s : Fin 256) :
    dotX w x (ix2 o s) = ∑ c : Fin 1024, w (ix3 0 o c) * x (ix2 c s) := by
  pointwise [dotX]

theorem dotP_at (w : Vec Ideal S1x128x128 .f32) (x : FVec Ideal S128x256 .f32) (o : Fin 128) (s : Fin 256) :
    dotP w x (ix2 o s) = ∑ c : Fin 128, w (ix3 0 o c) * x (ix2 c s) := by
  pointwise [dotP]

/-- The mask's bit at a lane. -/
theorem mask_bit : ∀ s : Fin 256, IntOp.andi
        (IntOp.andi
          (IntOp.andi
            (IntOp.cmpi CmpIPredicate.sge (IntOp.shrsi ArithUnit.vector (BitVec.ofNat 32 s.val) 4#32) 1#32)
            (IntOp.cmpi CmpIPredicate.sle (IntOp.shrsi ArithUnit.vector (BitVec.ofNat 32 s.val) 4#32) 14#32))
          (IntOp.cmpi CmpIPredicate.sge (IntOp.andi (BitVec.ofNat 32 s.val) 15#32) 1#32))
        (IntOp.cmpi CmpIPredicate.sle (IntOp.andi (BitVec.ofNat 32 s.val) 15#32) 14#32)
      = if (1 ≤ s.val / 16 ∧ s.val / 16 ≤ 14) ∧ (1 ≤ s.val % 16 ∧ s.val % 16 ≤ 14) then 1#1 else 0#1 := by decide +kernel

theorem inside_at (o : Fin 128) (s : Fin 256) :
    (inside (F := Ideal)) (ix2 o s) = if (1 ≤ s.val / 16 ∧ s.val / 16 ≤ 14) ∧ (1 ≤ s.val % 16 ∧ s.val % 16 ≤ 14) then 1 else 0 := by
  pointwise [inside, k0_pay22]
  rw [mask_bit]
  split
  · exact ValueIdx.select_one _ _
  · exact ValueIdx.select_zero _ _

/-- An array of 256 lanes that holds an image with its border of zeros. -/
def Holds {C : ℕ} (A : FVec Ideal ⟨2, ![C, 256]⟩ .f32) (x : Img C) : Prop :=
  ∀ (c : Fin C) (s : Fin 256), A (ix2 c s) = padd x c (s.val / 16) (s.val % 16)

theorem Holds.tap {C : ℕ} {A : FVec Ideal ⟨2, ![C, 256]⟩ .f32} {x : Img C} (H : Holds A x) (c : Fin C) (k : Fin 9) (h v : Fin 14) :
    A (ix2 c (tap k h v)) = padd x c (h.val + k.val / 3) (v.val + k.val % 3) := by
  rw [H]
  unfold Hand.tap
  dsimp only
  congr 1 <;> omega

theorem Holds.lane {C : ℕ} {A : FVec Ideal ⟨2, ![C, 256]⟩ .f32} {x : Img C} (H : Holds A x) (c : Fin C) (h v : Fin 14) :
    A (ix2 c (lane h v)) = x c h v :=
  (H.tap c 4 h v).trans (padd_inside x c h v)

/-- The mask puts the border of zeros around whatever stands at the pixels' lanes. -/
theorem holds_masked {z : FVec Ideal S128x256 .f32} {x : Img 128} (H : ∀ o h v, z (ix2 o (lane h v)) = x o h v) : Holds (mulf z inside) x := by
  intro c s
  show (z (ix2 c s) * inside (F := Ideal) (ix2 c s) : EReal) = _
  rw [inside_at]
  unfold padd
  split
  · rename_i hs
    rw [mul_one, ← H]
    congr 2
    apply Fin.ext
    unfold Hand.lane Hand.tap
    dsimp only
    show s.val = (s.val / 16 - 1 + 4 / 3) * 16 + (s.val % 16 - 1 + 4 % 3)
    omega
  · exact mul_zero _

theorem conv_at {w : Fin 9 → Vec Ideal S1x1x128x128 .f32} {W : Wt 128} (hw : ∀ k o c, w k (ix4 0 0 o c) = W k o c)
    {A : FVec Ideal S128x256 .f32} {x : Img 128} (H : Holds A x) (o : Fin 128) (h v : Fin 14) :
    conv w A (ix2 o (lane h v)) = conv3 W x o h v := by
  unfold conv conv3
  rw [nine_at]
  refine Finset.sum_congr rfl fun k _ => ?_
  rw [dotW_at]
  refine Finset.sum_congr rfl fun c _ => ?_
  rw [hw, H.tap]

theorem conv0_at {w : Fin 9 → Vec Ideal S1x128x1024 .f32} {W : Wt 1024} (hw : ∀ k o c, w k (ix3 0 o c) = W k o c)
    {A : FVec Ideal S1024x256 .f32} {x : Img 1024} (H : Holds A x) (o : Fin 128) (h v : Fin 14) :
    nine (fun k => dotX (w k) A) (ix2 o (lane h v)) = conv3 W x o h v := by
  unfold conv3
  rw [nine_at]
  refine Finset.sum_congr rfl fun k _ => ?_
  rw [dotX_at]
  refine Finset.sum_congr rfl fun c _ => ?_
  rw [hw, H.tap]

theorem relu_at (x : FVec Ideal S128x256 .f32) (o : Fin 128) (s : Fin 256) : relu x (ix2 o s) = max (x (ix2 o s)) 0 := by
  pointwise [relu]

theorem bias_at (b : Vec Ideal S1x128x256 .f32) (o : Fin 128) (s : Fin 256) : bias b (ix2 o s) = b (ix3 0 o s) := by
  pointwise [bias]

theorem bias0_at (b : Vec Ideal S128x256 .f32) (o : Fin 128) (s : Fin 256) : bias0 b (ix2 o s) = b (ix2 o s) := by
  pointwise [bias0]

theorem addf_at (x y : FVec Ideal S128x256 .f32) (i : S128x256.Idx) : addf x y i = (x i + y i : EReal) := rfl

theorem layer_holds {w : Fin 9 → Vec Ideal S1x1x128x128 .f32} {W : Wt 128} (hw : ∀ k o c, w k (ix4 0 0 o c) = W k o c)
    {b : FVec Ideal S128x256 .f32} {β : Fin 128 → EReal} (hb : ∀ o s, b (ix2 o s) = β o)
    {A : FVec Ideal S128x256 .f32} {x : Img 128} (H : Holds A x) :
    Holds (mulf (relu (addf (conv w A) b)) inside) (layer W β x) :=
  holds_masked fun o h v => by rw [relu_at, addf_at, conv_at hw H, hb]; rfl

theorem layer0_holds {w : Fin 9 → Vec Ideal S1x128x1024 .f32} {W : Wt 1024} (hw : ∀ k o c, w k (ix3 0 o c) = W k o c)
    {b : FVec Ideal S128x256 .f32} {β : Fin 128 → EReal} (hb : ∀ o s, b (ix2 o s) = β o)
    {A : FVec Ideal S1024x256 .f32} {x : Img 1024} (H : Holds A x) :
    Holds (mulf (relu (addf (nine fun k => dotX (w k) A) b)) inside) (layer W β x) :=
  holds_masked fun o h v => by rw [relu_at, addf_at, conv0_at hw H, hb]; rfl

theorem resid_holds {w1 w2 : Fin 9 → Vec Ideal S1x1x128x128 .f32} {W1 W2 : Wt 128} (hw1 : ∀ k o c, w1 k (ix4 0 0 o c) = W1 k o c)
    (hw2 : ∀ k o c, w2 k (ix4 0 0 o c) = W2 k o c) {b1 b2 : Vec Ideal S1x128x256 .f32} {β1 β2 : Fin 128 → EReal}
    (hb1 : ∀ o s, b1 (ix3 0 o s) = β1 o) (hb2 : ∀ o s, b2 (ix3 0 o s) = β2 o)
    {A : FVec Ideal S128x256 .f32} {x : Img 128} (H : Holds A x) :
    Holds (resid inside A w1 b1 w2 b2) (block W1 β1 W2 β2 x) :=
  holds_masked fun o h v => by
    rw [relu_at, addf_at, addf_at, H.lane, conv_at hw2 (layer_holds hw1 (fun o s => (bias_at b1 o s).trans (hb1 o s)) H), bias_at, hb2]
    rfl

theorem joined_holds {wa wb : Vec Ideal S1x128x128 .f32} {Wa Wb : Fin 128 → Fin 128 → EReal} (ha : ∀ o c, wa (ix3 0 o c) = Wa o c)
    (hb : ∀ o c, wb (ix3 0 o c) = Wb o c) {b : Vec Ideal S1x128x256 .f32} {β : Fin 128 → EReal} (hβ : ∀ o s, b (ix3 0 o s) = β o)
    {A B : FVec Ideal S128x256 .f32} {x s : Img 128} (HA : Holds A x) (HB : Holds B s) :
    Holds (joined inside A B wa wb b) (joint Wa Wb β x s) :=
  holds_masked fun o h v => by
    rw [relu_at, addf_at, addf_at, dotP_at, dotP_at, bias_at, hβ]
    simp only [HA.lane, HB.lane, ha, hb]
    rfl

theorem stem_holds {x : Vec Ideal S1x1024x256 .f32} {X : Img 1024} (hx : ∀ c s, x (ix3 0 c s) = padd X c (s.val / 16) (s.val % 16))
    {w1 : Fin 9 → Vec Ideal S1x128x1024 .f32} {W1 : Wt 1024} (hw1 : ∀ k o c, w1 k (ix3 0 o c) = W1 k o c)
    {w2 : Fin 9 → Vec Ideal S1x1x128x128 .f32} {W2 : Wt 128} (hw2 : ∀ k o c, w2 k (ix4 0 0 o c) = W2 k o c)
    {b1 b2 : Vec Ideal S128x256 .f32} {β1 β2 : Fin 128 → EReal} (hb1 : ∀ o s, b1 (ix2 o s) = β1 o) (hb2 : ∀ o s, b2 (ix2 o s) = β2 o) :
    Holds (stem inside x w1 b1 w2 b2) (layer W2 β2 (layer W1 β1 X)) :=
  layer_holds hw2 (fun o s => (bias0_at b2 o s).trans (hb2 o s)) (layer0_holds hw1 (fun o s => (bias0_at b1 o s).trans (hb1 o s))
    (fun c s => by rw [← hx]; pointwise))

end Cert.KernelIdeal.Hand

end
-- ==== Proof.Math.Step.lean ====
module

public import proofs.«01_k».proof.Proof.KernI.Tab
public import proofs.«01_k».proof.Proof.Math.Lanes

@[expose] public section

set_option maxRecDepth 16384

/-! # The fused call on one image is the network's modules and the pooled classifier -/

noncomputable section

namespace Cert.KernelIdeal.Hand

open Cert.KernelIdeal Cert.KernelIdeal.Gen Cert.Net
open Idealize.ShloMosaic Idealize.ShloMosaic.TcCoe

/-! ## What a word says -/

theorem cond1_tab : ∀ q : Fin 21, k0_cond1 (tab q) = 1#1 ↔ kind q ≠ 0 := by decide +kernel
theorem cond2_tab : ∀ q : Fin 21, kind q ≠ 0 → (k0_cond2 (tab q) = 1#1 ↔ kind q = 3) := by decide +kernel
theorem scene_tab : ∀ q : Fin 21, isScene (tab q) = if kind q = 1 then 1#1 else 0#1 := by decide +kernel

theorem offBin : ∀ q : Fin 21, kind q = 3 →
    k0_off5 (tab q) = ![(binary q).val, 0, 0, 0] ∧ k0_off6 (tab q) = ![(binary q).val, 1, 0, 0] ∧ k0_off7 (tab q) = ![(binary q).val, 2, 0, 0]
    ∧ k0_off8 (tab q) = ![(binary q).val, 3, 0, 0] ∧ k0_off4 (tab q) = ![(binary q).val, 4, 0, 0] ∧ k0_off9 (tab q) = ![(binary q).val, 5, 0, 0]
    ∧ k0_off10 (tab q) = ![(binary q).val, 6, 0, 0] ∧ k0_off11 (tab q) = ![(binary q).val, 7, 0, 0] ∧ k0_off12 (tab q) = ![(binary q).val, 8, 0, 0] := by
  decide +kernel

theorem offBinP : ∀ q : Fin 21, kind q = 3 → k0_off2 (tab q) = ![(binary q).val, 0, 0] ∧ k0_off3 (tab q) = ![(binary q).val, 0, 0] := by
  decide +kernel

theorem offUn : ∀ q : Fin 21, kind q ≠ 0 → kind q ≠ 3 →
    k0_off14 (tab q) = ![(unary q).val, 0, 0, 0] ∧ k0_off15 (tab q) = ![(unary q).val, 1, 0, 0] ∧ k0_off16 (tab q) = ![(unary q).val, 2, 0, 0]
    ∧ k0_off17 (tab q) = ![(unary q).val, 3, 0, 0] ∧ k0_off13 (tab q) = ![(unary q).val, 4, 0, 0] ∧ k0_off18 (tab q) = ![(unary q).val, 5, 0, 0]
    ∧ k0_off19 (tab q) = ![(unary q).val, 6, 0, 0] ∧ k0_off20 (tab q) = ![(unary q).val, 7, 0, 0] ∧ k0_off21 (tab q) = ![(unary q).val, 8, 0, 0]
    ∧ k0_off22 (tab q) = ![(unary q).val, 0, 0] := by
  decide +kernel

/-! ## The loads -/

theorem ld4 {n : ℕ} (x : Vec Ideal ⟨4, ![n, 9, 128, 128]⟩ .f32) (off : Fin 4 → ℕ) (h) (u : Fin n) (k : Fin 9) (e : off = ![u.val, k.val, 0, 0]) (o c : Fin 128) :
    View.ld x (Rect.unit (s := ⟨4, ![n, 9, 128, 128]⟩) off S1x1x128x128.size h) (ix4 0 0 o c) = x (ix4 u k o c) := by
  subst e
  refine congrArg x (funext fun a => Fin.ext ?_)
  match a with
  | 0 => show u.val + 0 = u.val; rfl
  | 1 => show k.val + 0 = k.val; rfl
  | 2 => show 0 + 1 * o.val = o.val; omega
  | 3 => show 0 + 1 * c.val = c.val; omega

theorem ld3 {n p : ℕ} (x : Vec Ideal ⟨3, ![n, 128, p]⟩ .f32) (off : Fin 3 → ℕ) (h) (u : Fin n) (e : off = ![u.val, 0, 0]) (o : Fin 128) (c : Fin p) :
    View.ld x (Rect.unit (s := ⟨3, ![n, 128, p]⟩) off (⟨3, ![1, 128, p]⟩ : Shape).size h) (ix3 0 o c) = x (ix3 u o c) := by
  subst e
  refine congrArg x (funext fun a => Fin.ext ?_)
  match a with
  | 0 => show u.val + 0 = u.val; rfl
  | 1 => show 0 + 1 * o.val = o.val; omega
  | 2 => show 0 + 1 * c.val = c.val; omega

section Loads

variable (q : Fin 21) (hw : k0_chk1 (tab q)) (h1 : k0_cond1 (tab q) = 1#1)

theorem ldBin_at (hq : kind q = 3) (x : Vec Ideal S6x9x128x128 .f32) (h2 : k0_cond2 (tab q) = 1#1) (k : Fin 9) (o c : Fin 128) :
    ldBin (tab q) hw h1 x h2 k (ix4 0 0 o c) = x (ix4 (binary q) k o c) := by
  obtain ⟨e0, e1, e2, e3, e4, e5, e6, e7, e8⟩ := offBin q hq
  match k with
  | 0 => exact ld4 x _ _ _ 0 e0 o c
  | 1 => exact ld4 x _ _ _ 1 e1 o c
  | 2 => exact ld4 x _ _ _ 2 e2 o c
  | 3 => exact ld4 x _ _ _ 3 e3 o c
  | 4 => exact ld4 x _ _ _ 4 e4 o c
  | 5 => exact ld4 x _ _ _ 5 e5 o c
  | 6 => exact ld4 x _ _ _ 6 e6 o c
  | 7 => exact ld4 x _ _ _ 7 e7 o c
  | 8 => exact ld4 x _ _ _ 8 e8 o c

theorem ldUn_at (hq : kind q ≠ 3) (hq0 : kind q ≠ 0) (x : Vec Ideal S11x9x128x128 .f32) (h2 : ¬k0_cond2 (tab q) = 1#1) (k : Fin 9) (o c : Fin 128) :
    ldUn (tab q) hw h1 x h2 k (ix4 0 0 o c) = x (ix4 (unary q) k o c) := by
  obtain ⟨e0, e1, e2, e3, e4, e5, e6, e7, e8, -⟩ := offUn q hq0 hq
  match k with
  | 0 => exact ld4 x _ _ _ 0 e0 o c
  | 1 => exact ld4 x _ _ _ 1 e1 o c
  | 2 => exact ld4 x _ _ _ 2 e2 o c
  | 3 => exact ld4 x _ _ _ 3 e3 o c
  | 4 => exact ld4 x _ _ _ 4 e4 o c
  | 5 => exact ld4 x _ _ _ 5 e5 o c
  | 6 => exact ld4 x _ _ _ 6 e6 o c
  | 7 => exact ld4 x _ _ _ 7 e7 o c
  | 8 => exact ld4 x _ _ _ 8 e8 o c

end Loads

theorem ldStem1_at (x : Vec Ideal S9x128x1024 .f32) (k : Fin 9) (o : Fin 128) (c : Fin 1024) : ldStem1 x k (ix3 0 o c) = x (ix3 k o c) := by
  match k with
  | 0 => exact ld3 x _ _ 0 rfl o c
  | 1 => exact ld3 x _ _ 1 rfl o c
  | 2 => exact ld3 x _ _ 2 rfl o c
  | 3 => exact ld3 x _ _ 3 rfl o c
  | 4 => exact ld3 x _ _ 4 rfl o c
  | 5 => exact ld3 x _ _ 5 rfl o c
  | 6 => exact ld3 x _ _ 6 rfl o c
  | 7 => exact ld3 x _ _ 7 rfl o c
  | 8 => exact ld3 x _ _ 8 rfl o c

theorem ldStem2_at (x : Vec Ideal S1x9x128x128 .f32) (k : Fin 9) (o c : Fin 128) : ldStem2 x k (ix4 0 0 o c) = x (ix4 0 k o c) := by
  match k with
  | 0 => exact ld4 x _ _ 0 0 rfl o c
  | 1 => exact ld4 x _ _ 0 1 rfl o c
  | 2 => exact ld4 x _ _ 0 2 rfl o c
  | 3 => exact ld4 x _ _ 0 3 rfl o c
  | 4 => exact ld4 x _ _ 0 4 rfl o c
  | 5 => exact ld4 x _ _ 0 5 rfl o c
  | 6 => exact ld4 x _ _ 0 6 rfl o c
  | 7 => exact ld4 x _ _ 0 7 rfl o c
  | 8 => exact ld4 x _ _ 0 8 rfl o c

/-! ## One step, and all of them -/

/-- The parameter blocks hold the parameters. -/
structure Params (p : Par) (x5 x6 : Vec Ideal S11x9x128x128 .f32) (x7 x8 : Vec Ideal S6x128x128 .f32) (x9 x10 : Vec Ideal S6x9x128x128 .f32)
    (x14 x15 : Vec Ideal S11x128x256 .f32) (x16 x17 x18 : Vec Ideal S6x128x256 .f32) : Prop where
  uw1 : ∀ u k o c, x5 (ix4 u k o c) = p.uw1 u k o c
  uw2 : ∀ u k o c, x6 (ix4 u k o c) = p.uw2 u k o c
  wa : ∀ b o c, x7 (ix3 b o c) = p.wa b o c
  wb : ∀ b o c, x8 (ix3 b o c) = p.wb b o c
  bw1 : ∀ b k o c, x9 (ix4 b k o c) = p.bw1 b k o c
  bw2 : ∀ b k o c, x10 (ix4 b k o c) = p.bw2 b k o c
  ub1 : ∀ u o s, x14 (ix3 u o s) = p.ub1 u o
  ub2 : ∀ u o s, x15 (ix3 u o s) = p.ub2 u o
  bp : ∀ b o s, x16 (ix3 b o s) = p.bp b o
  bb1 : ∀ b o s, x17 (ix3 b o s) = p.bb1 b o
  bb2 : ∀ b o s, x18 (ix3 b o s) = p.bb2 b o

section Steps

variable {p : Par} {x5 x6 : Vec Ideal S11x9x128x128 .f32} {x7 x8 : Vec Ideal S6x128x128 .f32} {x9 x10 : Vec Ideal S6x9x128x128 .f32}
  {x14 x15 : Vec Ideal S11x128x256 .f32} {x16 x17 x18 : Vec Ideal S6x128x256 .f32} (P : Params p x5 x6 x7 x8 x9 x10 x14 x15 x16 x17 x18)
include P

theorem step_holds (q : Fin 21) (hw : k0_chk1 (tab q)) {feat : FVec Ideal S128x256 .f32} {f : Img 128} (Hf : Holds feat f)
    (a : FVec Ideal S128x256 .f32 × FVec Ideal S128x256 .f32) (b : Img 128 × Img 128) (H1 : Holds a.1 b.1) (H2 : Holds a.2 b.2) :
    Holds (stepV x5 x6 x7 x8 x9 x10 x14 x15 x16 x17 x18 (tab q) hw feat a).1 (step p f q b).1
      ∧ Holds (stepV x5 x6 x7 x8 x9 x10 x14 x15 x16 x17 x18 (tab q) hw feat a).2 (step p f q b).2 := by
  by_cases h0 : kind q = 0
  · rw [stepV, dif_neg (fun h => (cond1_tab q).mp h h0), step, if_pos h0]
    exact ⟨H1, H2⟩
  · have h1 : k0_cond1 (tab q) = 1#1 := (cond1_tab q).mpr h0
    rw [stepV, dif_pos h1, step, if_neg h0]
    by_cases h3 : kind q = 3
    · have h2 : k0_cond2 (tab q) = 1#1 := (cond2_tab q h0).mpr h3
      rw [dif_pos h2, if_neg (by omega), if_neg (by omega)]
      obtain ⟨e2, e3⟩ := offBinP q h3
      exact ⟨resid_holds (fun k o c => (ldBin_at q hw h1 h3 x9 h2 k o c).trans (P.bw1 ..)) (fun k o c => (ldBin_at q hw h1 h3 x10 h2 k o c).trans (P.bw2 ..))
        (fun o s => (ld3 x17 _ _ _ e3 o s).trans (P.bb1 ..)) (fun o s => (ld3 x18 _ _ _ e3 o s).trans (P.bb2 ..))
        (joined_holds (fun o c => (ld3 x7 _ _ _ e2 o c).trans (P.wa ..)) (fun o c => (ld3 x8 _ _ _ e2 o c).trans (P.wb ..))
          (fun o s => (ld3 x16 _ _ _ e3 o s).trans (P.bp ..)) H1 H2), H2⟩
    · have h2 : ¬k0_cond2 (tab q) = 1#1 := fun h => h3 ((cond2_tab q h0).mp h)
      have e22 := (offUn q h0 h3).2.2.2.2.2.2.2.2.2
      rw [dif_neg h2, scene_tab q]
      by_cases hs : kind q = 1
      · rw [if_pos hs, if_pos hs]
        exact ⟨resid_holds (fun k o c => (ldUn_at q hw h1 h3 h0 x5 h2 k o c).trans (P.uw1 ..)) (fun k o c => (ldUn_at q hw h1 h3 h0 x6 h2 k o c).trans (P.uw2 ..))
          (fun o s => (ld3 x14 _ _ _ e22 o s).trans (P.ub1 ..)) (fun o s => (ld3 x15 _ _ _ e22 o s).trans (P.ub2 ..)) Hf, H1⟩
      · rw [if_neg hs, if_neg hs, if_pos (show kind q = 2 by unfold kind at *; split_ifs at * <;> omega)]
        exact ⟨resid_holds (fun k o c => (ldUn_at q hw h1 h3 h0 x5 h2 k o c).trans (P.uw1 ..)) (fun k o c => (ldUn_at q hw h1 h3 h0 x6 h2 k o c).trans (P.uw2 ..))
          (fun o s => (ld3 x14 _ _ _ e22 o s).trans (P.ub1 ..)) (fun o s => (ld3 x15 _ _ _ e22 o s).trans (P.ub2 ..)) H1, H2⟩

/-- Every step up to the loop's end. -/
theorem run_holds (x1 : Vec Ideal S64x25 .i32) (i : grid0.Coords) (hx1 : ∀ k, k0_chk1 (word x1 i k)) (Q : ℕ → Fin 21)
    (hQ : ∀ k : Fin k0_t1_loop.trips, word x1 i k = tab (Q k)) {feat : FVec Ideal S128x256 .f32} {f : Img 128} (Hf : Holds feat f) :
    ∀ n ≤ k0_t1_loop.trips, Holds (runV x5 x6 x7 x8 x9 x10 x14 x15 x16 x17 x18 x1 i hx1 feat (feat, feat) n).1 (after p f Q n).1
      ∧ Holds (runV x5 x6 x7 x8 x9 x10 x14 x15 x16 x17 x18 x1 i hx1 feat (feat, feat) n).2 (after p f Q n).2
  | 0, _ => ⟨Hf, Hf⟩
  | n + 1, hn => by
    obtain ⟨H1, H2⟩ := run_holds x1 i hx1 Q hQ Hf n (Nat.le_of_succ_le hn)
    rw [runV, dif_pos (show n < k0_t1_loop.trips from hn)]
    have key : ∀ (w : BitVec 32) (hw : k0_chk1 w), w = tab (Q n) →
        Holds (stepV x5 x6 x7 x8 x9 x10 x14 x15 x16 x17 x18 w hw feat (runV x5 x6 x7 x8 x9 x10 x14 x15 x16 x17 x18 x1 i hx1 feat (feat, feat) n)).1
            (step p f (Q n) (after p f Q n)).1
          ∧ Holds (stepV x5 x6 x7 x8 x9 x10 x14 x15 x16 x17 x18 w hw feat (runV x5 x6 x7 x8 x9 x10 x14 x15 x16 x17 x18 x1 i hx1 feat (feat, feat) n)).2
            (step p f (Q n) (after p f Q n)).2 := by
      intro w hw e
      subst e
      exact step_holds P (Q n) hw Hf _ _ H1 H2
    exact key _ _ (hQ ⟨n, hn⟩)

end Steps

/-! ## The classifier -/

/-- The classifier before the pooling, at one lane. -/
def clsAt (a : FVec Ideal S128x256 .f32) (w : Vec Ideal S512x128 .f32) (b : Vec Ideal S512x256 .f32) (o : Fin 512) (s : Fin 256) : EReal :=
  max ((∑ c : Fin 128, w (ix2 o c) * a (ix2 c s)) + b (ix2 o s)) 0

theorem cls_at (a : FVec Ideal S128x256 .f32) (w : Vec Ideal S512x128 .f32) (b : Vec Ideal S512x256 .f32) (o : Fin 512) (s : Fin 256) (hs : s.val + 17 < 256) :
    cls a w b (ix3 0 o s) = max (max (clsAt a w b o s) (clsAt a w b o ⟨1 + s.val, by omega⟩)) (max (clsAt a w b o ⟨16 + s.val, by omega⟩) (clsAt a w b o ⟨1 + (16 + s.val), by omega⟩)) := by
  pointwise [cls, k0_pay5, clsAt]
  have ha : s.val < 255 := by omega
  have hb : s.val < 240 := by omega
  have hc : 16 + s.val < 255 := by omega
  simp only [ha, hb, hc, dite_true]

theorem clsAt_lane {a : FVec Ideal S128x256 .f32} {x : Img 128} (H : Holds a x) {w : Vec Ideal S512x128 .f32} {W : Fin 512 → Fin 128 → EReal} (hw : ∀ o c, w (ix2 o c) = W o c)
    {b : Vec Ideal S512x256 .f32} {β : Fin 512 → EReal} (hb : ∀ o s, b (ix2 o s) = β o) (o : Fin 512) (h v : Fin 14) (s : Fin 256) (e : s.val = (h.val + 1) * 16 + (v.val + 1)) :
    clsAt a w b o s = classify W β x o h v := by
  have es : s = lane h v := Fin.ext e
  subst es
  unfold clsAt classify
  simp only [H.lane, hw, hb]

/-- The classifier's block at the four lanes of a window. -/
theorem cls_pooled {a : FVec Ideal S128x256 .f32} {x : Img 128} (H : Holds a x) {w : Vec Ideal S512x128 .f32} {W : Fin 512 → Fin 128 → EReal} (hw : ∀ o c, w (ix2 o c) = W o c)
    {b : Vec Ideal S512x256 .f32} {β : Fin 512 → EReal} (hb : ∀ o s, b (ix2 o s) = β o) (o : Fin 512) (i j : Fin 7) (s : Fin 256) (e : s.val = (2 * i.val + 1) * 16 + (2 * j.val + 1)) :
    cls a w b (ix3 0 o s) = pooled W β x o i j := by
  rw [cls_at a w b o s (by omega)]
  unfold pooled
  rw [clsAt_lane H hw hb o ⟨2 * i, by omega⟩ ⟨2 * j, by omega⟩ _ (by dsimp only; omega),
    clsAt_lane H hw hb o ⟨2 * i, by omega⟩ ⟨2 * j + 1, by omega⟩ _ (by dsimp only; omega),
    clsAt_lane H hw hb o ⟨2 * i + 1, by omega⟩ ⟨2 * j, by omega⟩ _ (by dsimp only; omega),
    clsAt_lane H hw hb o ⟨2 * i + 1, by omega⟩ ⟨2 * j + 1, by omega⟩ _ (by dsimp only; omega)]

/-! ## The whole call on one image -/

/-- What the fused call leaves for one image, at the four lanes of a pooling window. -/
theorem fused_pooled {p : Par} {x5 x6 : Vec Ideal S11x9x128x128 .f32} {x7 x8 : Vec Ideal S6x128x128 .f32} {x9 x10 : Vec Ideal S6x9x128x128 .f32}
    {x14 x15 : Vec Ideal S11x128x256 .f32} {x16 x17 x18 : Vec Ideal S6x128x256 .f32} (P : Params p x5 x6 x7 x8 x9 x10 x14 x15 x16 x17 x18)
    {x3 : Vec Ideal S9x128x1024 .f32} {W1 : Wt 1024} (h3 : ∀ k o c, x3 (ix3 k o c) = W1 k o c)
    {x4 : Vec Ideal S1x9x128x128 .f32} {W2 : Wt 128} (h4 : ∀ k o c, x4 (ix4 0 k o c) = W2 k o c)
    {x12 x13 : Vec Ideal S128x256 .f32} {β1 β2 : Fin 128 → EReal} (h12 : ∀ o s, x12 (ix2 o s) = β1 o) (h13 : ∀ o s, x13 (ix2 o s) = β2 o)
    {x2 : Vec Ideal S1x1024x256 .f32} {X : Img 1024} (h2 : ∀ c s, x2 (ix3 0 c s) = padd X c (s.val / 16) (s.val % 16))
    (x1 : Vec Ideal S64x25 .i32) (i : grid0.Coords) (hx1 : ∀ k, k0_chk1 (word x1 i k)) (Q : ℕ → Fin 21)
    (hQ : ∀ k : Fin k0_t1_loop.trips, word x1 i k = tab (Q k))
    {x11 : Vec Ideal S512x128 .f32} {W : Fin 512 → Fin 128 → EReal} (h11 : ∀ o c, x11 (ix2 o c) = W o c)
    {x19 : Vec Ideal S512x256 .f32} {β : Fin 512 → EReal} (h19 : ∀ o s, x19 (ix2 o s) = β o)
    (o : Fin 512) (r c : Fin 7) (s : Fin 256) (e : s.val = (2 * r.val + 1) * 16 + (2 * c.val + 1)) :
    fusedV x3 x4 x5 x6 x7 x8 x9 x10 x14 x15 x16 x17 x18 x1 i hx1 x2 x11 x12 x13 x19 (ix3 0 o s)
      = pooled W β (modules p W1 β1 W2 β2 Q X) o r c := by
  have Hf : Holds (stemV x3 x4 x2 x12 x13) (layer W2 β2 (layer W1 β1 X)) :=
    stem_holds h2 (fun k o c => (ldStem1_at x3 k o c).trans (h3 k o c)) (fun k o c => (ldStem2_at x4 k o c).trans (h4 k o c)) h12 h13
  have H := (run_holds P x1 i hx1 Q hQ Hf k0_t1_loop.trips (le_refl _)).1
  exact cls_pooled H h11 h19 o r c s e

end Cert.KernelIdeal.Hand

end
-- ==== Proof.Math.Net.lean ====
module

public import proofs.«01_k».proof.Proof.Math.Spec

@[expose] public section

/-! # The whole network as a function of its tensors -/

noncomputable section

namespace Cert.Net

open Idealize.ShloMosaic

/-- A tensor of reals. -/
abbrev Ten (n : ℕ) (d : Fin n → ℕ) := Vec Ideal (⟨n, d⟩ : Shape) .f32

/-- Position `k` of a 3 by 3 window: its row and its column. -/
def row3 (k : Fin 9) : Fin 3 := ⟨k.val / 3, by omega⟩
def col3 (k : Fin 9) : Fin 3 := ⟨k.val % 3, by omega⟩

/-- The network's tensors: the images, the tokens of each image in the order in which they run, and the parameters. -/
structure Tensors where
  x : Ten 4 ![64, 1024, 14, 14]
  q : Fin 64 → ℕ → Fin 21
  w1 : Ten 4 ![128, 1024, 3, 3]
  b1 : Ten 1 ![128]
  w2 : Ten 4 ![128, 128, 3, 3]
  b2 : Ten 1 ![128]
  uw1 : Ten 5 ![11, 128, 128, 3, 3]
  ub1 : Ten 2 ![11, 128]
  uw2 : Ten 5 ![11, 128, 128, 3, 3]
  ub2 : Ten 2 ![11, 128]
  bwp : Ten 5 ![6, 128, 256, 1, 1]
  bbp : Ten 2 ![6, 128]
  bw1 : Ten 5 ![6, 128, 128, 3, 3]
  bb1 : Ten 2 ![6, 128]
  bw2 : Ten 5 ![6, 128, 128, 3, 3]
  bb2 : Ten 2 ![6, 128]
  cw : Ten 4 ![512, 128, 1, 1]
  cb : Ten 1 ![512]
  f1 : Ten 2 ![1024, 25088]
  g1 : Ten 1 ![1024]
  f2 : Ten 2 ![32, 1024]
  g2 : Ten 1 ![32]

variable (T : Tensors)

/-- The modules' parameters. -/
def Tensors.par : Par where
  uw1 u k o c := T.uw1 (ix5 u o c (row3 k) (col3 k))
  ub1 u o := T.ub1 (ix2 u o)
  uw2 u k o c := T.uw2 (ix5 u o c (row3 k) (col3 k))
  ub2 u o := T.ub2 (ix2 u o)
  wa u o c := T.bwp (ix5 u o ⟨c.val, by omega⟩ 0 0)
  wb u o c := T.bwp (ix5 u o ⟨128 + c.val, by omega⟩ 0 0)
  bp u o := T.bbp (ix2 u o)
  bw1 u k o c := T.bw1 (ix5 u o c (row3 k) (col3 k))
  bb1 u o := T.bb1 (ix2 u o)
  bw2 u k o c := T.bw2 (ix5 u o c (row3 k) (col3 k))
  bb2 u o := T.bb2 (ix2 u o)

/-- The stem's first and second weights, by window position. -/
def Tensors.sw1 : Wt 1024 := fun k o c => T.w1 (ix4 o c (row3 k) (col3 k))
def Tensors.sw2 : Wt 128 := fun k o c => T.w2 (ix4 o c (row3 k) (col3 k))

/-- Image `n`. -/
def Tensors.img (n : Fin 64) : Img 1024 := fun c h v => T.x (ix4 n c h v)

/-- The image that image `n`'s modules leave. -/
def Tensors.mods (n : Fin 64) : Img 128 :=
  modules T.par T.sw1 (fun o => T.b1 (ix1 o)) T.sw2 (fun o => T.b2 (ix1 o)) (T.q n) (T.img n)

/-- The pooled classifier of image `n`. -/
def Tensors.pool (n : Fin 64) (o : Fin 512) (r c : Fin 7) : EReal :=
  pooled (fun o c => T.cw (ix4 o c 0 0)) (fun o => T.cb (ix1 o)) (T.mods n) o r c

/-- The features that the head reads: channel, row and column flattened. -/
def Tensors.flat (n : Fin 64) (k : Fin 25088) : EReal :=
  T.pool n ⟨k.val / 49, by omega⟩ ⟨k.val / 7 % 7, by omega⟩ ⟨k.val % 7, by omega⟩

/-- The first linear layer, its bias and its positive part. -/
def Tensors.hidden (n : Fin 64) (j : Fin 1024) : EReal :=
  max ((∑ k : Fin 25088, T.flat n k * T.f1 (ix2 j k)) + T.g1 (ix1 j)) 0

/-- The answer's scores. -/
def Tensors.score (n : Fin 64) (a : Fin 32) : EReal :=
  (∑ j : Fin 1024, T.hidden n j * T.f2 (ix2 a j)) + T.g2 (ix1 a)

end Cert.Net

end
-- ==== Proof.Math.Operands.lean ====
module

public import proofs.«01_k».proof.Proof.KernI.Tab
public import proofs.«01_k».proof.Proof.Math.Step
public import proofs.«01_k».proof.Proof.Math.Net
public import Idealize.ShloMosaic.Lib.StableHlo.RunClose

@[expose] public section

set_option maxRecDepth 16384

/-! # What the host hands the fused call -/

noncomputable section

namespace Cert.KernelIdeal.Hand

open Cert.KernelIdeal Cert.KernelIdeal.Gen Cert.Net
open Idealize.ShloMosaic Idealize.ShloMosaic.TcCoe
open Idealize.SL.Sem

/-! ## The re-layouts, entry by entry -/

theorem taps1024 (w : Vec Ideal S128x1024x3x3 .f32) (k : Fin 9) (o : Fin 128) (c : Fin 1024) :
    shapeCast S9x128x1024 (transpose S3x3x128x1024 [2, 3, 0, 1] w transposes_S128x1024x3x3_S3x3x128x1024_2_3_0_1) shapeCasts_S3x3x128x1024_S9x128x1024 (ix3 k o c)
      = w (ix4 o c (row3 k) (col3 k)) := by
  pointwise [row3, col3]

theorem taps128 (w : Vec Ideal S128x128x3x3 .f32) (k : Fin 9) (o c : Fin 128) :
    broadcastInDim S1x9x128x128 ![1, 2, 3] bcast_S9x128x128_S1x9x128x128_1_2_3 (shapeCast S9x128x128 (transpose S3x3x128x128 [2, 3, 0, 1] w transposes_S128x128x3x3_S3x3x128x128_2_3_0_1) shapeCasts_S3x3x128x128_S9x128x128) (ix4 0 k o c)
      = w (ix4 o c (row3 k) (col3 k)) := by
  pointwise [row3, col3]

theorem tapsUn (w : Vec Ideal S11x128x128x3x3 .f32) (u : Fin 11) (k : Fin 9) (o c : Fin 128) :
    shapeCast S11x9x128x128 (transpose S11x3x3x128x128 [0, 3, 4, 1, 2] w transposes_S11x128x128x3x3_S11x3x3x128x128_0_3_4_1_2) shapeCasts_S11x3x3x128x128_S11x9x128x128 (ix4 u k o c)
      = w (ix5 u o c (row3 k) (col3 k)) := by
  pointwise [row3, col3]

theorem tapsBin (w : Vec Ideal S6x128x128x3x3 .f32) (u : Fin 6) (k : Fin 9) (o c : Fin 128) :
    shapeCast S6x9x128x128 (transpose S6x3x3x128x128 [0, 3, 4, 1, 2] w transposes_S6x128x128x3x3_S6x3x3x128x128_0_3_4_1_2) shapeCasts_S6x3x3x128x128_S6x9x128x128 (ix4 u k o c)
      = w (ix5 u o c (row3 k) (col3 k)) := by
  pointwise [row3, col3]

theorem half0 (w : Vec Ideal S6x128x256x1x1 .f32) (b : Fin 6) (o c : Fin 128) :
    shapeCast S6x128x128 (extractStridedSlice S6x128x128x1x1 ![0, 0, 0, 0, 0] w slices_S6x128x256x1x1_S6x128x128x1x1_0_0_0_0_0) shapeCasts_S6x128x128x1x1_S6x128x128 (ix3 b o c)
      = w (ix5 b o ⟨c.val, by omega⟩ 0 0) := by
  pointwise []

theorem half1 (w : Vec Ideal S6x128x256x1x1 .f32) (b : Fin 6) (o c : Fin 128) :
    shapeCast S6x128x128 (extractStridedSlice S6x128x128x1x1 ![0, 0, 128, 0, 0] w slices_S6x128x256x1x1_S6x128x128x1x1_0_0_128_0_0) shapeCasts_S6x128x128x1x1_S6x128x128 (ix3 b o c)
      = w (ix5 b o ⟨128 + c.val, by omega⟩ 0 0) := by
  pointwise []

theorem clsw_cast (w : Vec Ideal S512x128x1x1 .f32) (o : Fin 512) (c : Fin 128) :
    shapeCast S512x128 w shapeCasts_S512x128x1x1_S512x128 (ix2 o c) = w (ix4 o c 0 0) := by
  pointwise []

theorem bias128 (b : Vec Ideal S128 .f32) (o : Fin 128) (s : Fin 256) :
    broadcastInDim S128x256 ![0, 1] bcast_S128x1_S128x256_0_1 (broadcastInDim S128x1 ![0] bcast_S128_S128x1_0 b) (ix2 o s) = b (ix1 o) := by
  pointwise []

theorem bias512 (b : Vec Ideal S512 .f32) (o : Fin 512) (s : Fin 256) :
    broadcastInDim S512x256 ![0, 1] bcast_S512x1_S512x256_0_1 (broadcastInDim S512x1 ![0] bcast_S512_S512x1_0 b) (ix2 o s) = b (ix1 o) := by
  pointwise []

theorem biasUn (b : Vec Ideal S11x128 .f32) (u : Fin 11) (o : Fin 128) (s : Fin 256) :
    broadcastInDim S11x128x256 ![0, 1, 2] bcast_S11x128x1_S11x128x256_0_1_2 (broadcastInDim S11x128x1 ![0, 1] bcast_S11x128_S11x128x1_0_1 b) (ix3 u o s) = b (ix2 u o) := by
  pointwise []

theorem biasBin (b : Vec Ideal S6x128 .f32) (u : Fin 6) (o : Fin 128) (s : Fin 256) :
    broadcastInDim S6x128x256 ![0, 1, 2] bcast_S6x128x1_S6x128x256_0_1_2 (broadcastInDim S6x128x1 ![0, 1] bcast_S6x128_S6x128x1_0_1 b) (ix3 u o s) = b (ix2 u o) := by
  pointwise []

/-- The word zero, converted. -/
theorem zero_word : (FloatOps.sitofp (F := Ideal) .f32 0#32 : EReal) = 0 := by
  show (((0#32 : BitVec 32).toInt : ℝ) : EReal) = 0
  norm_num

/-- The padded input, flattened. -/
theorem padded (x : Vec Ideal S64x1024x14x14 .f32) (n : Fin 64) (c : Fin 1024) (s : Fin 256) :
    shapeCast S64x1024x256 (pad S64x1024x16x16 ![0, 0, 1, 1] ![0, 0, 1, 1] ![0, 0, 0, 0] x (sitofp (F := Ideal) .f32 (constantI S_ 32 0#32)) pads_S64x1024x14x14_S64x1024x16x16_000_000_110_110)
      shapeCasts_S64x1024x16x16_S64x1024x256 (ix3 n c s) = padd (fun c h v => x (ix4 n c h v)) c (s.val / 16) (s.val % 16) := by
  pointwise [padd]
  split_ifs
  · rfl
  · omega
  · omega
  · exact zero_word

variable (m : (ℓ : Loc nD τ sig) → Buf (Elt Ideal) ℓ) (c : Dev nD)

/-- A buffer no host operation before the last stretch writes. -/
theorem V4_start (b : Ref sig .tc) (h0 : b ∉ hostOps0_W) (h1 : b ∉ hostOps0_1_W) (h2 : b ∉ hostOps0_2_W) (h3 : b ∉ hostOps0_3_W) :
    V4 m c b = m ((c : Thread nD τ).loc b) :=
  (V4_of m c b h3).trans <| (V3_of m c b h2).trans <| (V2_of m c b h1).trans (V1_of m c b h0)

theorem v35_val : V5 m c main_v35 = shapeCast S9x128x1024 (transpose S3x3x128x1024 [2, 3, 0, 1] (m ((c : Thread nD τ).loc main_arg2)) transposes_S128x1024x3x3_S3x3x128x1024_2_3_0_1) shapeCasts_S3x3x128x1024_S9x128x1024 := by
  rw [← V4_start m c main_arg2 (by decide) (by decide) (by decide) (by decide)]
  unfold V5
  generalize V4 m c = W
  simp only [hostOps0_4]
  after_results_entrywise []

theorem v38_val : V5 m c main_v38 = broadcastInDim S1x9x128x128 ![1, 2, 3] bcast_S9x128x128_S1x9x128x128_1_2_3 (shapeCast S9x128x128 (transpose S3x3x128x128 [2, 3, 0, 1] (m ((c : Thread nD τ).loc main_arg4)) transposes_S128x128x3x3_S3x3x128x128_2_3_0_1) shapeCasts_S3x3x128x128_S9x128x128) := by
  rw [← V4_start m c main_arg4 (by decide) (by decide) (by decide) (by decide)]
  unfold V5
  generalize V4 m c = W
  simp only [hostOps0_4]
  after_results_entrywise []

theorem v40_val : V5 m c main_v40 = shapeCast S11x9x128x128 (transpose S11x3x3x128x128 [0, 3, 4, 1, 2] (m ((c : Thread nD τ).loc main_arg6)) transposes_S11x128x128x3x3_S11x3x3x128x128_0_3_4_1_2) shapeCasts_S11x3x3x128x128_S11x9x128x128 := by
  rw [← V4_start m c main_arg6 (by decide) (by decide) (by decide) (by decide)]
  unfold V5
  generalize V4 m c = W
  simp only [hostOps0_4]
  after_results_entrywise []

theorem v42_val : V5 m c main_v42 = shapeCast S11x9x128x128 (transpose S11x3x3x128x128 [0, 3, 4, 1, 2] (m ((c : Thread nD τ).loc main_arg8)) transposes_S11x128x128x3x3_S11x3x3x128x128_0_3_4_1_2) shapeCasts_S11x3x3x128x128_S11x9x128x128 := by
  rw [← V4_start m c main_arg8 (by decide) (by decide) (by decide) (by decide)]
  unfold V5
  generalize V4 m c = W
  simp only [hostOps0_4]
  after_results_entrywise []

theorem v44_val : V5 m c main_v44 = shapeCast S6x9x128x128 (transpose S6x3x3x128x128 [0, 3, 4, 1, 2] (m ((c : Thread nD τ).loc main_arg12)) transposes_S6x128x128x3x3_S6x3x3x128x128_0_3_4_1_2) shapeCasts_S6x3x3x128x128_S6x9x128x128 := by
  rw [← V4_start m c main_arg12 (by decide) (by decide) (by decide) (by decide)]
  unfold V5
  generalize V4 m c = W
  simp only [hostOps0_4]
  after_results_entrywise []

theorem v46_val : V5 m c main_v46 = shapeCast S6x9x128x128 (transpose S6x3x3x128x128 [0, 3, 4, 1, 2] (m ((c : Thread nD τ).loc main_arg14)) transposes_S6x128x128x3x3_S6x3x3x128x128_0_3_4_1_2) shapeCasts_S6x3x3x128x128_S6x9x128x128 := by
  rw [← V4_start m c main_arg14 (by decide) (by decide) (by decide) (by decide)]
  unfold V5
  generalize V4 m c = W
  simp only [hostOps0_4]
  after_results_entrywise []

theorem v48_val : V5 m c main_v48 = shapeCast S6x128x128 (extractStridedSlice S6x128x128x1x1 ![0, 0, 0, 0, 0] (m ((c : Thread nD τ).loc main_arg10)) slices_S6x128x256x1x1_S6x128x128x1x1_0_0_0_0_0) shapeCasts_S6x128x128x1x1_S6x128x128 := by
  rw [← V4_start m c main_arg10 (by decide) (by decide) (by decide) (by decide)]
  unfold V5
  generalize V4 m c = W
  simp only [hostOps0_4]
  after_results_entrywise []

theorem v50_val : V5 m c main_v50 = shapeCast S6x128x128 (extractStridedSlice S6x128x128x1x1 ![0, 0, 128, 0, 0] (m ((c : Thread nD τ).loc main_arg10)) slices_S6x128x256x1x1_S6x128x128x1x1_0_0_128_0_0) shapeCasts_S6x128x128x1x1_S6x128x128 := by
  rw [← V4_start m c main_arg10 (by decide) (by decide) (by decide) (by decide)]
  unfold V5
  generalize V4 m c = W
  simp only [hostOps0_4]
  after_results_entrywise []

theorem v51_val : V5 m c main_v51 = shapeCast S512x128 (m ((c : Thread nD τ).loc main_arg16)) shapeCasts_S512x128x1x1_S512x128 := by
  rw [← V4_start m c main_arg16 (by decide) (by decide) (by decide) (by decide)]
  unfold V5
  generalize V4 m c = W
  simp only [hostOps0_4]
  after_results_entrywise []

theorem v53_val : V5 m c main_v53 = broadcastInDim S128x256 ![0, 1] bcast_S128x1_S128x256_0_1 (broadcastInDim S128x1 ![0] bcast_S128_S128x1_0 (m ((c : Thread nD τ).loc main_arg3))) := by
  rw [← V4_start m c main_arg3 (by decide) (by decide) (by decide) (by decide)]
  unfold V5
  generalize V4 m c = W
  simp only [hostOps0_4]
  after_results_entrywise []

theorem v55_val : V5 m c main_v55 = broadcastInDim S128x256 ![0, 1] bcast_S128x1_S128x256_0_1 (broadcastInDim S128x1 ![0] bcast_S128_S128x1_0 (m ((c : Thread nD τ).loc main_arg5))) := by
  rw [← V4_start m c main_arg5 (by decide) (by decide) (by decide) (by decide)]
  unfold V5
  generalize V4 m c = W
  simp only [hostOps0_4]
  after_results_entrywise []

theorem v57_val : V5 m c main_v57 = broadcastInDim S11x128x256 ![0, 1, 2] bcast_S11x128x1_S11x128x256_0_1_2 (broadcastInDim S11x128x1 ![0, 1] bcast_S11x128_S11x128x1_0_1 (m ((c : Thread nD τ).loc main_arg7))) := by
  rw [← V4_start m c main_arg7 (by decide) (by decide) (by decide) (by decide)]
  unfold V5
  generalize V4 m c = W
  simp only [hostOps0_4]
  after_results_entrywise []

theorem v59_val : V5 m c main_v59 = broadcastInDim S11x128x256 ![0, 1, 2] bcast_S11x128x1_S11x128x256_0_1_2 (broadcastInDim S11x128x1 ![0, 1] bcast_S11x128_S11x128x1_0_1 (m ((c : Thread nD τ).loc main_arg9))) := by
  rw [← V4_start m c main_arg9 (by decide) (by decide) (by decide) (by decide)]
  unfold V5
  generalize V4 m c = W
  simp only [hostOps0_4]
  after_results_entrywise []

theorem v61_val : V5 m c main_v61 = broadcastInDim S6x128x256 ![0, 1, 2] bcast_S6x128x1_S6x128x256_0_1_2 (broadcastInDim S6x128x1 ![0, 1] bcast_S6x128_S6x128x1_0_1 (m ((c : Thread nD τ).loc main_arg11))) := by
  rw [← V4_start m c main_arg11 (by decide) (by decide) (by decide) (by decide)]
  unfold V5
  generalize V4 m c = W
  simp only [hostOps0_4]
  after_results_entrywise []

theorem v63_val : V5 m c main_v63 = broadcastInDim S6x128x256 ![0, 1, 2] bcast_S6x128x1_S6x128x256_0_1_2 (broadcastInDim S6x128x1 ![0, 1] bcast_S6x128_S6x128x1_0_1 (m ((c : Thread nD τ).loc main_arg13))) := by
  rw [← V4_start m c main_arg13 (by decide) (by decide) (by decide) (by decide)]
  unfold V5
  generalize V4 m c = W
  simp only [hostOps0_4]
  after_results_entrywise []

theorem v65_val : V5 m c main_v65 = broadcastInDim S6x128x256 ![0, 1, 2] bcast_S6x128x1_S6x128x256_0_1_2 (broadcastInDim S6x128x1 ![0, 1] bcast_S6x128_S6x128x1_0_1 (m ((c : Thread nD τ).loc main_arg15))) := by
  rw [← V4_start m c main_arg15 (by decide) (by decide) (by decide) (by decide)]
  unfold V5
  generalize V4 m c = W
  simp only [hostOps0_4]
  after_results_entrywise []

theorem v67_val : V5 m c main_v67 = broadcastInDim S512x256 ![0, 1] bcast_S512x1_S512x256_0_1 (broadcastInDim S512x1 ![0] bcast_S512_S512x1_0 (m ((c : Thread nD τ).loc main_arg17))) := by
  rw [← V4_start m c main_arg17 (by decide) (by decide) (by decide) (by decide)]
  unfold V5
  generalize V4 m c = W
  simp only [hostOps0_4]
  after_results_entrywise []

/-- The padded input's buffer. -/
theorem v1_val : V5 m c main_v1 = shapeCast S64x1024x256 (pad S64x1024x16x16 ![0, 0, 1, 1] ![0, 0, 1, 1] ![0, 0, 0, 0] (m ((c : Thread nD τ).loc main_arg0)) (sitofp (F := Ideal) .f32 (constantI S_ 32 0#32)) pads_S64x1024x14x14_S64x1024x16x16_000_000_110_110)
      shapeCasts_S64x1024x16x16_S64x1024x256 := by
  refine (V5_of m c main_v1 (by decide)).trans ((V4_of m c main_v1 (by decide)).trans ?_)
  unfold V3 V2 V1 V0
  simp only [hostOps0_2, hostOps0_1, hostOps0]
  after_results_entrywise []

end Cert.KernelIdeal.Hand

end
-- ==== Proof.Math.Blocks.lean ====
module

public import proofs.«01_k».proof.Proof.KernI.Run
public import Idealize.ShloMosaic.Lib.Pipeline.ValueKit
public import Idealize.ShloMosaic.Lib.Pointwise
public import Idealize.ShloMosaic.Lib.Pipeline.Covers

@[expose] public section

set_option maxRecDepth 16384

/-! # The fused call's blocks -/

noncomputable section

namespace Cert.KernelIdeal.Hand

open Cert.KernelIdeal Cert.KernelIdeal.Gen
open Idealize.ShloMosaic Idealize.ShloMosaic.TcCoe
open Idealize.SL.Sem

variable {F : FTy → Type} [FloatOps F]

theorem at0_0 : ∀ t : Fin grid0.N, cc0_transform_0 (grid0.coords t) = ![t.val, 0, 0] := by decide +kernel
theorem at0_pt : ∀ t : Fin grid0.N, (grid0.coords t 0).val = t.val := by decide +kernel
theorem at0_18 : ∀ t : Fin grid0.N, cc0_transform_18 (grid0.coords t) = ![t.val, 0, 0] := by decide +kernel
theorem onto0 : ∀ n : Fin 64, ∃ i : grid0.Coords, cc0_transform_18 i = ![n.val, 0, 0] := fun n => ⟨grid0.coords ⟨n.val, n.isLt.trans_eq N_0.symm⟩, at0_18 _⟩

variable (a : (pcfg0 (F := F)).Adm) (W : Dev nD → Valuation τ sig (Elt F)) (c : Dev nD) (t : Fin (cfg0 a).N)

theorem blk0_0 (x : Fin 1024) (s : Fin 256) : blk0 a W c 0 t (ix3 0 x s) = W c main_v1 (ix3 ⟨t.val, t.isLt.trans_eq N_0⟩ x s) := by
  have e : (pcfg0.win a 0).index t = ![t.val, 0, 0] := at0_0 t
  blk_ext [blk0, e]

theorem blk0_1 : blk0 a W c 1 t = W c main_v35 := by
  funext y
  have e : (pcfg0.win a 1).index t = ![0, 0, 0] := rfl
  blk_ext [blk0, e]

theorem blk0_2 : blk0 a W c 2 t = W c main_v38 := by
  funext y
  have e : (pcfg0.win a 2).index t = ![0, 0, 0, 0] := rfl
  blk_ext [blk0, e]

theorem blk0_3 : blk0 a W c 3 t = W c main_v40 := by
  funext y
  have e : (pcfg0.win a 3).index t = ![0, 0, 0, 0] := rfl
  blk_ext [blk0, e]

theorem blk0_4 : blk0 a W c 4 t = W c main_v42 := by
  funext y
  have e : (pcfg0.win a 4).index t = ![0, 0, 0, 0] := rfl
  blk_ext [blk0, e]

theorem blk0_5 : blk0 a W c 5 t = W c main_v48 := by
  funext y
  have e : (pcfg0.win a 5).index t = ![0, 0, 0] := rfl
  blk_ext [blk0, e]

theorem blk0_6 : blk0 a W c 6 t = W c main_v50 := by
  funext y
  have e : (pcfg0.win a 6).index t = ![0, 0, 0] := rfl
  blk_ext [blk0, e]

theorem blk0_7 : blk0 a W c 7 t = W c main_v44 := by
  funext y
  have e : (pcfg0.win a 7).index t = ![0, 0, 0, 0] := rfl
  blk_ext [blk0, e]

theorem blk0_8 : blk0 a W c 8 t = W c main_v46 := by
  funext y
  have e : (pcfg0.win a 8).index t = ![0, 0, 0, 0] := rfl
  blk_ext [blk0, e]

theorem blk0_9 : blk0 a W c 9 t = W c main_v51 := by
  funext y
  have e : (pcfg0.win a 9).index t = ![0, 0] := rfl
  blk_ext [blk0, e]

theorem blk0_10 : blk0 a W c 10 t = W c main_v53 := by
  funext y
  have e : (pcfg0.win a 10).index t = ![0, 0] := rfl
  blk_ext [blk0, e]

theorem blk0_11 : blk0 a W c 11 t = W c main_v55 := by
  funext y
  have e : (pcfg0.win a 11).index t = ![0, 0] := rfl
  blk_ext [blk0, e]

theorem blk0_12 : blk0 a W c 12 t = W c main_v57 := by
  funext y
  have e : (pcfg0.win a 12).index t = ![0, 0, 0] := rfl
  blk_ext [blk0, e]

theorem blk0_13 : blk0 a W c 13 t = W c main_v59 := by
  funext y
  have e : (pcfg0.win a 13).index t = ![0, 0, 0] := rfl
  blk_ext [blk0, e]

theorem blk0_14 : blk0 a W c 14 t = W c main_v61 := by
  funext y
  have e : (pcfg0.win a 14).index t = ![0, 0, 0] := rfl
  blk_ext [blk0, e]

theorem blk0_15 : blk0 a W c 15 t = W c main_v63 := by
  funext y
  have e : (pcfg0.win a 15).index t = ![0, 0, 0] := rfl
  blk_ext [blk0, e]

theorem blk0_16 : blk0 a W c 16 t = W c main_v65 := by
  funext y
  have e : (pcfg0.win a 16).index t = ![0, 0, 0] := rfl
  blk_ext [blk0, e]

theorem blk0_17 : blk0 a W c 17 t = W c main_v67 := by
  funext y
  have e : (pcfg0.win a 17).index t = ![0, 0] := rfl
  blk_ext [blk0, e]

end Cert.KernelIdeal.Hand

end
-- ==== Proof.Math.Head.lean ====
module

public import proofs.«01_k».proof.Proof.KernI.Run
public import Idealize.ShloMosaic.Lib.Pipeline.ValueKit
public import Idealize.ShloMosaic.Lib.Pointwise
public import Idealize.ShloMosaic.Lib.StableHlo.RunClose

@[expose] public section

set_option maxRecDepth 16384

/-! # The two linear layers -/

noncomputable section

namespace Cert.KernelIdeal.Hand

open Cert.KernelIdeal Cert.KernelIdeal.Gen
open Idealize.ShloMosaic Idealize.ShloMosaic.TcCoe
open Idealize.SL.Sem

theorem pay1_at (n : Fin 64) (o : Fin 512) : k1_pay1 (F := Ideal) (ix2 n o) = 0 := by
  pointwise [k1_pay1]

theorem pay2_at (s : Vec Ideal S64x512 .f32) (x : Vec Ideal S64x6272 .f32) (w : Vec Ideal S512x6272 .f32) (n : Fin 64) (o : Fin 512) :
    k1_pay2 (F := Ideal) s x w (ix2 n o) = s (ix2 n o) + ∑ k : Fin 6272, x (ix2 n k) * w (ix2 o k) := by
  pointwise [k1_pay2]

theorem fc2_at (h : Vec Ideal S64x1024 .f32) (b : Vec Ideal S1x1024 .f32) (w : Vec Ideal S32x1024 .f32) (d : Vec Ideal S1x32 .f32) (n : Fin 64) (o : Fin 32) :
    k2_pay1 (F := Ideal) h b w d (ix2 n o) = (∑ j : Fin 1024, max (h (ix2 n j) + b (ix2 0 j)) 0 * w (ix2 o j)) + d (ix2 0 o) := by
  pointwise [k2_pay1]

/-- A sum over four runs of 6272. -/
theorem sum_runs (f : Fin 25088 → EReal) :
    ∑ k, f k = ∑ s : Fin 4, ∑ k : Fin 6272, f ⟨6272 * s.val + k.val, by omega⟩ := by
  have e : ∀ s : Fin 4, ∀ k : Fin 6272, (⟨6272 * s.val + k.val, by omega⟩ : Fin 25088) = Fin.cast (by norm_num) (finProdFinEquiv (s, k)) := fun s k =>
    Fin.ext (by simp [finProdFinEquiv]; omega)
  simp only [e]
  rw [← Fintype.sum_prod_type' (f := fun (s : Fin 4) (k : Fin 6272) => f (Fin.cast (by norm_num) (finProdFinEquiv (s, k))))]
  exact ((Equiv.sum_comp (finProdFinEquiv.trans (finCongr (by norm_num : 4 * 6272 = 25088))) f)).symm

theorem at1 : ∀ t : Fin grid1.N, cc1_transform_0 (grid1.coords t) = ![0, t.val % 4] ∧ cc1_transform_1 (grid1.coords t) = ![t.val / 4, t.val % 4]
    ∧ cc1_transform_2 (grid1.coords t) = ![0, t.val / 4] := by decide +kernel

variable (W : Dev nD → Valuation τ sig (Elt Ideal)) (c : Dev nD)

/-- The middle call's two operands as the region finds them. -/
def rows1 : Vec Ideal S64x25088 .f32 := W c main_v71
def cols1 : Vec Ideal S1024x25088 .f32 := W c main_arg18

/-- Their blocks at a point. -/
def xb1 (t : Fin cfg1.N) : Vec Ideal S64x6272 .f32 := blk1 W c 0 t
def wb1 (t : Fin cfg1.N) : Vec Ideal S512x6272 .f32 := blk1 W c 1 t

theorem xb1_at (t : Fin cfg1.N) (n : Fin 64) (k : Fin 6272) (h : 6272 * (t.val % 4) + k.val < 25088) :
    xb1 W c t (ix2 n k) = rows1 W c (ix2 n ⟨6272 * (t.val % 4) + k.val, h⟩) := by
  have e : (cfg1.win 0).index t = ![0, t.val % 4] := (at1 t).1
  blk_ext [xb1, rows1, blk1, e]

theorem wb1_at (t : Fin cfg1.N) (o : Fin 512) (k : Fin 6272) (h : 6272 * (t.val % 4) + k.val < 25088) (h' : 512 * (t.val / 4) + o.val < 1024) :
    wb1 W c t (ix2 o k) = cols1 W c (ix2 ⟨512 * (t.val / 4) + o.val, h'⟩ ⟨6272 * (t.val % 4) + k.val, h⟩) := by
  have e : (cfg1.win 1).index t = ![t.val / 4, t.val % 4] := (at1 t).2.1
  blk_ext [wb1, cols1, blk1, e]

/-- The part that a point adds. -/
def part1 (t : Fin cfg1.N) (j : S64x512.Idx) : EReal := ∑ k : Fin 6272, xb1 W c t (ix2 (j 0) k) * wb1 W c t (ix2 (j 1) k)

/-- A run's sum, as its last point leaves it. -/
theorem acc1_run (t : Fin cfg1.N) (ht : t.val % 4 = 3) (n : Fin 64) (o : Fin 512) (h' : 512 * (t.val / 4) + o.val < 1024) :
    acc1 W c t.val t.isLt (ix2 n o) = ∑ k : Fin 25088, rows1 W c (ix2 n k) * cols1 W c (ix2 ⟨512 * (t.val / 4) + o.val, h'⟩ k) := by
  refine (Pipeline.eq_sum_fin_of_reset_step_apply_of_flush (N := cfg1.N) (fun m hm => acc1 W c m hm) 4 (fun _ => (0 : EReal))
    (part1 W c) ?_ ?_ t ht (ix2 n o)).trans ?_
  · intro t h0 i
    obtain ⟨a, b, rfl⟩ : ∃ a b, i = ix2 a b := ⟨i 0, i 1, by funext x; match x with | 0 => rfl | 1 => rfl⟩
    rw [acc1_clear W c t h0]
    exact (pay2_at _ _ _ a b).trans (congrArg (· + _) (pay1_at a b))
  · intro t h0 i
    obtain ⟨a, b, rfl⟩ : ∃ a b, i = ix2 a b := ⟨i 0, i 1, by funext x; match x with | 0 => rfl | 1 => rfl⟩
    obtain ⟨m, hm⟩ := t
    cases m with
    | zero => exact absurd rfl h0
    | succ m =>
      dsimp only
      rw [acc1_add W c m hm h0]
      exact pay2_at _ _ _ a b
  · rw [zero_add, sum_runs]
    refine Finset.sum_congr rfl fun s _ => Finset.sum_congr rfl fun k _ => ?_
    have ht8 : t.val < 8 := t.isLt.trans_eq N_1
    have e1 : (4 * (t.val / 4) + s.val) % 4 = s.val := by omega
    have e2 : (4 * (t.val / 4) + s.val) / 4 = t.val / 4 := by omega
    refine congrArg₂ (· * ·) ((xb1_at W c _ n k (by dsimp only; omega)).trans ?_) ((wb1_at W c _ o k (by dsimp only; omega) (by dsimp only; omega)).trans ?_)
    · simp only [e1]
    · simp only [e1, e2]

/-- The large product. -/
def prod1 (y : S64x1024.Idx) : EReal := ∑ k : Fin 25088, rows1 W c (ix2 (y 0) k) * cols1 W c (ix2 (y 1) k)

/-- What the middle call leaves. -/
theorem fc1_out : (dat1 W c).arrAt 2 cfg1.N = prod1 W c := by
  refine (dat1 W c).arrAt_eq_of_covers 2 _ (by decide +kernel) fun t hf y => ?_
  blk_simp
  rw [after1_2]
  have e : (cfg1.win 2).index t = ![0, t.val / 4] := (at1 t).2.2
  have ht : t.val % 4 = 3 := (flush1_2 t).mp hf
  have ht8 : t.val < 8 := t.isLt.trans_eq N_1
  obtain ⟨a, b, rfl⟩ : ∃ (a : Fin 64) (b : Fin 512), y = ix2 a b := ⟨y 0, y 1, by funext x; match x with | 0 => rfl | 1 => rfl⟩
  refine (acc1_run W c t ht a b (by omega)).trans (congrArg (prod1 W c) (a₁ := ix2 a ⟨512 * (t.val / 4) + b.val, by omega⟩) ?_)
  blk_ext [e]

/-- The last call's operands as the region finds them. -/
def hid2 : Vec Ideal S64x1024 .f32 := W c main_v72
def bias2 : Vec Ideal S1x1024 .f32 := W c main_v73
def wts2 : Vec Ideal S32x1024 .f32 := W c main_arg20
def last2 : Vec Ideal S1x32 .f32 := W c main_v74

theorem blk2_0 (t : Fin cfg2.N) : blk2 W c 0 t = hid2 W c := by
  funext y; have e : (cfg2.win 0).index t = fun _ => 0 := rfl
  blk_ext [blk2, hid2, e]
theorem blk2_1 (t : Fin cfg2.N) : blk2 W c 1 t = bias2 W c := by
  funext y; have e : (cfg2.win 1).index t = fun _ => 0 := rfl
  blk_ext [blk2, bias2, e]
theorem blk2_2 (t : Fin cfg2.N) : blk2 W c 2 t = wts2 W c := by
  funext y; have e : (cfg2.win 2).index t = fun _ => 0 := rfl
  blk_ext [blk2, wts2, e]
theorem blk2_3 (t : Fin cfg2.N) : blk2 W c 3 t = last2 W c := by
  funext y; have e : (cfg2.win 3).index t = fun _ => 0 := rfl
  blk_ext [blk2, last2, e]

/-- What the last call leaves. -/
theorem fc2_out : (dat2 W c).arrAt 4 cfg2.N = k2_pay1 (F := Ideal) (hid2 W c) (bias2 W c) (wts2 W c) (last2 W c) := by
  refine (dat2 W c).arrAt_eq_of_covers 4 _ (by decide +kernel) fun t hf y => ?_
  blk_simp
  rw [after2_4, blk2_0, blk2_1, blk2_2, blk2_3]
  have e : (cfg2.win 4).index t = fun _ => 0 := rfl
  refine congrArg (k2_pay1 (F := Ideal) (hid2 W c) (bias2 W c) (wts2 W c) (last2 W c)) ?_
  blk_ext [e]

end Cert.KernelIdeal.Hand

end
-- ==== Proof.Math.Value.lean ====
module

public import proofs.«01_k».proof.Proof.Math.Operands
public import proofs.«01_k».proof.Proof.Math.Blocks
public import proofs.«01_k».proof.Proof.Math.Head

@[expose] public section

set_option maxRecDepth 16384

/-! # What the kernel computes -/

noncomputable section

namespace Cert.KernelIdeal.Hand

open Cert.KernelIdeal Cert.KernelIdeal.Gen Cert.Net
open Idealize.ShloMosaic Idealize.ShloMosaic.TcCoe
open Idealize.SL.Sem

variable (m : (ℓ : Loc nD τ sig) → Buf (Elt Ideal) ℓ) (hX : Words m) (c : Dev nD)

/-- The network's tensors as the kernel's program is given them. -/
def tens : Tensors where
  x := m ((c : Thread nD τ).loc main_arg0)
  q n k := entry (m ((c : Thread nD τ).loc main_arg1) (ix2 n ⟨24 - k, by omega⟩))
  w1 := m ((c : Thread nD τ).loc main_arg2)
  b1 := m ((c : Thread nD τ).loc main_arg3)
  w2 := m ((c : Thread nD τ).loc main_arg4)
  b2 := m ((c : Thread nD τ).loc main_arg5)
  uw1 := m ((c : Thread nD τ).loc main_arg6)
  ub1 := m ((c : Thread nD τ).loc main_arg7)
  uw2 := m ((c : Thread nD τ).loc main_arg8)
  ub2 := m ((c : Thread nD τ).loc main_arg9)
  bwp := m ((c : Thread nD τ).loc main_arg10)
  bbp := m ((c : Thread nD τ).loc main_arg11)
  bw1 := m ((c : Thread nD τ).loc main_arg12)
  bb1 := m ((c : Thread nD τ).loc main_arg13)
  bw2 := m ((c : Thread nD τ).loc main_arg14)
  bb2 := m ((c : Thread nD τ).loc main_arg15)
  cw := m ((c : Thread nD τ).loc main_arg16)
  cb := m ((c : Thread nD τ).loc main_arg17)
  f1 := m ((c : Thread nD τ).loc main_arg18)
  g1 := m ((c : Thread nD τ).loc main_arg19)
  f2 := m ((c : Thread nD τ).loc main_arg20)
  g2 := m ((c : Thread nD τ).loc main_arg21)

/-- The fused call's parameter blocks hold the parameters. -/
theorem params0 (t : Fin (cfg0 (tbl m)).N) : Params (tens m c).par (blk0 (tbl m) (V5 m) c 3 t) (blk0 (tbl m) (V5 m) c 4 t) (blk0 (tbl m) (V5 m) c 5 t)
    (blk0 (tbl m) (V5 m) c 6 t) (blk0 (tbl m) (V5 m) c 7 t) (blk0 (tbl m) (V5 m) c 8 t) (blk0 (tbl m) (V5 m) c 12 t) (blk0 (tbl m) (V5 m) c 13 t)
    (blk0 (tbl m) (V5 m) c 14 t) (blk0 (tbl m) (V5 m) c 15 t) (blk0 (tbl m) (V5 m) c 16 t) where
  uw1 u k o d := (congrFun ((blk0_3 (tbl m) (V5 m) c t).trans (v40_val m c)) (ix4 u k o d)).trans (tapsUn _ u k o d)
  uw2 u k o d := (congrFun ((blk0_4 (tbl m) (V5 m) c t).trans (v42_val m c)) (ix4 u k o d)).trans (tapsUn _ u k o d)
  wa u o d := (congrFun ((blk0_5 (tbl m) (V5 m) c t).trans (v48_val m c)) (ix3 u o d)).trans (half0 _ u o d)
  wb u o d := (congrFun ((blk0_6 (tbl m) (V5 m) c t).trans (v50_val m c)) (ix3 u o d)).trans (half1 _ u o d)
  bw1 u k o d := (congrFun ((blk0_7 (tbl m) (V5 m) c t).trans (v44_val m c)) (ix4 u k o d)).trans (tapsBin _ u k o d)
  bw2 u k o d := (congrFun ((blk0_8 (tbl m) (V5 m) c t).trans (v46_val m c)) (ix4 u k o d)).trans (tapsBin _ u k o d)
  ub1 u o s := (congrFun ((blk0_12 (tbl m) (V5 m) c t).trans (v57_val m c)) (ix3 u o s)).trans (biasUn _ u o s)
  ub2 u o s := (congrFun ((blk0_13 (tbl m) (V5 m) c t).trans (v59_val m c)) (ix3 u o s)).trans (biasUn _ u o s)
  bp u o s := (congrFun ((blk0_14 (tbl m) (V5 m) c t).trans (v61_val m c)) (ix3 u o s)).trans (biasBin _ u o s)
  bb1 u o s := (congrFun ((blk0_15 (tbl m) (V5 m) c t).trans (v63_val m c)) (ix3 u o s)).trans (biasBin _ u o s)
  bb2 u o s := (congrFun ((blk0_16 (tbl m) (V5 m) c t).trans (v65_val m c)) (ix3 u o s)).trans (biasBin _ u o s)

/-- The words of image `t` are those of its tokens, last first. -/
theorem words0 (t : Fin (cfg0 (tbl m)).N) (n : Fin 64) (hn : n.val = t.val) (k : Fin k0_t1_loop.trips) :
    word (F := Ideal) ((tbl m).1 0) (grid0.coords t) k = tab ((tens m c).q n k) := by
  obtain rfl : c = 0 := Subsingleton.elim _ _
  obtain ⟨j, h0, h1, e⟩ := word_tbl m (grid0.coords t) k
  rw [e]
  refine congrArg (fun w => tab (entry w)) (congrArg (m ((0 : Dev nD).tc.loc main_arg1)) (funext fun a => Fin.ext ?_))
  have hc : (grid0.coords t 0).val = t.val := at0_pt t
  match a with
  | 0 => show (j 0).val = n.val; omega
  | 1 => show 25 - ((j 1).val + 1) = 24 - k.val; omega

/-- What the fused call leaves for image `n` at the four lanes of a pooling window. -/
theorem out0_at (t : Fin (cfg0 (tbl m)).N) (n : Fin 64) (hn : n.val = t.val) (o : Fin 512) (r d : Fin 7) (s : Fin 256) (e : s.val = (2 * r.val + 1) * 16 + (2 * d.val + 1)) :
    out0 (tbl m) (V5 m) hX c t (ix3 0 o s) = (tens m c).pool n o r d :=
  fused_pooled (params0 m c t)
    (fun k o d => (congrFun ((blk0_1 (tbl m) (V5 m) c t).trans (v35_val m c)) (ix3 k o d)).trans (taps1024 _ k o d))
    (fun k o d => (congrFun ((blk0_2 (tbl m) (V5 m) c t).trans (v38_val m c)) (ix4 0 k o d)).trans (taps128 _ k o d))
    (fun o s => (congrFun ((blk0_10 (tbl m) (V5 m) c t).trans (v53_val m c)) (ix2 o s)).trans (bias128 _ o s))
    (fun o s => (congrFun ((blk0_11 (tbl m) (V5 m) c t).trans (v55_val m c)) (ix2 o s)).trans (bias128 _ o s))
    (fun d s => (blk0_0 (tbl m) (V5 m) c t d s).trans ((congrFun (v1_val m c) _).trans ((padded _ _ d s).trans (by rw [show (⟨t.val, t.isLt.trans_eq N_0⟩ : Fin 64) = n from Fin.ext hn.symm]; rfl))))
    ((tbl m).1 0) (grid0.coords t) (hX t) ((tens m c).q n) (words0 m c t n hn)
    (fun o d => (congrFun ((blk0_9 (tbl m) (V5 m) c t).trans (v51_val m c)) (ix2 o d)).trans (clsw_cast _ o d))
    (fun o s => (congrFun ((blk0_17 (tbl m) (V5 m) c t).trans (v67_val m c)) (ix2 o s)).trans (bias512 _ o s))
    o r d s e

/-- The features of all images, as the fused call leaves them. -/
def feats0 (y : S64x512x256.Idx) : EReal := out0 (tbl m) (V5 m) hX c ⟨(y 0).val, (y 0).isLt.trans_eq N_0.symm⟩ (ix3 0 (y 1) (y 2))

theorem covers0 : ((cfg0 (F := Ideal) (tbl m)).win (18 : Fin 19)).Covers := by
  refine Pipeline.Window.covers_of_indexMap_surj _ rfl (show ∀ a : Fin 3, 0 < S1x512x256.size a by decide) fun β => ?_
  have b0 : ((cfg0 (F := Ideal) (tbl m)).win (18 : Fin 19)).nblk 0 = 64 := by unfold Pipeline.Window.nblk; exact (show (64 + 1 - 1) / 1 = 64 by norm_num)
  have b1 : ((cfg0 (F := Ideal) (tbl m)).win (18 : Fin 19)).nblk 1 = 1 := by unfold Pipeline.Window.nblk; exact (show (512 + 512 - 1) / 512 = 1 by norm_num)
  have b2 : ((cfg0 (F := Ideal) (tbl m)).win (18 : Fin 19)).nblk 2 = 1 := by unfold Pipeline.Window.nblk; exact (show (256 + 256 - 1) / 256 = 1 by norm_num)
  obtain ⟨i, hi⟩ := onto0 ⟨(β 0).val, (β 0).isLt.trans_eq b0⟩
  refine ⟨i, fun a => (congrFun hi a).trans ?_⟩
  match a with
  | 0 => rfl
  | 1 => exact (Nat.lt_one_iff.mp ((β 1).isLt.trans_eq b1)).symm
  | 2 => exact (Nat.lt_one_iff.mp ((β 2).isLt.trans_eq b2)).symm

theorem o6_val : o6 m hX c = feats0 m hX c := by
  refine (dat0 (tbl m) (V5 m) hX c).arrAt_eq_of_covers (18 : Fin 19) _ (covers0 m) fun t hf y => ?_
  blk_simp
  refine (congrFun (after0_out (tbl m) (V5 m) hX c t) y).trans ?_
  have e : (pcfg0.win (tbl m) 18).index t = ![t.val, 0, 0] := at0_18 t
  obtain ⟨z, b, d, rfl⟩ : ∃ (z : Fin 1) (b : Fin 512) (d : Fin 256), y = ix3 z b d := ⟨y 0, y 1, y 2, by funext x; match x with | 0 => rfl | 1 => rfl | 2 => rfl⟩
  obtain rfl : z = 0 := Subsingleton.elim _ _
  refine Eq.trans ?_ (congrArg (feats0 m hX c) (a₁ := ix3 ⟨t.val, t.isLt.trans_eq N_0⟩ b d) ?_)
  · rfl
  · blk_ext [e]

theorem o6_at (n : Fin 64) (o : Fin 512) (r d : Fin 7) (s : Fin 256) (e : s.val = (2 * r.val + 1) * 16 + (2 * d.val + 1)) :
    o6 m hX c (ix3 n o s) = (tens m c).pool n o r d :=
  (congrFun (o6_val m hX c) (ix3 n o s)).trans (out0_at m hX c _ n rfl o r d s e)

/-- The pooled windows, cut out of the lanes and flattened. -/
theorem cut_at (f : Vec Ideal S64x512x256 .f32) (n : Fin 64) (k : Fin 25088) :
    shapeCast S64x25088 (Host.slice S64x512x7x7 ![0, 0, 1, 1] ![1, 1, 2, 2] (shapeCast S64x512x16x16 f shapeCasts_S64x512x256_S64x512x16x16) slicesBy_S64x512x16x16_S64x512x7x7_0s1_0s1_1s2_1s2)
      shapeCasts_S64x512x7x7_S64x25088 (ix2 n k)
      = f (ix3 n ⟨k.val / 49, by omega⟩ ⟨(1 + 2 * (k.val / 7 % 7)) * 16 + (1 + 2 * (k.val % 7)), by omega⟩) := by
  pointwise []

/-! ## From the pooled windows to the scores -/

/-- The flattened features, as the middle call reads them. -/
theorem rows1_at (n : Fin 64) (k : Fin 25088) : rows1 (W7 m hX) c (ix2 n k) = (tens m c).flat n k := by
  have h : W7 m hX c main_v71 = shapeCast S64x25088 (Host.slice S64x512x7x7 ![0, 0, 1, 1] ![1, 1, 2, 2] (shapeCast S64x512x16x16 (o6 m hX c) shapeCasts_S64x512x256_S64x512x16x16) slicesBy_S64x512x16x16_S64x512x7x7_0s1_0s1_1s2_1s2)
      shapeCasts_S64x512x7x7_S64x25088 := by
    unfold W7
    generalize V5 m c = W
    generalize o6 m hX c = f
    simp only [hostOps1]
    after_results_entrywise []
  exact (congrFun h (ix2 n k)).trans ((cut_at _ n k).trans (o6_at m hX c n _ ⟨k.val / 7 % 7, by omega⟩ ⟨k.val % 7, by omega⟩ _ (by dsimp only; omega)))

/-- An argument that no host operation writes, as a later region finds it. -/
theorem W7_start (b : Ref sig .tc) (h0 : b ∉ hostOps0_W) (h1 : b ∉ hostOps0_1_W) (h2 : b ∉ hostOps0_2_W) (h3 : b ∉ hostOps0_3_W) (h4 : b ∉ hostOps0_4_W)
    (h5 : b ∉ ([main_v68] : List (Ref sig .tc))) (h6 : b ∉ hostOps1_W) : W7 m hX c b = m ((c : Thread nD τ).loc b) :=
  (StableHlo.after_of_writes_sub hostOps1 _ hostOps1_writes h6).trans <|
    (Function.update_of_ne (StableHlo.devRef_ne_of_ne (List.ne_of_not_mem_cons h5) : (Proc.devRef .tc b : DevRef τ sig) ≠ Proc.devRef .tc main_v68) _ _).trans <|
    (V5_of m c b h4).trans (V4_start m c b h0 h1 h2 h3)

theorem W9_start (b : Ref sig .tc) (h7 : b ∉ ([main_v72] : List (Ref sig .tc))) (h8 : b ∉ hostOps2_W) : W9 m hX c b = W7 m hX c b :=
  (StableHlo.after_of_writes_sub hostOps2 _ hostOps2_writes h8).trans
    (Function.update_of_ne (StableHlo.devRef_ne_of_ne (List.ne_of_not_mem_cons h7) : (Proc.devRef .tc b : DevRef τ sig) ≠ Proc.devRef .tc main_v72) _ _)

/-- The hidden layer before its bias. -/
theorem hid2_at (n : Fin 64) (j : Fin 1024) : hid2 (W9 m hX) c (ix2 n j) = ∑ k : Fin 25088, (tens m c).flat n k * (tens m c).f1 (ix2 j k) := by
  have h : W9 m hX c main_v72 = o8 m hX c :=
    (StableHlo.after_of_writes_sub hostOps2 _ hostOps2_writes (by decide)).trans (Function.update_self ..)
  refine (congrFun (h.trans (fc1_out (W7 m hX) c)) (ix2 n j)).trans ?_
  show prod1 (W7 m hX) c (ix2 n j) = _
  refine Finset.sum_congr rfl fun k _ => ?_
  exact congrArg₂ (· * ·) (rows1_at m hX c n k)
    (congrFun (W7_start m hX c main_arg18 (by decide) (by decide) (by decide) (by decide) (by decide) (by decide) (by decide)) (ix2 j k))

theorem bias2_at (j : Fin 1024) : bias2 (W9 m hX) c (ix2 0 j) = (tens m c).g1 (ix1 j) := by
  have h : W9 m hX c main_v73 = shapeCast S1x1024 (m ((c : Thread nD τ).loc main_arg19)) shapeCasts_S1024_S1x1024 := by
    rw [← W7_start m hX c main_arg19 (by decide) (by decide) (by decide) (by decide) (by decide) (by decide) (by decide)]
    unfold W9
    generalize W7 m hX c = W
    generalize o8 m hX c = f
    simp only [hostOps2]
    after_results_entrywise []
  refine (congrFun h (ix2 0 j)).trans ?_
  show _ = (m ((c : Thread nD τ).loc main_arg19) : Vec Ideal S1024 .f32) (ix1 j)
  pointwise []

theorem last2_at (a : Fin 32) : last2 (W9 m hX) c (ix2 0 a) = (tens m c).g2 (ix1 a) := by
  have h : W9 m hX c main_v74 = shapeCast S1x32 (m ((c : Thread nD τ).loc main_arg21)) shapeCasts_S32_S1x32 := by
    rw [← W7_start m hX c main_arg21 (by decide) (by decide) (by decide) (by decide) (by decide) (by decide) (by decide)]
    unfold W9
    generalize W7 m hX c = W
    generalize o8 m hX c = f
    simp only [hostOps2]
    after_results_entrywise []
  refine (congrFun h (ix2 0 a)).trans ?_
  show _ = (m ((c : Thread nD τ).loc main_arg21) : Vec Ideal S32 .f32) (ix1 a)
  pointwise []

theorem wts2_at (a : Fin 32) (j : Fin 1024) : wts2 (W9 m hX) c (ix2 a j) = (tens m c).f2 (ix2 a j) :=
  congrFun ((W9_start m hX c main_arg20 (by decide) (by decide)).trans
    (W7_start m hX c main_arg20 (by decide) (by decide) (by decide) (by decide) (by decide) (by decide) (by decide))) (ix2 a j)

/-- What the program leaves in its result: the network's scores. -/
theorem o10_at (n : Fin 64) (a : Fin 32) : o10 m hX c (ix2 n a) = (tens m c).score n a := by
  refine (congrFun (fc2_out (W9 m hX) c) (ix2 n a)).trans ((fc2_at _ _ _ _ n a).trans ?_)
  unfold Tensors.score Tensors.hidden
  rw [last2_at]
  simp only [hid2_at, bias2_at, wts2_at]

end Cert.KernelIdeal.Hand

end
-- ==== Proof.Math.RefConv.lean ====
module

public import proofs.«01_k».proof.Proof.Gen.ReferenceIdeal
public import proofs.«01_k».proof.Proof.Math.Net
public import Idealize.ShloMosaic.Lib.Pointwise

@[expose] public section

set_option maxRecDepth 16384

/-! # The reference's layers, entry by entry -/

noncomputable section

namespace Cert.ReferenceIdeal.Hand

open Cert.ReferenceIdeal Cert.ReferenceIdeal.Gen Cert.Net
open Idealize.ShloMosaic Idealize.ShloMosaic.TcCoe

/-- The zero a tensor's border is filled with. -/
theorem zero_word : (FloatOps.sitofp (F := Ideal) .f32 0#32 : EReal) = 0 := by
  show (((0#32 : BitVec 32).toInt : ℝ) : EReal) = 0
  norm_num

/-! ## Borders -/

/-- 128 channels with a border of zeros. -/
def edge (x : Vec Ideal S64x128x14x14 .f32) : Vec Ideal S64x128x16x16 .f32 :=
  pad S64x128x16x16 ![0, 0, 1, 1] ![0, 0, 1, 1] ![0, 0, 0, 0] x (sitofp (F := Ideal) .f32 (constantI S_ 32 0#32)) pads_S64x128x14x14_S64x128x16x16_000_000_110_110 h_S_

theorem edge_at (x : Vec Ideal S64x128x14x14 .f32) (n : Fin 64) (X : Img 128) (hx : ∀ c h v, x (ix4 n c h v) = X c h v)
    (c : Fin 128) (r q : Fin 16) : edge x (ix4 n c r q) = padd X c r.val q.val := by
  unfold edge padd
  pointwise []
  by_cases h : (1 ≤ r.val ∧ r.val ≤ 14) ∧ (1 ≤ q.val ∧ q.val ≤ 14)
  · rw [dif_pos h, dif_pos (by omega)]
    exact hx _ _ _
  · rw [dif_neg h, dif_neg (by omega)]
    exact zero_word

/-- 1024 channels with a border of zeros. -/
def edgeX (x : Vec Ideal S64x1024x14x14 .f32) : Vec Ideal S64x1024x16x16 .f32 :=
  pad S64x1024x16x16 ![0, 0, 1, 1] ![0, 0, 1, 1] ![0, 0, 0, 0] x (sitofp (F := Ideal) .f32 (constantI S_ 32 0#32)) pads_S64x1024x14x14_S64x1024x16x16_000_000_110_110 h_S_

theorem edgeX_at (x : Vec Ideal S64x1024x14x14 .f32) (n : Fin 64) (X : Img 1024) (hx : ∀ c h v, x (ix4 n c h v) = X c h v)
    (c : Fin 1024) (r q : Fin 16) : edgeX x (ix4 n c r q) = padd X c r.val q.val := by
  unfold edgeX padd
  pointwise []
  by_cases h : (1 ≤ r.val ∧ r.val ≤ 14) ∧ (1 ≤ q.val ∧ q.val ≤ 14)
  · rw [dif_pos h, dif_pos (by omega)]
    exact hx _ _ _
  · rw [dif_neg h, dif_neg (by omega)]
    exact zero_word

/-! ## A convolution whose weight is each image's own -/

/-- One window position. -/
def tap (w : Vec Ideal S64x128x128x3x3 .f32) (x : Vec Ideal S64x128x16x16 .f32) (i j : ℕ)
    (hw : S64x128x128x3x3.Slices ![0, 0, 0, i, j] S64x128x128x1x1) (hx : S64x128x16x16.Slices ![0, 0, i, j] S64x128x14x14) : Vec Ideal S64x128x14x14 .f32 :=
  Host.dotGeneral (F := Ideal) (φ₁ := .f32) (φ₂ := .f32) dot_S64x128x128_S64x128x14x14_S64x128x14x14_2_1_1_23_0_0 none (shapeCast S64x128x128 (extractStridedSlice S64x128x128x1x1 ![0, 0, 0, i, j] w hw) shapeCasts_S64x128x128x1x1_S64x128x128) (extractStridedSlice S64x128x14x14 ![0, 0, i, j] x hx)

theorem tap_at (w : Vec Ideal S64x128x128x3x3 .f32) (x : Vec Ideal S64x128x16x16 .f32) (k : Fin 9)
    (hw : S64x128x128x3x3.Slices ![0, 0, 0, k.val / 3, k.val % 3] S64x128x128x1x1) (hx : S64x128x16x16.Slices ![0, 0, k.val / 3, k.val % 3] S64x128x14x14)
    (n : Fin 64) (o : Fin 128) (h v : Fin 14) :
    tap w x (k.val / 3) (k.val % 3) hw hx (ix4 n o h v)
      = ∑ c : Fin 128, (w (ix5 n o c (row3 k) (col3 k)) * x (ix4 n c ⟨k.val / 3 + h.val, by omega⟩ ⟨k.val % 3 + v.val, by omega⟩) : EReal) := by
  unfold tap
  pointwise [row3, col3]

/-- The convolution and its bias. -/
def convB (w : Vec Ideal S64x128x128x3x3 .f32) (x : Vec Ideal S64x128x16x16 .f32) (b : Vec Ideal S64x128 .f32) : Vec Ideal S64x128x14x14 .f32 :=
  addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32)
    (tap w x 0 0 slices_S64x128x128x3x3_S64x128x128x1x1_0_0_0_0_0 slices_S64x128x16x16_S64x128x14x14_0_0_0_0)
    (tap w x 0 1 slices_S64x128x128x3x3_S64x128x128x1x1_0_0_0_0_1 slices_S64x128x16x16_S64x128x14x14_0_0_0_1))
    (tap w x 0 2 slices_S64x128x128x3x3_S64x128x128x1x1_0_0_0_0_2 slices_S64x128x16x16_S64x128x14x14_0_0_0_2))
    (tap w x 1 0 slices_S64x128x128x3x3_S64x128x128x1x1_0_0_0_1_0 slices_S64x128x16x16_S64x128x14x14_0_0_1_0))
    (tap w x 1 1 slices_S64x128x128x3x3_S64x128x128x1x1_0_0_0_1_1 slices_S64x128x16x16_S64x128x14x14_0_0_1_1))
    (tap w x 1 2 slices_S64x128x128x3x3_S64x128x128x1x1_0_0_0_1_2 slices_S64x128x16x16_S64x128x14x14_0_0_1_2))
    (tap w x 2 0 slices_S64x128x128x3x3_S64x128x128x1x1_0_0_0_2_0 slices_S64x128x16x16_S64x128x14x14_0_0_2_0))
    (tap w x 2 1 slices_S64x128x128x3x3_S64x128x128x1x1_0_0_0_2_1 slices_S64x128x16x16_S64x128x14x14_0_0_2_1))
    (tap w x 2 2 slices_S64x128x128x3x3_S64x128x128x1x1_0_0_0_2_2 slices_S64x128x16x16_S64x128x14x14_0_0_2_2))
    (broadcastInDim S64x128x14x14 ![0, 1, 2, 3] bcast_S64x128x1x1_S64x128x14x14_0_1_2_3 (broadcastInDim S64x128x1x1 ![0, 1] bcast_S64x128_S64x128x1x1_0_1 b))

/-- Nine terms added from the left and one more. -/
theorem nine (f : Fin 9 → EReal) (t : EReal) : f 0 + f 1 + f 2 + f 3 + f 4 + f 5 + f 6 + f 7 + f 8 + t = (∑ k, f k) + t := by
  simp only [Fin.sum_univ_succ, Fin.sum_univ_zero, add_zero, add_assoc]
  rfl

theorem bias_at (b : Vec Ideal S64x128 .f32) (n : Fin 64) (o : Fin 128) (h v : Fin 14) :
    broadcastInDim S64x128x14x14 ![0, 1, 2, 3] bcast_S64x128x1x1_S64x128x14x14_0_1_2_3 (broadcastInDim S64x128x1x1 ![0, 1] bcast_S64x128_S64x128x1x1_0_1 b) (ix4 n o h v)
      = b (ix2 n o) := by
  pointwise []

theorem convB_at (w : Vec Ideal S64x128x128x3x3 .f32) (x : Vec Ideal S64x128x16x16 .f32) (b : Vec Ideal S64x128 .f32) (n : Fin 64)
    (W : Wt 128) (B : Fin 128 → EReal) (X : Img 128) (hw : ∀ k o c, w (ix5 n o c (row3 k) (col3 k)) = W k o c)
    (hb : ∀ o, b (ix2 n o) = B o) (hx : ∀ c r q, x (ix4 n c r q) = padd X c r.val q.val) (o : Fin 128) (h v : Fin 14) :
    convB w x b (ix4 n o h v) = conv3 W X o h v + B o := by
  have key : ∀ (k : Fin 9) (i j : ℕ) (hi : i = k.val / 3) (hj : j = k.val % 3)
      (hw' : S64x128x128x3x3.Slices ![0, 0, 0, i, j] S64x128x128x1x1) (hx' : S64x128x16x16.Slices ![0, 0, i, j] S64x128x14x14),
      tap w x i j hw' hx' (ix4 n o h v) = ∑ c : Fin 128, W k o c * padd X c (h.val + k.val / 3) (v.val + k.val % 3) := by
    intro k i j hi hj hw' hx'
    subst hi hj
    refine (tap_at w x k hw' hx' n o h v).trans (Finset.sum_congr rfl fun c _ => ?_)
    rw [hw, hx]
    show (_ * padd X c (k.val / 3 + h.val) (k.val % 3 + v.val) : EReal) = _
    rw [Nat.add_comm (k.val / 3), Nat.add_comm (k.val % 3)]
  unfold conv3
  refine Eq.trans ?_ (nine (fun k => ∑ c : Fin 128, W k o c * padd X c (h.val + k.val / 3) (v.val + k.val % 3)) (B o))
  show (((((((((tap w x 0 0 _ _ (ix4 n o h v) + tap w x 0 1 _ _ (ix4 n o h v)) + tap w x 0 2 _ _ (ix4 n o h v)) + tap w x 1 0 _ _ (ix4 n o h v))
    + tap w x 1 1 _ _ (ix4 n o h v)) + tap w x 1 2 _ _ (ix4 n o h v)) + tap w x 2 0 _ _ (ix4 n o h v)) + tap w x 2 1 _ _ (ix4 n o h v))
    + tap w x 2 2 _ _ (ix4 n o h v)) + broadcastInDim S64x128x14x14 ![0, 1, 2, 3] bcast_S64x128x1x1_S64x128x14x14_0_1_2_3 (broadcastInDim S64x128x1x1 ![0, 1] bcast_S64x128_S64x128x1x1_0_1 b) (ix4 n o h v) : EReal) = _
  rw [bias_at, hb, key 0 0 0 rfl rfl, key 1 0 1 rfl rfl, key 2 0 2 rfl rfl, key 3 1 0 rfl rfl, key 4 1 1 rfl rfl, key 5 1 2 rfl rfl,
    key 6 2 0 rfl rfl, key 7 2 1 rfl rfl, key 8 2 2 rfl rfl]

/-- The positive part. -/
def pos (x : Vec Ideal S64x128x14x14 .f32) : Vec Ideal S64x128x14x14 .f32 :=
  maximumf (F := Ideal) (φ := .f32) x (broadcastInDim S64x128x14x14 ![] bcast_S_S64x128x14x14 (constant (F := Ideal) S_ .f32 0x00000000#32))

theorem pos_at (x : Vec Ideal S64x128x14x14 .f32) (i : S64x128x14x14.Idx) : pos x i = (max (x i) 0 : EReal) := by
  show (max (x i) (Ideal.ofBits .f32 0x00000000#32) : EReal) = _
  rw [Ideal.ofBits_zero_f32]

theorem layer_at (w : Vec Ideal S64x128x128x3x3 .f32) (x : Vec Ideal S64x128x16x16 .f32) (b : Vec Ideal S64x128 .f32) (n : Fin 64)
    (W : Wt 128) (B : Fin 128 → EReal) (X : Img 128) (hw : ∀ k o c, w (ix5 n o c (row3 k) (col3 k)) = W k o c)
    (hb : ∀ o, b (ix2 n o) = B o) (hx : ∀ c r q, x (ix4 n c r q) = padd X c r.val q.val) (o : Fin 128) (h v : Fin 14) :
    pos (convB w x b) (ix4 n o h v) = layer W B X o h v := by
  rw [pos_at, convB_at w x b n W B X hw hb hx]
  rfl

/-- A residual block of the reference. -/
def blockR (w1 : Vec Ideal S64x128x128x3x3 .f32) (b1 : Vec Ideal S64x128 .f32) (w2 : Vec Ideal S64x128x128x3x3 .f32) (b2 : Vec Ideal S64x128 .f32)
    (x : Vec Ideal S64x128x14x14 .f32) : Vec Ideal S64x128x14x14 .f32 :=
  pos (addf (F := Ideal) (φ := .f32) x (convB w2 (edge (pos (convB w1 (edge x) b1))) b2))

theorem block_at (w1 : Vec Ideal S64x128x128x3x3 .f32) (b1 : Vec Ideal S64x128 .f32) (w2 : Vec Ideal S64x128x128x3x3 .f32) (b2 : Vec Ideal S64x128 .f32)
    (x : Vec Ideal S64x128x14x14 .f32) (n : Fin 64) (W1 W2 : Wt 128) (B1 B2 : Fin 128 → EReal) (X : Img 128)
    (hw1 : ∀ k o c, w1 (ix5 n o c (row3 k) (col3 k)) = W1 k o c) (hb1 : ∀ o, b1 (ix2 n o) = B1 o)
    (hw2 : ∀ k o c, w2 (ix5 n o c (row3 k) (col3 k)) = W2 k o c) (hb2 : ∀ o, b2 (ix2 n o) = B2 o)
    (hx : ∀ c h v, x (ix4 n c h v) = X c h v) (o : Fin 128) (h v : Fin 14) :
    blockR w1 b1 w2 b2 x (ix4 n o h v) = block W1 B1 W2 B2 X o h v := by
  unfold blockR
  rw [pos_at]
  show (max (x (ix4 n o h v) + convB w2 (edge (pos (convB w1 (edge x) b1))) b2 (ix4 n o h v)) 0 : EReal) = _
  rw [hx, convB_at w2 _ b2 n W2 B2 (layer W1 B1 X) hw2 hb2 fun c r q =>
    edge_at _ n _ (layer_at w1 _ b1 n W1 B1 X hw1 hb1 fun c r q => edge_at x n X hx c r q) c r q]
  rfl

/-! ## The projection in front of a binary module -/

/-- The output and the saved image side by side, projected. -/
def jointR (w : Vec Ideal S64x128x256x1x1 .f32) (b : Vec Ideal S64x128 .f32) (x s : Vec Ideal S64x128x14x14 .f32) : Vec Ideal S64x128x14x14 .f32 :=
  pos (addf (F := Ideal) (φ := .f32) (Host.dotGeneral (F := Ideal) (φ₁ := .f32) (φ₂ := .f32) dot_S64x128x256_S64x256x14x14_S64x128x14x14_2_1_1_23_0_0 none
    (shapeCast S64x128x256 w shapeCasts_S64x128x256x1x1_S64x128x256)
    (concatenate S64x256x14x14 1 [⟨S64x128x14x14, x⟩, ⟨S64x128x14x14, s⟩] concatenates_S64x128x14x14_S64x128x14x14_S64x256x14x14_d1))
    (broadcastInDim S64x128x14x14 ![0, 1, 2, 3] bcast_S64x128x1x1_S64x128x14x14_0_1_2_3 (broadcastInDim S64x128x1x1 ![0, 1] bcast_S64x128_S64x128x1x1_0_1 b)))

/-- The two images' channels. -/
def side (x s : Vec Ideal S64x128x14x14 .f32) (n : Fin 64) (h v : Fin 14) (c : Fin 256) : EReal :=
  if hc : c.val < 128 then x (ix4 n ⟨c.val, hc⟩ h v) else s (ix4 n ⟨c.val - 128, by omega⟩ h v)

theorem cat_at (x s : Vec Ideal S64x128x14x14 .f32) (n : Fin 64) (h v : Fin 14) (c : Fin 256) :
    concatenate S64x256x14x14 1 [⟨S64x128x14x14, x⟩, ⟨S64x128x14x14, s⟩] concatenates_S64x128x14x14_S64x128x14x14_S64x256x14x14_d1 (ix4 n c h v)
      = side x s n h v c := by
  unfold side
  pointwise []

theorem proj_at (w : Vec Ideal S64x128x256x1x1 .f32) (y : Vec Ideal S64x256x14x14 .f32) (n : Fin 64) (o : Fin 128) (h v : Fin 14) :
    Host.dotGeneral (F := Ideal) (φ₁ := .f32) (φ₂ := .f32) dot_S64x128x256_S64x256x14x14_S64x128x14x14_2_1_1_23_0_0 none
      (shapeCast S64x128x256 w shapeCasts_S64x128x256x1x1_S64x128x256) y (ix4 n o h v)
      = ∑ c : Fin 256, (w (ix5 n o c 0 0) * y (ix4 n c h v) : EReal) := by
  pointwise []

theorem joint_at (w : Vec Ideal S64x128x256x1x1 .f32) (b : Vec Ideal S64x128 .f32) (x s : Vec Ideal S64x128x14x14 .f32) (n : Fin 64)
    (A C : Fin 128 → Fin 128 → EReal) (B : Fin 128 → EReal) (X Y : Img 128)
    (ha : ∀ o c : Fin 128, w (ix5 n o ⟨c.val, by omega⟩ 0 0) = A o c) (hc : ∀ o c : Fin 128, w (ix5 n o ⟨128 + c.val, by omega⟩ 0 0) = C o c)
    (hb : ∀ o, b (ix2 n o) = B o) (hx : ∀ c h v, x (ix4 n c h v) = X c h v) (hs : ∀ c h v, s (ix4 n c h v) = Y c h v)
    (o : Fin 128) (h v : Fin 14) : jointR w b x s (ix4 n o h v) = joint A C B X Y o h v := by
  unfold jointR joint
  rw [pos_at]
  refine congrArg (fun t : EReal => max t 0) ?_
  refine (congrArg₂ (fun s t : EReal => s + t) (proj_at w _ n o h v) ((bias_at b n o h v).trans (hb o))).trans ?_
  refine congrArg (fun t : EReal => t + B o) ?_
  have e : ∀ c : Fin 256, (w (ix5 n o c 0 0) * concatenate S64x256x14x14 1 [⟨S64x128x14x14, x⟩, ⟨S64x128x14x14, s⟩] concatenates_S64x128x14x14_S64x128x14x14_S64x256x14x14_d1 (ix4 n c h v) : EReal)
      = w (ix5 n o c 0 0) * side x s n h v c := fun c => by rw [cat_at]
  rw [Finset.sum_congr rfl fun c _ => e c]
  refine (Fin.sum_univ_add (a := 128) (b := 128) fun c : Fin 256 => (w (ix5 n o c 0 0) * side x s n h v c : EReal)).trans ?_
  refine congrArg₂ (fun s t : EReal => s + t) (Finset.sum_congr rfl fun c _ => ?_) (Finset.sum_congr rfl fun c _ => ?_)
  · have := ha o c
    show (w (ix5 n o ⟨c.val, _⟩ 0 0) * side x s n h v ⟨c.val, _⟩ : EReal) = _
    rw [ha, side, dif_pos c.isLt, ← hx]
  · show (w (ix5 n o ⟨128 + c.val, _⟩ 0 0) * side x s n h v ⟨128 + c.val, _⟩ : EReal) = _
    rw [hc, side, dif_neg (by simp), ← hs]
    refine congrArg (fun i => (C o c * s (ix4 n i h v) : EReal)) (Fin.ext ?_)
    show 128 + c.val - 128 = c.val
    omega

/-! ## The stem -/

/-- One window position of the first convolution. -/
def tapX (x : Vec Ideal S64x1024x16x16 .f32) (w : Vec Ideal S128x1024x3x3 .f32) (i j : ℕ)
    (hw : S128x1024x3x3.Slices ![0, 0, i, j] S128x1024x1x1) (hx : S64x1024x16x16.Slices ![0, 0, i, j] S64x1024x14x14) : Vec Ideal S64x128x14x14 .f32 :=
  transpose S64x128x14x14 [0, 3, 1, 2] (Host.dotGeneral (F := Ideal) (φ₁ := .f32) (φ₂ := .f32) dot_S64x1024x14x14_S128x1024_S64x14x14x128_1_1_023_0_n_n none
    (extractStridedSlice S64x1024x14x14 ![0, 0, i, j] x hx)
    (shapeCast S128x1024 (extractStridedSlice S128x1024x1x1 ![0, 0, i, j] w hw) shapeCasts_S128x1024x1x1_S128x1024)) transposes_S64x14x14x128_S64x128x14x14_0_3_1_2

theorem tapX_at (x : Vec Ideal S64x1024x16x16 .f32) (w : Vec Ideal S128x1024x3x3 .f32) (k : Fin 9)
    (hw : S128x1024x3x3.Slices ![0, 0, k.val / 3, k.val % 3] S128x1024x1x1) (hx : S64x1024x16x16.Slices ![0, 0, k.val / 3, k.val % 3] S64x1024x14x14)
    (n : Fin 64) (o : Fin 128) (h v : Fin 14) :
    tapX x w (k.val / 3) (k.val % 3) hw hx (ix4 n o h v)
      = ∑ c : Fin 1024, (x (ix4 n c ⟨k.val / 3 + h.val, by omega⟩ ⟨k.val % 3 + v.val, by omega⟩) * w (ix4 o c (row3 k) (col3 k)) : EReal) := by
  unfold tapX
  pointwise [row3, col3]

/-- One window position of the second. -/
def tapY (x : Vec Ideal S64x128x16x16 .f32) (w : Vec Ideal S128x128x3x3 .f32) (i j : ℕ)
    (hw : S128x128x3x3.Slices ![0, 0, i, j] S128x128x1x1) (hx : S64x128x16x16.Slices ![0, 0, i, j] S64x128x14x14) : Vec Ideal S64x128x14x14 .f32 :=
  transpose S64x128x14x14 [0, 3, 1, 2] (Host.dotGeneral (F := Ideal) (φ₁ := .f32) (φ₂ := .f32) dot_S64x128x14x14_S128x128_S64x14x14x128_1_1_023_0_n_n none
    (extractStridedSlice S64x128x14x14 ![0, 0, i, j] x hx)
    (shapeCast S128x128 (extractStridedSlice S128x128x1x1 ![0, 0, i, j] w hw) shapeCasts_S128x128x1x1_S128x128)) transposes_S64x14x14x128_S64x128x14x14_0_3_1_2

theorem tapY_at (x : Vec Ideal S64x128x16x16 .f32) (w : Vec Ideal S128x128x3x3 .f32) (k : Fin 9)
    (hw : S128x128x3x3.Slices ![0, 0, k.val / 3, k.val % 3] S128x128x1x1) (hx : S64x128x16x16.Slices ![0, 0, k.val / 3, k.val % 3] S64x128x14x14)
    (n : Fin 64) (o : Fin 128) (h v : Fin 14) :
    tapY x w (k.val / 3) (k.val % 3) hw hx (ix4 n o h v)
      = ∑ c : Fin 128, (x (ix4 n c ⟨k.val / 3 + h.val, by omega⟩ ⟨k.val % 3 + v.val, by omega⟩) * w (ix4 o c (row3 k) (col3 k)) : EReal) := by
  unfold tapY
  pointwise [row3, col3]

theorem biasS_at (b : Vec Ideal S128 .f32) (n : Fin 64) (o : Fin 128) (h v : Fin 14) :
    broadcastInDim S64x128x14x14 ![0, 1, 2, 3] bcast_S1x128x1x1_S64x128x14x14_0_1_2_3 (broadcastInDim S1x128x1x1 ![1] bcast_S128_S1x128x1x1_1 b) (ix4 n o h v)
      = b (ix1 o) := by
  pointwise []

/-- The first convolution and its bias. -/
def stemX (x : Vec Ideal S64x1024x16x16 .f32) (w : Vec Ideal S128x1024x3x3 .f32) (b : Vec Ideal S128 .f32) : Vec Ideal S64x128x14x14 .f32 :=
  addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32)
    (tapX x w 0 0 slices_S128x1024x3x3_S128x1024x1x1_0_0_0_0 slices_S64x1024x16x16_S64x1024x14x14_0_0_0_0)
    (tapX x w 0 1 slices_S128x1024x3x3_S128x1024x1x1_0_0_0_1 slices_S64x1024x16x16_S64x1024x14x14_0_0_0_1))
    (tapX x w 0 2 slices_S128x1024x3x3_S128x1024x1x1_0_0_0_2 slices_S64x1024x16x16_S64x1024x14x14_0_0_0_2))
    (tapX x w 1 0 slices_S128x1024x3x3_S128x1024x1x1_0_0_1_0 slices_S64x1024x16x16_S64x1024x14x14_0_0_1_0))
    (tapX x w 1 1 slices_S128x1024x3x3_S128x1024x1x1_0_0_1_1 slices_S64x1024x16x16_S64x1024x14x14_0_0_1_1))
    (tapX x w 1 2 slices_S128x1024x3x3_S128x1024x1x1_0_0_1_2 slices_S64x1024x16x16_S64x1024x14x14_0_0_1_2))
    (tapX x w 2 0 slices_S128x1024x3x3_S128x1024x1x1_0_0_2_0 slices_S64x1024x16x16_S64x1024x14x14_0_0_2_0))
    (tapX x w 2 1 slices_S128x1024x3x3_S128x1024x1x1_0_0_2_1 slices_S64x1024x16x16_S64x1024x14x14_0_0_2_1))
    (tapX x w 2 2 slices_S128x1024x3x3_S128x1024x1x1_0_0_2_2 slices_S64x1024x16x16_S64x1024x14x14_0_0_2_2))
    (broadcastInDim S64x128x14x14 ![0, 1, 2, 3] bcast_S1x128x1x1_S64x128x14x14_0_1_2_3 (broadcastInDim S1x128x1x1 ![1] bcast_S128_S1x128x1x1_1 b))

theorem stemX_at (x : Vec Ideal S64x1024x16x16 .f32) (w : Vec Ideal S128x1024x3x3 .f32) (b : Vec Ideal S128 .f32) (n : Fin 64) (X : Img 1024)
    (hx : ∀ c r q, x (ix4 n c r q) = padd X c r.val q.val) (o : Fin 128) (h v : Fin 14) :
    pos (stemX x w b) (ix4 n o h v) = layer (fun k o c => w (ix4 o c (row3 k) (col3 k))) (fun o => b (ix1 o)) X o h v := by
  have key : ∀ (k : Fin 9) (i j : ℕ) (hi : i = k.val / 3) (hj : j = k.val % 3)
      (hw' : S128x1024x3x3.Slices ![0, 0, i, j] S128x1024x1x1) (hx' : S64x1024x16x16.Slices ![0, 0, i, j] S64x1024x14x14),
      tapX x w i j hw' hx' (ix4 n o h v) = ∑ c : Fin 1024, (w (ix4 o c (row3 k) (col3 k)) * padd X c (h.val + k.val / 3) (v.val + k.val % 3) : EReal) := by
    intro k i j hi hj hw' hx'
    subst hi hj
    refine (tapX_at x w k hw' hx' n o h v).trans (Finset.sum_congr rfl fun c _ => ?_)
    rw [hx, mul_comm]
    show (_ * padd X c (k.val / 3 + h.val) (k.val % 3 + v.val) : EReal) = _
    rw [Nat.add_comm (k.val / 3), Nat.add_comm (k.val % 3)]
  rw [pos_at]
  unfold layer conv3
  refine congrArg (fun t : EReal => max t 0) ?_
  refine Eq.trans ?_ (nine (fun k => ∑ c : Fin 1024, (w (ix4 o c (row3 k) (col3 k)) * padd X c (h.val + k.val / 3) (v.val + k.val % 3) : EReal)) (b (ix1 o)))
  show (((((((((tapX x w 0 0 _ _ (ix4 n o h v) + tapX x w 0 1 _ _ (ix4 n o h v)) + tapX x w 0 2 _ _ (ix4 n o h v)) + tapX x w 1 0 _ _ (ix4 n o h v)) + tapX x w 1 1 _ _ (ix4 n o h v)) + tapX x w 1 2 _ _ (ix4 n o h v)) + tapX x w 2 0 _ _ (ix4 n o h v)) + tapX x w 2 1 _ _ (ix4 n o h v)) + tapX x w 2 2 _ _ (ix4 n o h v))
    + broadcastInDim S64x128x14x14 ![0, 1, 2, 3] bcast_S1x128x1x1_S64x128x14x14_0_1_2_3 (broadcastInDim S1x128x1x1 ![1] bcast_S128_S1x128x1x1_1 b) (ix4 n o h v) : EReal) = _
  rw [biasS_at, key 0 0 0 rfl rfl, key 1 0 1 rfl rfl, key 2 0 2 rfl rfl, key 3 1 0 rfl rfl, key 4 1 1 rfl rfl, key 5 1 2 rfl rfl,
    key 6 2 0 rfl rfl, key 7 2 1 rfl rfl, key 8 2 2 rfl rfl]

/-- The second convolution and its bias. -/
def stemY (x : Vec Ideal S64x128x16x16 .f32) (w : Vec Ideal S128x128x3x3 .f32) (b : Vec Ideal S128 .f32) : Vec Ideal S64x128x14x14 .f32 :=
  addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32)
    (tapY x w 0 0 slices_S128x128x3x3_S128x128x1x1_0_0_0_0 slices_S64x128x16x16_S64x128x14x14_0_0_0_0)
    (tapY x w 0 1 slices_S128x128x3x3_S128x128x1x1_0_0_0_1 slices_S64x128x16x16_S64x128x14x14_0_0_0_1))
    (tapY x w 0 2 slices_S128x128x3x3_S128x128x1x1_0_0_0_2 slices_S64x128x16x16_S64x128x14x14_0_0_0_2))
    (tapY x w 1 0 slices_S128x128x3x3_S128x128x1x1_0_0_1_0 slices_S64x128x16x16_S64x128x14x14_0_0_1_0))
    (tapY x w 1 1 slices_S128x128x3x3_S128x128x1x1_0_0_1_1 slices_S64x128x16x16_S64x128x14x14_0_0_1_1))
    (tapY x w 1 2 slices_S128x128x3x3_S128x128x1x1_0_0_1_2 slices_S64x128x16x16_S64x128x14x14_0_0_1_2))
    (tapY x w 2 0 slices_S128x128x3x3_S128x128x1x1_0_0_2_0 slices_S64x128x16x16_S64x128x14x14_0_0_2_0))
    (tapY x w 2 1 slices_S128x128x3x3_S128x128x1x1_0_0_2_1 slices_S64x128x16x16_S64x128x14x14_0_0_2_1))
    (tapY x w 2 2 slices_S128x128x3x3_S128x128x1x1_0_0_2_2 slices_S64x128x16x16_S64x128x14x14_0_0_2_2))
    (broadcastInDim S64x128x14x14 ![0, 1, 2, 3] bcast_S1x128x1x1_S64x128x14x14_0_1_2_3 (broadcastInDim S1x128x1x1 ![1] bcast_S128_S1x128x1x1_1 b))

theorem stemY_at (x : Vec Ideal S64x128x16x16 .f32) (w : Vec Ideal S128x128x3x3 .f32) (b : Vec Ideal S128 .f32) (n : Fin 64) (X : Img 128)
    (hx : ∀ c r q, x (ix4 n c r q) = padd X c r.val q.val) (o : Fin 128) (h v : Fin 14) :
    pos (stemY x w b) (ix4 n o h v) = layer (fun k o c => w (ix4 o c (row3 k) (col3 k))) (fun o => b (ix1 o)) X o h v := by
  have key : ∀ (k : Fin 9) (i j : ℕ) (hi : i = k.val / 3) (hj : j = k.val % 3)
      (hw' : S128x128x3x3.Slices ![0, 0, i, j] S128x128x1x1) (hx' : S64x128x16x16.Slices ![0, 0, i, j] S64x128x14x14),
      tapY x w i j hw' hx' (ix4 n o h v) = ∑ c : Fin 128, (w (ix4 o c (row3 k) (col3 k)) * padd X c (h.val + k.val / 3) (v.val + k.val % 3) : EReal) := by
    intro k i j hi hj hw' hx'
    subst hi hj
    refine (tapY_at x w k hw' hx' n o h v).trans (Finset.sum_congr rfl fun c _ => ?_)
    rw [hx, mul_comm]
    show (_ * padd X c (k.val / 3 + h.val) (k.val % 3 + v.val) : EReal) = _
    rw [Nat.add_comm (k.val / 3), Nat.add_comm (k.val % 3)]
  rw [pos_at]
  unfold layer conv3
  refine congrArg (fun t : EReal => max t 0) ?_
  refine Eq.trans ?_ (nine (fun k => ∑ c : Fin 128, (w (ix4 o c (row3 k) (col3 k)) * padd X c (h.val + k.val / 3) (v.val + k.val % 3) : EReal)) (b (ix1 o)))
  show (((((((((tapY x w 0 0 _ _ (ix4 n o h v) + tapY x w 0 1 _ _ (ix4 n o h v)) + tapY x w 0 2 _ _ (ix4 n o h v)) + tapY x w 1 0 _ _ (ix4 n o h v)) + tapY x w 1 1 _ _ (ix4 n o h v)) + tapY x w 1 2 _ _ (ix4 n o h v)) + tapY x w 2 0 _ _ (ix4 n o h v)) + tapY x w 2 1 _ _ (ix4 n o h v)) + tapY x w 2 2 _ _ (ix4 n o h v))
    + broadcastInDim S64x128x14x14 ![0, 1, 2, 3] bcast_S1x128x1x1_S64x128x14x14_0_1_2_3 (broadcastInDim S1x128x1x1 ![1] bcast_S128_S1x128x1x1_1 b) (ix4 n o h v) : EReal) = _
  rw [biasS_at, key 0 0 0 rfl rfl, key 1 0 1 rfl rfl, key 2 0 2 rfl rfl, key 3 1 0 rfl rfl, key 4 1 1 rfl rfl, key 5 1 2 rfl rfl,
    key 6 2 0 rfl rfl, key 7 2 1 rfl rfl, key 8 2 2 rfl rfl]

end Cert.ReferenceIdeal.Hand

end
-- ==== Proof.Math.RefPick.lean ====
module

public import proofs.«01_k».proof.Proof.Math.RefConv
public import Idealize.ShloMosaic.Lib.StableHlo.Predicate

@[expose] public section

set_option maxRecDepth 16384

/-! # The reference's lookups, entry by entry -/

noncomputable section

namespace Cert.ReferenceIdeal.Hand

open Cert.ReferenceIdeal Cert.ReferenceIdeal.Gen Cert.Net
open Idealize.ShloMosaic Idealize.ShloMosaic.TcCoe

/-! ## Picking along the leading axis -/

/-- A pick of whole rank-4 entries. -/
abbrev picks5 (U A B C D n : ℕ) (wf : GatherDims.WF ⟨5, ![U, A, B, C, D]⟩ ⟨2, ![n, 1]⟩ ⟨5, ![n, A, B, C, D]⟩ [1, 2, 3, 4] [0] [] [0] [] 1 ![1, A, B, C, D]) :
    GatherDims ⟨5, ![U, A, B, C, D]⟩ ⟨2, ![n, 1]⟩ ⟨5, ![n, A, B, C, D]⟩ where
  offsetDims := [1, 2, 3, 4]
  collapsedSliceDims := [0]
  operandBatchingDims := []
  startIndicesBatchingDims := []
  startIndexMap := [0]
  indexVectorDim := 1
  sliceSizes := ![1, A, B, C, D]
  wf := wf

theorem picks5_at {α : Type} {U A B C D n : ℕ} (hU : 0 < U)
    (wf : GatherDims.WF ⟨5, ![U, A, B, C, D]⟩ ⟨2, ![n, 1]⟩ ⟨5, ![n, A, B, C, D]⟩ [1, 2, 3, 4] [0] [] [0] [] 1 ![1, A, B, C, D])
    (x : (⟨5, ![U, A, B, C, D]⟩ : Shape).Idx → α) (idx : IVec ⟨2, ![n, 1]⟩ 32) (p : Fin n) (a : Fin A) (b : Fin B) (c : Fin C) (e : Fin D) :
    Host.gather (picks5 U A B C D n wf) x idx (ix5 p a b c e) = x (ix5 ⟨min (idx (ix2 p 0)).toInt.toNat (U - 1), by omega⟩ a b c e) := by
  unfold Host.gather
  refine congrArg x (funext fun d => Fin.ext ?_)
  show (picks5 U A B C D n wf).start (ix5 p a b c e) idx d + (picks5 U A B C D n wf).batchCoord (ix5 p a b c e) d
    + (picks5 U A B C D n wf).offCoord (ix5 p a b c e) d = _
  rw [GatherDims.batchCoord_eq_zero _ _ _ List.not_mem_nil, Nat.add_zero]
  have away : ∀ t : Fin 5, t ≠ 0 → (picks5 U A B C D n wf).start (ix5 p a b c e) idx t = 0 := fun t ht => by
    unfold GatherDims.start
    exact dif_neg fun h => ht (List.mem_singleton.1 h)
  have kept : ∀ t : Fin 5, t ≠ 0 → t ∈ (picks5 U A B C D n wf).sKept := fun t ht =>
    (GatherDims.mem_sKept _ _).mpr ⟨fun h => ht (List.mem_singleton.1 h), List.not_mem_nil⟩
  have cases : d = 0 ∨ d = 1 ∨ d = 2 ∨ d = 3 ∨ d = 4 := by
    match d with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr (Or.inl rfl)))
    | ⟨4, _⟩ => exact Or.inr (Or.inr (Or.inr (Or.inr (rfl))))
  rcases cases with rfl | rfl | rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 5) ∈ (picks5 U A B C D n wf).startIndexMap from List.mem_singleton.mpr rfl)]
    have hsi : (picks5 U A B C D n wf).siIdx (ix5 p a b c e) ⟨List.idxOf (0 : Fin 5) (picks5 U A B C D n wf).startIndexMap,
        List.idxOf_lt_length_iff.2 (List.mem_singleton.mpr rfl)⟩ = ix2 p 0 := by
      funext t; refine Fin.ext ?_
      match t with
      | ⟨0, _⟩ => rfl
      | ⟨1, _⟩ => rfl
    exact congrArg (fun i => min (idx i).toInt.toNat (U - 1)) hsi
  · rw [away 1 (by decide), Nat.zero_add, GatherDims.offCoord, dif_pos (kept 1 (by decide))]
    rfl
  · rw [away 2 (by decide), Nat.zero_add, GatherDims.offCoord, dif_pos (kept 2 (by decide))]
    rfl
  · rw [away 3 (by decide), Nat.zero_add, GatherDims.offCoord, dif_pos (kept 3 (by decide))]
    rfl
  · rw [away 4 (by decide), Nat.zero_add, GatherDims.offCoord, dif_pos (kept 4 (by decide))]
    rfl

/-- A pick of rows. -/
abbrev picks2 (U A n : ℕ) (wf : GatherDims.WF ⟨2, ![U, A]⟩ ⟨2, ![n, 1]⟩ ⟨2, ![n, A]⟩ [1] [0] [] [0] [] 1 ![1, A]) :
    GatherDims ⟨2, ![U, A]⟩ ⟨2, ![n, 1]⟩ ⟨2, ![n, A]⟩ where
  offsetDims := [1]
  collapsedSliceDims := [0]
  operandBatchingDims := []
  startIndicesBatchingDims := []
  startIndexMap := [0]
  indexVectorDim := 1
  sliceSizes := ![1, A]
  wf := wf

theorem picks2_at {α : Type} {U A n : ℕ} (hU : 0 < U) (wf : GatherDims.WF ⟨2, ![U, A]⟩ ⟨2, ![n, 1]⟩ ⟨2, ![n, A]⟩ [1] [0] [] [0] [] 1 ![1, A])
    (x : (⟨2, ![U, A]⟩ : Shape).Idx → α) (idx : IVec ⟨2, ![n, 1]⟩ 32) (p : Fin n) (a : Fin A) :
    Host.gather (picks2 U A n wf) x idx (ix2 p a) = x (ix2 ⟨min (idx (ix2 p 0)).toInt.toNat (U - 1), by omega⟩ a) := by
  unfold Host.gather
  refine congrArg x (funext fun d => Fin.ext ?_)
  show (picks2 U A n wf).start (ix2 p a) idx d + (picks2 U A n wf).batchCoord (ix2 p a) d + (picks2 U A n wf).offCoord (ix2 p a) d = _
  rw [GatherDims.batchCoord_eq_zero _ _ _ List.not_mem_nil, Nat.add_zero]
  have away : ∀ t : Fin 2, t ≠ 0 → (picks2 U A n wf).start (ix2 p a) idx t = 0 := fun t ht => by
    unfold GatherDims.start
    exact dif_neg fun h => ht (List.mem_singleton.1 h)
  have kept : ∀ t : Fin 2, t ≠ 0 → t ∈ (picks2 U A n wf).sKept := fun t ht =>
    (GatherDims.mem_sKept _ _).mpr ⟨fun h => ht (List.mem_singleton.1 h), List.not_mem_nil⟩
  have cases : d = 0 ∨ d = 1 := by
    match d with
    | ⟨0, _⟩ => exact Or.inl rfl
    | ⟨1, _⟩ => exact Or.inr (rfl)
  rcases cases with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ (picks2 U A n wf).startIndexMap from List.mem_singleton.mpr rfl)]
    have hsi : (picks2 U A n wf).siIdx (ix2 p a) ⟨List.idxOf (0 : Fin 2) (picks2 U A n wf).startIndexMap,
        List.idxOf_lt_length_iff.2 (List.mem_singleton.mpr rfl)⟩ = ix2 p 0 := by
      funext t; refine Fin.ext ?_
      match t with
      | ⟨0, _⟩ => rfl
      | ⟨1, _⟩ => rfl
    exact congrArg (fun i => min (idx i).toInt.toNat (U - 1)) hsi
  · rw [away 1 (by decide), Nat.zero_add, GatherDims.offCoord, dif_pos (kept 1 (by decide))]
    rfl

/-- A pick from a flat table. -/
abbrev picks1 (U n : ℕ) (wf : GatherDims.WF ⟨1, ![U]⟩ ⟨2, ![n, 1]⟩ ⟨1, ![n]⟩ [] [0] [] [0] [] 1 ![1]) :
    GatherDims ⟨1, ![U]⟩ ⟨2, ![n, 1]⟩ ⟨1, ![n]⟩ where
  offsetDims := []
  collapsedSliceDims := [0]
  operandBatchingDims := []
  startIndicesBatchingDims := []
  startIndexMap := [0]
  indexVectorDim := 1
  sliceSizes := ![1]
  wf := wf

theorem picks1_at {α : Type} {U n : ℕ} (hU : 0 < U) (wf : GatherDims.WF ⟨1, ![U]⟩ ⟨2, ![n, 1]⟩ ⟨1, ![n]⟩ [] [0] [] [0] [] 1 ![1])
    (x : (⟨1, ![U]⟩ : Shape).Idx → α) (idx : IVec ⟨2, ![n, 1]⟩ 32) (p : Fin n) :
    Host.gather (picks1 U n wf) x idx (ix1 p) = x (ix1 ⟨min (idx (ix2 p 0)).toInt.toNat (U - 1), by omega⟩) := by
  unfold Host.gather
  refine congrArg x (funext fun d => Fin.ext ?_)
  obtain rfl : d = 0 := Subsingleton.elim _ _
  show (picks1 U n wf).start (ix1 p) idx 0 + (picks1 U n wf).batchCoord (ix1 p) 0 + (picks1 U n wf).offCoord (ix1 p) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (picks1 U n wf).startIndexMap from List.mem_singleton.mpr rfl)]
  have hsi : (picks1 U n wf).siIdx (ix1 p) ⟨List.idxOf (0 : Fin 1) (picks1 U n wf).startIndexMap,
      List.idxOf_lt_length_iff.2 (List.mem_singleton.mpr rfl)⟩ = ix2 p 0 := by
    funext t; refine Fin.ext ?_
    match t with
    | ⟨0, _⟩ => rfl
    | ⟨1, _⟩ => rfl
  exact congrArg (fun i => min (idx i).toInt.toNat (U - 1)) hsi

/-! ## The program's tables -/

/-- The words as a column. -/
def colR (v : IVec S64 32) : IVec S64x1 32 := broadcastInDim S64x1 ![0] bcast_S64_S64x1_0 v

theorem colR_at (v : IVec S64 32) (n : Fin 64) : colR v (ix2 n 0) = v (ix1 n) := by
  unfold colR
  pointwise []

/-- The entry of a table of 21 that a word reads. -/
def tok (w : BitVec 32) : Fin 21 := ⟨min w.toInt.toNat 20, by omega⟩

theorem row21 (i : Fin 21) : S21.rowMajor (ix1 i) = i := Fin.ext (Shape.rowMajor_val_one _)

/-- The table's entries at the words. -/
def lookR (f : Fin 21 → BitVec 32) (v : IVec S64 32) : IVec S64 32 :=
  Host.gather gather_S21_S64x1_S64_n_0_n_n_0_1_1 (fun i => f (S21.rowMajor i)) (colR v)

theorem lookR_at (f : Fin 21 → BitVec 32) (v : IVec S64 32) (n : Fin 64) : lookR f v (ix1 n) = f (tok (v (ix1 n))) := by
  unfold lookR
  refine (picks1_at (U := 21) (n := 64) (by decide) gather_S21_S64x1_S64_n_0_n_n_0_1_1_wf _ _ n).trans ?_
  rw [row21]
  refine congrArg f (Fin.ext ?_)
  show min _ 20 = min _ 20
  rw [colR_at]

/-! ## The parameters' entries -/

theorem un5_at (x : Vec Ideal S11x128x128x3x3 .f32) (v : IVec S64 32) (n : Fin 64) (u : Fin 11) (hu : min (v (ix1 n)).toInt.toNat 10 = u.val)
    (o c : Fin 128) (i j : Fin 3) :
    Host.gather gather_S11x128x128x3x3_S64x1_S64x128x128x3x3_1234_0_n_n_0_1_112812833 x (colR v) (ix5 n o c i j) = x (ix5 u o c i j) := by
  refine (picks5_at (U := 11) (by decide) gather_S11x128x128x3x3_S64x1_S64x128x128x3x3_1234_0_n_n_0_1_112812833_wf _ _ n o c i j).trans ?_
  refine congrArg (fun t => x (ix5 t o c i j)) (Fin.ext ?_)
  show min _ 10 = _
  rw [colR_at, hu]

theorem un2_at (x : Vec Ideal S11x128 .f32) (v : IVec S64 32) (n : Fin 64) (u : Fin 11) (hu : min (v (ix1 n)).toInt.toNat 10 = u.val) (o : Fin 128) :
    Host.gather gather_S11x128_S64x1_S64x128_1_0_n_n_0_1_1128 x (colR v) (ix2 n o) = x (ix2 u o) := by
  refine (picks2_at (U := 11) (by decide) gather_S11x128_S64x1_S64x128_1_0_n_n_0_1_1128_wf _ _ n o).trans ?_
  refine congrArg (fun t => x (ix2 t o)) (Fin.ext ?_)
  show min _ 10 = _
  rw [colR_at, hu]

theorem bi5_at (x : Vec Ideal S6x128x128x3x3 .f32) (v : IVec S64 32) (n : Fin 64) (u : Fin 6) (hu : min (v (ix1 n)).toInt.toNat 5 = u.val)
    (o c : Fin 128) (i j : Fin 3) :
    Host.gather gather_S6x128x128x3x3_S64x1_S64x128x128x3x3_1234_0_n_n_0_1_112812833 x (colR v) (ix5 n o c i j) = x (ix5 u o c i j) := by
  refine (picks5_at (U := 6) (by decide) gather_S6x128x128x3x3_S64x1_S64x128x128x3x3_1234_0_n_n_0_1_112812833_wf _ _ n o c i j).trans ?_
  refine congrArg (fun t => x (ix5 t o c i j)) (Fin.ext ?_)
  show min _ 5 = _
  rw [colR_at, hu]

theorem bp5_at (x : Vec Ideal S6x128x256x1x1 .f32) (v : IVec S64 32) (n : Fin 64) (u : Fin 6) (hu : min (v (ix1 n)).toInt.toNat 5 = u.val)
    (o : Fin 128) (c : Fin 256) :
    Host.gather gather_S6x128x256x1x1_S64x1_S64x128x256x1x1_1234_0_n_n_0_1_112825611 x (colR v) (ix5 n o c 0 0) = x (ix5 u o c 0 0) := by
  refine (picks5_at (U := 6) (by decide) gather_S6x128x256x1x1_S64x1_S64x128x256x1x1_1234_0_n_n_0_1_112825611_wf _ _ n o c 0 0).trans ?_
  refine congrArg (fun t => x (ix5 t o c 0 0)) (Fin.ext ?_)
  show min _ 5 = _
  rw [colR_at, hu]

theorem bi2_at (x : Vec Ideal S6x128 .f32) (v : IVec S64 32) (n : Fin 64) (u : Fin 6) (hu : min (v (ix1 n)).toInt.toNat 5 = u.val) (o : Fin 128) :
    Host.gather gather_S6x128_S64x1_S64x128_1_0_n_n_0_1_1128 x (colR v) (ix2 n o) = x (ix2 u o) := by
  refine (picks2_at (U := 6) (by decide) gather_S6x128_S64x1_S64x128_1_0_n_n_0_1_1128_wf _ _ n o).trans ?_
  refine congrArg (fun t => x (ix2 t o)) (Fin.ext ?_)
  show min _ 5 = _
  rw [colR_at, hu]

/-! ## The tables against the tokens -/

theorem kind_word : ∀ q : Fin 21, lit0 q = BitVec.ofNat 32 (kind q) := by decide

theorem unary_word : ∀ q : Fin 21, kind q = 1 ∨ kind q = 2 → min (lit1 q).toInt.toNat 10 = (unary q).val := by decide

theorem binary_word : ∀ q : Fin 21, ¬ kind q = 0 → ¬ kind q = 1 → ¬ kind q = 2 → min (lit2 q).toInt.toNat 5 = (binary q).val := by decide

/-- The program's word at a step. -/
theorem word_at (x : IVec S25x64 32) (cnt : IVec S_ 32) (k : ℕ) (hk : k < 25) (hc : cnt (Shape.Idx.first h_S_) = BitVec.ofNat 32 k) (n : Fin 64) :
    shapeCast S64 (Host.dynamicSlice S1x64 x (fun a => (((![cnt, constantI S_ 32 0#32] : Fin 2 → IVec S_ 32)) a (Shape.Idx.first h_S_)).toInt) sliceFits_S25x64_S1x64) shapeCasts_S1x64_S64 (ix1 n)
      = x (ix2 ⟨k, hk⟩ n) := by
  pointwise []
  have e : (BitVec.ofNat 32 k).toInt = (k : ℤ) := by
    rw [BitVec.toInt_eq_toNat_of_lt (by rw [BitVec.toNat_ofNat]; omega), BitVec.toNat_ofNat]
    omega
  refine congrArg₂ (fun a b => x (ix2 a b)) (Fin.ext ?_) (Fin.ext ?_)
  · show (min (max (cnt (Shape.Idx.first h_S_)).toInt 0) (((25 - 1 : ℕ) : ℤ))).toNat = k
    rw [hc, e]
    omega
  · show (min (max (0#32 : BitVec 32).toInt 0) (((64 - 64 : ℕ) : ℤ))).toNat + n.val = n.val
    have z : (0#32 : BitVec 32).toInt = 0 := rfl
    rw [z]
    omega

end Cert.ReferenceIdeal.Hand

end
-- ==== Proof.Math.RefStep.lean ====
module

public import proofs.«01_k».proof.Proof.Gen.ReferenceIdeal.Run
public import proofs.«01_k».proof.Proof.Math.RefPick

@[expose] public section

set_option maxRecDepth 16384

/-! # One trip of the reference's loop -/

noncomputable section

namespace Cert.ReferenceIdeal.Hand

open Cert.ReferenceIdeal Cert.ReferenceIdeal.Gen Cert.ReferenceIdeal.Value Cert.Net
open Idealize.ShloMosaic Idealize.ShloMosaic.TcCoe

/-! ## The choice by kind -/

/-- Which images' tokens are of kind `s`. -/
def maskR (br : IVec S64x1x1x1 32) (s : BitVec 32) : IVec S64x128x14x14 1 :=
  broadcastInDim S64x128x14x14 ![0, 1, 2, 3] bcast_S64x1x1x1_S64x128x14x14_0_1_2_3 (cmpi .eq br (broadcastInDim S64x1x1x1 ![] bcast_S_S64x1x1x1 (constantI S_ 32 s)))

/-- The kinds, shaped for the choice. -/
def kindR (br : IVec S64 32) : IVec S64x1x1x1 32 := broadcastInDim S64x1x1x1 ![0] bcast_S64_S64x1x1x1_0 br

theorem maskR_at (br : IVec S64 32) (s : BitVec 32) (n : Fin 64) (o : Fin 128) (h v : Fin 14) :
    maskR (kindR br) s (ix4 n o h v) = IntOp.cmpi .eq (br (ix1 n)) s := by
  unfold maskR kindR
  pointwise []

theorem choose {α : Type} (a b : BitVec 32) (x y : α) : Scalar.select (IntOp.cmpi .eq a b) x y = if a = b then x else y := by
  by_cases h : a = b
  · subst h
    simp [Scalar.select, IntOp.cmpi]
  · have e : (a == b) = false := beq_eq_false_iff_ne.mpr h
    simp [Scalar.select, IntOp.cmpi, e, h]

theorem sel_at (br : IVec S64 32) (s : BitVec 32) (x y : Vec Ideal S64x128x14x14 .f32) (n : Fin 64) (o : Fin 128) (h v : Fin 14) :
    select (maskR (kindR br) s) x y (ix4 n o h v) = if br (ix1 n) = s then x (ix4 n o h v) else y (ix4 n o h v) := by
  show Scalar.select (maskR (kindR br) s (ix4 n o h v)) _ _ = _
  rw [maskR_at, choose]

/-! ## The trip's values, composed -/

variable (V : Valuation τ sig (Elt Ideal))

/-- The trip's words, one per image. -/
def wordR : IVec S64 32 := res_main_while0b_v144 V
/-- The output so far, the saved image and the features. -/
def outV : Vec Ideal S64x128x14x14 .f32 := V (Proc.devRef .tc main_v120_16)
def savV : Vec Ideal S64x128x14x14 .f32 := V (Proc.devRef .tc main_v120_17)
def featV : Vec Ideal S64x128x14x14 .f32 := V (Proc.devRef .tc main_v120_14)

theorem v219_eq : res_main_while0b_v219 V = edge (pos (convB (res_main_while0b_v148 V) (edge (featV V)) (res_main_while0b_v150 V))) := rfl
theorem v322_eq : res_main_while0b_v322 V = edge (pos (convB (res_main_while0b_v148 V) (edge (outV V)) (res_main_while0b_v150 V))) := rfl

/-- The scene, the unary module and the binary module of every image. -/
def sceneR : Vec Ideal S64x128x14x14 .f32 :=
  blockR (res_main_while0b_v148 V) (res_main_while0b_v150 V) (res_main_while0b_v152 V) (res_main_while0b_v154 V) (featV V)
def unaryR : Vec Ideal S64x128x14x14 .f32 :=
  blockR (res_main_while0b_v148 V) (res_main_while0b_v150 V) (res_main_while0b_v152 V) (res_main_while0b_v154 V) (outV V)

/-- A pick by the words from a table held in a buffer. -/
def pickR (t : IVec S21 32) : IVec S64 32 := Host.gather gather_S21_S64x1_S64_n_0_n_n_0_1_1 t (colR (wordR V))

def tabB : IVec S21 32 := V (Proc.devRef .tc main_v120_1)
def tabU : IVec S21 32 := V (Proc.devRef .tc main_v120_2)
def tabN : IVec S21 32 := V (Proc.devRef .tc main_v120_7)

def bpwR : Vec Ideal S64x128x256x1x1 .f32 :=
  Host.gather gather_S6x128x256x1x1_S64x1_S64x128x256x1x1_1234_0_n_n_0_1_112825611 (V (Proc.devRef .tc main_v120_8)) (colR (pickR V (tabN V)))
def bpbR : Vec Ideal S64x128 .f32 := Host.gather gather_S6x128_S64x1_S64x128_1_0_n_n_0_1_1128 (V (Proc.devRef .tc main_v120_9)) (colR (pickR V (tabN V)))
def bb1R : Vec Ideal S64x128 .f32 := Host.gather gather_S6x128_S64x1_S64x128_1_0_n_n_0_1_1128 (V (Proc.devRef .tc main_v120_11)) (colR (pickR V (tabN V)))
def bb2R : Vec Ideal S64x128 .f32 := Host.gather gather_S6x128_S64x1_S64x128_1_0_n_n_0_1_1128 (V (Proc.devRef .tc main_v120_13)) (colR (pickR V (tabN V)))

def joinR : Vec Ideal S64x128x14x14 .f32 := jointR (bpwR V) (bpbR V) (outV V) (savV V)
def binaryR : Vec Ideal S64x128x14x14 .f32 :=
  blockR (res_main_while0b_v160 V) (bb1R V) (res_main_while0b_v164 V) (bb2R V) (joinR V)

theorem v380_eq : res_main_while0b_v380 V = joinR V := rfl
theorem v428_eq : res_main_while0b_v428 V = convB (res_main_while0b_v160 V) (res_main_while0b_v381 V) (bb1R V) := rfl
theorem v478_eq : res_main_while0b_v478 V = convB (res_main_while0b_v164 V) (res_main_while0b_v431 V) (bb2R V) := rfl
theorem v381_eq : res_main_while0b_v381 V = edge (joinR V) := by
  unfold res_main_while0b_v381
  rw [v380_eq]
  rfl
theorem v431_eq : res_main_while0b_v431 V = edge (pos (convB (res_main_while0b_v160 V) (edge (joinR V)) (bb1R V))) := by
  unfold res_main_while0b_v431
  rw [v428_eq, v381_eq]
  rfl
theorem v146_eq : res_main_while0b_v146 V = kindR (pickR V (tabB V)) := rfl

theorem v482_eq : res_main_while0b_v482 V = select (maskR (res_main_while0b_v146 V) 2#32)
    (pos (addf (F := Ideal) (φ := .f32) (outV V) (convB (res_main_while0b_v152 V) (res_main_while0b_v322 V) (res_main_while0b_v154 V))))
    (pos (addf (F := Ideal) (φ := .f32) (res_main_while0b_v380 V) (res_main_while0b_v478 V))) := rfl

theorem v482_val : res_main_while0b_v482 V = select (maskR (kindR (pickR V (tabB V))) 2#32) (unaryR V) (binaryR V) := by
  rw [v482_eq, v146_eq, v322_eq, v380_eq, v478_eq, v431_eq]
  rfl

theorem v483_eq : res_main_while0b_v483 V = select (maskR (res_main_while0b_v146 V) 1#32)
    (pos (addf (F := Ideal) (φ := .f32) (featV V) (convB (res_main_while0b_v152 V) (res_main_while0b_v219 V) (res_main_while0b_v154 V))))
    (res_main_while0b_v482 V) := rfl

theorem v483_val : res_main_while0b_v483 V = select (maskR (kindR (pickR V (tabB V))) 1#32) (sceneR V)
    (select (maskR (kindR (pickR V (tabB V))) 2#32) (unaryR V) (binaryR V)) := by
  rw [v483_eq, v146_eq, v219_eq, v482_val]
  rfl

theorem out_eq : step_main_v120_16 V = select (maskR (res_main_while0b_v146 V) 0#32) (outV V) (res_main_while0b_v483 V) := rfl
theorem sav_eq : step_main_v120_17 V = select (maskR (res_main_while0b_v146 V) 1#32) (outV V) (savV V) := rfl

theorem out_val : step_main_v120_16 V = select (maskR (kindR (pickR V (tabB V))) 0#32) (outV V)
    (select (maskR (kindR (pickR V (tabB V))) 1#32) (sceneR V) (select (maskR (kindR (pickR V (tabB V))) 2#32) (unaryR V) (binaryR V))) := by
  rw [out_eq, v146_eq, v483_val]

theorem sav_val : step_main_v120_17 V = select (maskR (kindR (pickR V (tabB V))) 1#32) (outV V) (savV V) := by
  rw [sav_eq, v146_eq]

end Cert.ReferenceIdeal.Hand

end
-- ==== Proof.Math.RefHead.lean ====
module

public import proofs.«01_k».proof.Proof.Math.RefConv

@[expose] public section

set_option maxRecDepth 16384

/-! # The reference's classifier and head -/

noncomputable section

namespace Cert.ReferenceIdeal.Hand

open Cert.ReferenceIdeal Cert.ReferenceIdeal.Gen Cert.Net
open Idealize.ShloMosaic Idealize.ShloMosaic.TcCoe

theorem low_word : Ideal.ofBits .f32 0xFF800000#32 = ⊥ := by simp [Ideal.ofBits, Ideal.ieee]

/-! ## The maximum over a 2 by 2 window -/

/-- The pooling. -/
def poolR (x : Vec Ideal S64x512x14x14 .f32) : Vec Ideal S64x512x7x7 .f32 :=
  Host.reduceWindow (FloatOps.maximumf (F := Ideal) (φ := .f32)) ![1, 1, 2, 2] ![1, 1, 2, 2] ![0, 0, 0, 0] ![0, 0, 0, 0] x
    (broadcastInDim S_ ![] bcast_S_S_ (constant (F := Ideal) S_ .f32 0xFF800000#32)) reduceWindows_S64x512x14x14_S64x512x7x7_w1s1p0_0_w1s1p0_0_w2s2p0_0_w2s2p0_0 h_S_

/-- A left fold of maxima over four positions. -/
theorem fold4 {N : ℕ} (hN : N = 4) (g : EReal → Fin N → EReal) (f : ℕ → EReal) (z : EReal) (hz : z = ⊥) (hg : ∀ r k, g r k = max r (f k.val)) :
    (List.finRange N).foldl g z = max (max (f 0) (f 1)) (max (f 2) (f 3)) := by
  subst hN
  have e : g = fun r k => max r (f k.val) := funext fun r => funext fun k => hg r k
  subst e
  subst hz
  show max (max (max (max ⊥ (f 0)) (f 1)) (f 2)) (f 3) = _
  rw [max_eq_right bot_le, max_assoc (max _ _)]

/-- The window. -/
abbrev win : Shape := ⟨4, ![1, 1, 2, 2]⟩

theorem win_numel : win.numel = 4 := by decide

theorem win_at : ∀ n : Fin win.numel, (win.rowMajor.symm n 0).val = 0 ∧ (win.rowMajor.symm n 1).val = 0
    ∧ (win.rowMajor.symm n 2).val = n.val / 2 ∧ (win.rowMajor.symm n 3).val = n.val % 2 := by decide

theorem pool_at (x : Vec Ideal S64x512x14x14 .f32) (n : Fin 64) (o : Fin 512) (i j : Fin 7) :
    poolR x (ix4 n o i j) = (max (max (x (ix4 n o ⟨2 * i, by omega⟩ ⟨2 * j, by omega⟩)) (x (ix4 n o ⟨2 * i, by omega⟩ ⟨2 * j + 1, by omega⟩)))
      (max (x (ix4 n o ⟨2 * i + 1, by omega⟩ ⟨2 * j, by omega⟩)) (x (ix4 n o ⟨2 * i + 1, by omega⟩ ⟨2 * j + 1, by omega⟩))) : EReal) := by
  have key : ∀ (k : Fin win.numel) (a b : Fin 14) (ha : a.val = 2 * i.val + k.val / 2) (hb : b.val = 2 * j.val + k.val % 2),
      ∃ hin : ∀ d : Fin 4, (![0, 0, 0, 0] : Fin 4 → ℕ) d ≤ ((ix4 n o i j : S64x512x7x7.Idx) d).val * (![1, 1, 2, 2] : Fin 4 → ℕ) d + (win.rowMajor.symm k d).val
          ∧ ((ix4 n o i j : S64x512x7x7.Idx) d).val * (![1, 1, 2, 2] : Fin 4 → ℕ) d + (win.rowMajor.symm k d).val - (![0, 0, 0, 0] : Fin 4 → ℕ) d < S64x512x14x14.size d,
        x (fun d => ⟨((ix4 n o i j : S64x512x7x7.Idx) d).val * (![1, 1, 2, 2] : Fin 4 → ℕ) d + (win.rowMajor.symm k d).val - (![0, 0, 0, 0] : Fin 4 → ℕ) d, (hin d).2⟩)
          = x (ix4 n o a b) := by
    intro k a b ha hb
    obtain ⟨h0, h1, h2, h3⟩ := win_at k
    have hin : ∀ d : Fin 4, (![0, 0, 0, 0] : Fin 4 → ℕ) d ≤ ((ix4 n o i j : S64x512x7x7.Idx) d).val * (![1, 1, 2, 2] : Fin 4 → ℕ) d + (win.rowMajor.symm k d).val
          ∧ ((ix4 n o i j : S64x512x7x7.Idx) d).val * (![1, 1, 2, 2] : Fin 4 → ℕ) d + (win.rowMajor.symm k d).val - (![0, 0, 0, 0] : Fin 4 → ℕ) d < S64x512x14x14.size d := by
      intro d
      match d with
      | ⟨0, _⟩ =>
        show 0 ≤ _ ∧ n.val * 1 + (win.rowMajor.symm k 0).val - 0 < 64
        omega
      | ⟨1, _⟩ =>
        show 0 ≤ _ ∧ o.val * 1 + (win.rowMajor.symm k 1).val - 0 < 512
        omega
      | ⟨2, _⟩ =>
        show 0 ≤ _ ∧ i.val * 2 + (win.rowMajor.symm k 2).val - 0 < 14
        omega
      | ⟨3, _⟩ =>
        show 0 ≤ _ ∧ j.val * 2 + (win.rowMajor.symm k 3).val - 0 < 14
        omega
    refine ⟨hin, ?_⟩
    refine congrArg x (funext fun d => Fin.ext ?_)
    match d with
    | ⟨0, _⟩ =>
      show n.val * 1 + (win.rowMajor.symm k 0).val - 0 = n.val
      omega
    | ⟨1, _⟩ =>
      show o.val * 1 + (win.rowMajor.symm k 1).val - 0 = o.val
      omega
    | ⟨2, _⟩ =>
      show i.val * 2 + (win.rowMajor.symm k 2).val - 0 = a.val
      omega
    | ⟨3, _⟩ =>
      show j.val * 2 + (win.rowMajor.symm k 3).val - 0 = b.val
      omega
  unfold poolR Host.reduceWindow
  refine (fold4 win_numel _ (fun k => if hk : k < 4 then x (ix4 n o ⟨2 * i + k / 2, by omega⟩ ⟨2 * j + k % 2, by omega⟩) else ⊥) _ low_word fun r k => ?_).trans ?_
  · have hk : k.val < 4 := lt_of_lt_of_eq k.isLt win_numel
    rw [dif_pos hk]
    obtain ⟨hin, e⟩ := key k ⟨2 * i + k.val / 2, by omega⟩ ⟨2 * j + k.val % 2, by omega⟩ rfl rfl
    exact congrArg (fun t : EReal => max r t) ((dif_pos hin).trans e)
  · rfl

/-! ## The classifier -/

/-- The classifier. -/
def clsR (x : Vec Ideal S64x128x14x14 .f32) (w : Vec Ideal S512x128x1x1 .f32) (b : Vec Ideal S512 .f32) : Vec Ideal S64x512x14x14 .f32 :=
  maximumf (F := Ideal) (φ := .f32) (addf (F := Ideal) (φ := .f32) (transpose S64x512x14x14 [0, 3, 1, 2] (Host.dotGeneral (F := Ideal) (φ₁ := .f32) (φ₂ := .f32) dot_S64x128x14x14_S512x128_S64x14x14x512_1_1_023_0_n_n none x
      (shapeCast S512x128 w shapeCasts_S512x128x1x1_S512x128)) transposes_S64x14x14x512_S64x512x14x14_0_3_1_2)
    (broadcastInDim S64x512x14x14 ![0, 1, 2, 3] bcast_S1x512x1x1_S64x512x14x14_0_1_2_3 (broadcastInDim S1x512x1x1 ![1] bcast_S512_S1x512x1x1_1 b)))
    (broadcastInDim S64x512x14x14 ![] bcast_S_S64x512x14x14 (constant (F := Ideal) S_ .f32 0x00000000#32))

theorem cls_dot (x : Vec Ideal S64x128x14x14 .f32) (w : Vec Ideal S512x128x1x1 .f32) (n : Fin 64) (o : Fin 512) (h v : Fin 14) :
    transpose S64x512x14x14 [0, 3, 1, 2] (Host.dotGeneral (F := Ideal) (φ₁ := .f32) (φ₂ := .f32) dot_S64x128x14x14_S512x128_S64x14x14x512_1_1_023_0_n_n none x
      (shapeCast S512x128 w shapeCasts_S512x128x1x1_S512x128)) transposes_S64x14x14x512_S64x512x14x14_0_3_1_2 (ix4 n o h v)
      = ∑ c : Fin 128, (x (ix4 n c h v) * w (ix4 o c 0 0) : EReal) := by
  pointwise []

theorem cls_bias (b : Vec Ideal S512 .f32) (n : Fin 64) (o : Fin 512) (h v : Fin 14) :
    broadcastInDim S64x512x14x14 ![0, 1, 2, 3] bcast_S1x512x1x1_S64x512x14x14_0_1_2_3 (broadcastInDim S1x512x1x1 ![1] bcast_S512_S1x512x1x1_1 b) (ix4 n o h v)
      = b (ix1 o) := by
  pointwise []

theorem cls_at (x : Vec Ideal S64x128x14x14 .f32) (w : Vec Ideal S512x128x1x1 .f32) (b : Vec Ideal S512 .f32) (n : Fin 64) (X : Img 128)
    (hx : ∀ c h v, x (ix4 n c h v) = X c h v) (o : Fin 512) (h v : Fin 14) :
    clsR x w b (ix4 n o h v) = classify (fun o c => w (ix4 o c 0 0)) (fun o => b (ix1 o)) X o h v := by
  unfold clsR classify
  refine (congrArg₂ (fun s t : EReal => max s t) (congrArg₂ (fun s t : EReal => s + t) (cls_dot x w n o h v) (cls_bias b n o h v))
    Ideal.ofBits_zero_f32).trans ?_
  refine congrArg (fun t : EReal => max (t + b (ix1 o)) 0) (Finset.sum_congr rfl fun c _ => ?_)
  rw [hx, mul_comm]

/-! ## The two linear layers -/

def hidR (y : Vec Ideal S64x512x7x7 .f32) (w : Vec Ideal S1024x25088 .f32) (b : Vec Ideal S1024 .f32) : Vec Ideal S64x1024 .f32 :=
  maximumf (F := Ideal) (φ := .f32) (addf (F := Ideal) (φ := .f32) (Host.dotGeneral (F := Ideal) (φ₁ := .f32) (φ₂ := .f32) dot_S64x25088_S25088x1024_S64x1024_1_0_0_1_n_n none
      (shapeCast S64x25088 y shapeCasts_S64x512x7x7_S64x25088) (transpose S25088x1024 [1, 0] w transposes_S1024x25088_S25088x1024_1_0))
    (broadcastInDim S64x1024 ![0, 1] bcast_S1x1024_S64x1024_0_1 (broadcastInDim S1x1024 ![1] bcast_S1024_S1x1024_1 b)))
    (broadcastInDim S64x1024 ![] bcast_S_S64x1024 (constant (F := Ideal) S_ .f32 0x00000000#32))

theorem flat_at (y : Vec Ideal S64x512x7x7 .f32) (n : Fin 64) (k : Fin 25088) :
    shapeCast S64x25088 y shapeCasts_S64x512x7x7_S64x25088 (ix2 n k) = y (ix4 n ⟨k.val / 49, by omega⟩ ⟨k.val / 7 % 7, by omega⟩ ⟨k.val % 7, by omega⟩) := by
  pointwise []

theorem hid_dot (y : Vec Ideal S64x25088 .f32) (w : Vec Ideal S1024x25088 .f32) (n : Fin 64) (j : Fin 1024) :
    Host.dotGeneral (F := Ideal) (φ₁ := .f32) (φ₂ := .f32) dot_S64x25088_S25088x1024_S64x1024_1_0_0_1_n_n none y (transpose S25088x1024 [1, 0] w transposes_S1024x25088_S25088x1024_1_0) (ix2 n j)
      = ∑ k : Fin 25088, (y (ix2 n k) * w (ix2 j k) : EReal) := by
  pointwise []

theorem hid_bias (b : Vec Ideal S1024 .f32) (n : Fin 64) (j : Fin 1024) :
    broadcastInDim S64x1024 ![0, 1] bcast_S1x1024_S64x1024_0_1 (broadcastInDim S1x1024 ![1] bcast_S1024_S1x1024_1 b) (ix2 n j) = b (ix1 j) := by
  pointwise []

theorem hid_at (y : Vec Ideal S64x512x7x7 .f32) (w : Vec Ideal S1024x25088 .f32) (b : Vec Ideal S1024 .f32) (n : Fin 64) (j : Fin 1024) :
    hidR y w b (ix2 n j) = (max ((∑ k : Fin 25088, y (ix4 n ⟨k.val / 49, by omega⟩ ⟨k.val / 7 % 7, by omega⟩ ⟨k.val % 7, by omega⟩) * w (ix2 j k)) + b (ix1 j)) 0 : EReal) := by
  unfold hidR
  refine (congrArg₂ (fun s t : EReal => max s t) (congrArg₂ (fun s t : EReal => s + t) (hid_dot _ w n j) (hid_bias b n j))
    Ideal.ofBits_zero_f32).trans ?_
  refine congrArg (fun t : EReal => max (t + b (ix1 j)) 0) (Finset.sum_congr rfl fun k _ => ?_)
  rw [flat_at]

def ansR (y : Vec Ideal S64x1024 .f32) (w : Vec Ideal S32x1024 .f32) (b : Vec Ideal S32 .f32) : Vec Ideal S64x32 .f32 :=
  addf (F := Ideal) (φ := .f32) (Host.dotGeneral (F := Ideal) (φ₁ := .f32) (φ₂ := .f32) dot_S64x1024_S1024x32_S64x32_1_0_0_1_n_n none y (transpose S1024x32 [1, 0] w transposes_S32x1024_S1024x32_1_0))
    (broadcastInDim S64x32 ![0, 1] bcast_S1x32_S64x32_0_1 (broadcastInDim S1x32 ![1] bcast_S32_S1x32_1 b))

theorem ans_dot (y : Vec Ideal S64x1024 .f32) (w : Vec Ideal S32x1024 .f32) (n : Fin 64) (a : Fin 32) :
    Host.dotGeneral (F := Ideal) (φ₁ := .f32) (φ₂ := .f32) dot_S64x1024_S1024x32_S64x32_1_0_0_1_n_n none y (transpose S1024x32 [1, 0] w transposes_S32x1024_S1024x32_1_0) (ix2 n a)
      = ∑ j : Fin 1024, (y (ix2 n j) * w (ix2 a j) : EReal) := by
  pointwise []

theorem ans_bias (b : Vec Ideal S32 .f32) (n : Fin 64) (a : Fin 32) :
    broadcastInDim S64x32 ![0, 1] bcast_S1x32_S64x32_0_1 (broadcastInDim S1x32 ![1] bcast_S32_S1x32_1 b) (ix2 n a) = b (ix1 a) := by
  pointwise []

theorem ans_at (y : Vec Ideal S64x1024 .f32) (w : Vec Ideal S32x1024 .f32) (b : Vec Ideal S32 .f32) (n : Fin 64) (a : Fin 32) :
    ansR y w b (ix2 n a) = ((∑ j : Fin 1024, y (ix2 n j) * w (ix2 a j)) + b (ix1 a) : EReal) := by
  unfold ansR
  exact congrArg₂ (fun s t : EReal => s + t) (ans_dot y w n a) (ans_bias b n a)

/-- From the modules' image to the scores. -/
def headR (x : Vec Ideal S64x128x14x14 .f32) (cw : Vec Ideal S512x128x1x1 .f32) (cb : Vec Ideal S512 .f32) (f1 : Vec Ideal S1024x25088 .f32)
    (g1 : Vec Ideal S1024 .f32) (f2 : Vec Ideal S32x1024 .f32) (g2 : Vec Ideal S32 .f32) : Vec Ideal S64x32 .f32 :=
  ansR (hidR (poolR (clsR x cw cb)) f1 g1) f2 g2

theorem head_at (T : Tensors) (x : Vec Ideal S64x128x14x14 .f32) (n : Fin 64) (hx : ∀ c h v, x (ix4 n c h v) = T.mods n c h v) (a : Fin 32) :
    headR x T.cw T.cb T.f1 T.g1 T.f2 T.g2 (ix2 n a) = T.score n a := by
  unfold headR Tensors.score
  rw [ans_at]
  refine congrArg (fun t : EReal => t + T.g2 (ix1 a)) (Finset.sum_congr rfl fun j _ => ?_)
  refine congrArg (fun t : EReal => t * T.f2 (ix2 a j)) ?_
  rw [hid_at]
  unfold Tensors.hidden
  refine congrArg (fun t : EReal => max (t + T.g1 (ix1 j)) 0) (Finset.sum_congr rfl fun k _ => ?_)
  refine congrArg (fun t : EReal => t * T.f1 (ix2 j k)) ?_
  rw [pool_at, cls_at x _ _ n _ hx, cls_at x _ _ n _ hx, cls_at x _ _ n _ hx, cls_at x _ _ n _ hx]
  rfl

end Cert.ReferenceIdeal.Hand

end
-- ==== Proof.Math.RefLoop.lean ====
module

public import proofs.«01_k».proof.Proof.Math.RefStep
public import proofs.«01_k».proof.Proof.Math.RefHead

@[expose] public section

set_option maxRecDepth 16384

/-! # The reference's loop -/

noncomputable section

namespace Cert.ReferenceIdeal.Hand

open Cert.ReferenceIdeal Cert.ReferenceIdeal.Gen Cert.ReferenceIdeal.Value Cert.Net
open Idealize.ShloMosaic Idealize.ShloMosaic.TcCoe

/-- The buffers before trip `k`: the program's words `p`, the tensors `T`, the features `feat` and the images after `k` tokens. -/
structure At (T : Tensors) (p : Fin 64 → ℕ → BitVec 32) (feat : Fin 64 → Img 128) (k : ℕ) (V : Valuation τ sig (Elt Ideal)) : Prop where
  prog : ∀ (t : Fin 25) (n : Fin 64), (V (Proc.devRef .tc main_v120_0) : IVec S25x64 32) (ix2 t n) = p n t.val
  tabB : tabB V = fun i => lit0 (S21.rowMajor i)
  tabU : tabU V = fun i => lit1 (S21.rowMajor i)
  tabN : tabN V = fun i => lit2 (S21.rowMajor i)
  uw1 : (V (Proc.devRef .tc main_v120_3) : Vec Ideal S11x128x128x3x3 .f32) = T.uw1
  ub1 : (V (Proc.devRef .tc main_v120_4) : Vec Ideal S11x128 .f32) = T.ub1
  uw2 : (V (Proc.devRef .tc main_v120_5) : Vec Ideal S11x128x128x3x3 .f32) = T.uw2
  ub2 : (V (Proc.devRef .tc main_v120_6) : Vec Ideal S11x128 .f32) = T.ub2
  bwp : (V (Proc.devRef .tc main_v120_8) : Vec Ideal S6x128x256x1x1 .f32) = T.bwp
  bbp : (V (Proc.devRef .tc main_v120_9) : Vec Ideal S6x128 .f32) = T.bbp
  bw1 : (V (Proc.devRef .tc main_v120_10) : Vec Ideal S6x128x128x3x3 .f32) = T.bw1
  bb1 : (V (Proc.devRef .tc main_v120_11) : Vec Ideal S6x128 .f32) = T.bb1
  bw2 : (V (Proc.devRef .tc main_v120_12) : Vec Ideal S6x128x128x3x3 .f32) = T.bw2
  bb2 : (V (Proc.devRef .tc main_v120_13) : Vec Ideal S6x128 .f32) = T.bb2
  cw : (V (Proc.devRef .tc main_arg16) : Vec Ideal S512x128x1x1 .f32) = T.cw
  cb : (V (Proc.devRef .tc main_arg17) : Vec Ideal S512 .f32) = T.cb
  f1 : (V (Proc.devRef .tc main_arg18) : Vec Ideal S1024x25088 .f32) = T.f1
  g1 : (V (Proc.devRef .tc main_arg19) : Vec Ideal S1024 .f32) = T.g1
  f2 : (V (Proc.devRef .tc main_arg20) : Vec Ideal S32x1024 .f32) = T.f2
  g2 : (V (Proc.devRef .tc main_arg21) : Vec Ideal S32 .f32) = T.g2
  fts : ∀ (n : Fin 64) (c : Fin 128) (h v : Fin 14), featV V (ix4 n c h v) = feat n c h v
  cnt : (V (Proc.devRef .tc main_v120_15) : IVec S_ 32) (Shape.Idx.first h_S_) = BitVec.ofNat 32 k
  out : ∀ (n : Fin 64) (c : Fin 128) (h v : Fin 14), outV V (ix4 n c h v) = (after T.par (feat n) (T.q n) k).1 c h v
  sav : ∀ (n : Fin 64) (c : Fin 128) (h v : Fin 14), savV V (ix4 n c h v) = (after T.par (feat n) (T.q n) k).2 c h v

section Trip

variable {T : Tensors} {p : Fin 64 → ℕ → BitVec 32} {feat : Fin 64 → Img 128} {k : ℕ} {V : Valuation τ sig (Elt Ideal)}
variable (hk : k < 25) (H : At T p feat k V) (hq : ∀ n, tok (p n k) = T.q n k)

include hk H in
theorem wordR_at (n : Fin 64) : wordR V (ix1 n) = p n k :=
  (word_at _ _ k hk H.cnt n).trans (H.prog ⟨k, hk⟩ n)

theorem pick_at (f : Fin 21 → BitVec 32) (t : IVec S21 32) (ht : t = fun i => f (S21.rowMajor i)) (n : Fin 64) :
    pickR V t (ix1 n) = f (tok (wordR V (ix1 n))) := by
  subst ht
  exact lookR_at f _ n

include hk H hq

theorem kind_at (n : Fin 64) : pickR V (tabB V) (ix1 n) = BitVec.ofNat 32 (kind (T.q n k)) := by
  rw [pick_at lit0 _ H.tabB, wordR_at hk H, hq, kind_word]

theorem unary_at (n : Fin 64) (h : kind (T.q n k) = 1 ∨ kind (T.q n k) = 2) : min (pickR V (tabU V) (ix1 n)).toInt.toNat 10 = (unary (T.q n k)).val := by
  rw [pick_at lit1 _ H.tabU, wordR_at hk H, hq, unary_word _ h]

theorem binary_at (n : Fin 64) (h0 : ¬ kind (T.q n k) = 0) (h1 : ¬ kind (T.q n k) = 1) (h2 : ¬ kind (T.q n k) = 2) :
    min (pickR V (tabN V) (ix1 n)).toInt.toNat 5 = (binary (T.q n k)).val := by
  rw [pick_at lit2 _ H.tabN, wordR_at hk H, hq, binary_word _ h0 h1 h2]

theorem v148_at (n : Fin 64) (h : kind (T.q n k) = 1 ∨ kind (T.q n k) = 2) (o c : Fin 128) (i j : Fin 3) :
    (res_main_while0b_v148 V : Vec Ideal S64x128x128x3x3 .f32) (ix5 n o c i j) = T.uw1 (ix5 (unary (T.q n k)) o c i j) :=
  (un5_at _ (pickR V (tabU V)) n _ (unary_at hk H hq n h) o c i j).trans (congrFun H.uw1 _)

theorem v150_at (n : Fin 64) (h : kind (T.q n k) = 1 ∨ kind (T.q n k) = 2) (o : Fin 128) :
    (res_main_while0b_v150 V : Vec Ideal S64x128 .f32) (ix2 n o) = T.ub1 (ix2 (unary (T.q n k)) o) :=
  (un2_at _ (pickR V (tabU V)) n _ (unary_at hk H hq n h) o).trans (congrFun H.ub1 _)

theorem v152_at (n : Fin 64) (h : kind (T.q n k) = 1 ∨ kind (T.q n k) = 2) (o c : Fin 128) (i j : Fin 3) :
    (res_main_while0b_v152 V : Vec Ideal S64x128x128x3x3 .f32) (ix5 n o c i j) = T.uw2 (ix5 (unary (T.q n k)) o c i j) :=
  (un5_at _ (pickR V (tabU V)) n _ (unary_at hk H hq n h) o c i j).trans (congrFun H.uw2 _)

theorem v154_at (n : Fin 64) (h : kind (T.q n k) = 1 ∨ kind (T.q n k) = 2) (o : Fin 128) :
    (res_main_while0b_v154 V : Vec Ideal S64x128 .f32) (ix2 n o) = T.ub2 (ix2 (unary (T.q n k)) o) :=
  (un2_at _ (pickR V (tabU V)) n _ (unary_at hk H hq n h) o).trans (congrFun H.ub2 _)

theorem scene_at (n : Fin 64) (h : kind (T.q n k) = 1 ∨ kind (T.q n k) = 2) (o : Fin 128) (r v : Fin 14) :
    sceneR V (ix4 n o r v) = block (T.par.uw1 (unary (T.q n k))) (T.par.ub1 (unary (T.q n k))) (T.par.uw2 (unary (T.q n k))) (T.par.ub2 (unary (T.q n k))) (feat n) o r v :=
  block_at _ _ _ _ _ n _ _ _ _ _ (fun _ _ _ => v148_at hk H hq n h _ _ _ _) (fun _ => v150_at hk H hq n h _) (fun _ _ _ => v152_at hk H hq n h _ _ _ _)
    (fun _ => v154_at hk H hq n h _) (H.fts n) o r v

theorem una_at (n : Fin 64) (h : kind (T.q n k) = 1 ∨ kind (T.q n k) = 2) (o : Fin 128) (r v : Fin 14) :
    unaryR V (ix4 n o r v) = block (T.par.uw1 (unary (T.q n k))) (T.par.ub1 (unary (T.q n k))) (T.par.uw2 (unary (T.q n k))) (T.par.ub2 (unary (T.q n k)))
      (after T.par (feat n) (T.q n) k).1 o r v :=
  block_at _ _ _ _ _ n _ _ _ _ _ (fun _ _ _ => v148_at hk H hq n h _ _ _ _) (fun _ => v150_at hk H hq n h _) (fun _ _ _ => v152_at hk H hq n h _ _ _ _)
    (fun _ => v154_at hk H hq n h _) (H.out n) o r v

section Binary

variable (n : Fin 64) (h0 : ¬ kind (T.q n k) = 0) (h1 : ¬ kind (T.q n k) = 1) (h2 : ¬ kind (T.q n k) = 2)

include h0 h1 h2

theorem join_at (o : Fin 128) (r v : Fin 14) :
    joinR V (ix4 n o r v) = joint (T.par.wa (binary (T.q n k))) (T.par.wb (binary (T.q n k))) (T.par.bp (binary (T.q n k)))
      (after T.par (feat n) (T.q n) k).1 (after T.par (feat n) (T.q n) k).2 o r v :=
  joint_at _ _ _ _ n _ _ _ _ _ (fun o c => (bp5_at _ (pickR V (tabN V)) n _ (binary_at hk H hq n h0 h1 h2) o _).trans (congrFun H.bwp _))
    (fun o c => (bp5_at _ (pickR V (tabN V)) n _ (binary_at hk H hq n h0 h1 h2) o _).trans (congrFun H.bwp _))
    (fun o => (bi2_at _ (pickR V (tabN V)) n _ (binary_at hk H hq n h0 h1 h2) o).trans (congrFun H.bbp _)) (H.out n) (H.sav n) o r v

theorem bin_at (o : Fin 128) (r v : Fin 14) :
    binaryR V (ix4 n o r v) = block (T.par.bw1 (binary (T.q n k))) (T.par.bb1 (binary (T.q n k))) (T.par.bw2 (binary (T.q n k))) (T.par.bb2 (binary (T.q n k)))
      (joint (T.par.wa (binary (T.q n k))) (T.par.wb (binary (T.q n k))) (T.par.bp (binary (T.q n k)))
        (after T.par (feat n) (T.q n) k).1 (after T.par (feat n) (T.q n) k).2) o r v :=
  block_at _ _ _ _ _ n _ _ _ _ _ (fun _ _ _ => (bi5_at _ (pickR V (tabN V)) n _ (binary_at hk H hq n h0 h1 h2) _ _ _ _).trans (congrFun H.bw1 _))
    (fun o => (bi2_at _ (pickR V (tabN V)) n _ (binary_at hk H hq n h0 h1 h2) o).trans (congrFun H.bb1 _))
    (fun _ _ _ => (bi5_at _ (pickR V (tabN V)) n _ (binary_at hk H hq n h0 h1 h2) _ _ _ _).trans (congrFun H.bw2 _))
    (fun o => (bi2_at _ (pickR V (tabN V)) n _ (binary_at hk H hq n h0 h1 h2) o).trans (congrFun H.bb2 _)) (join_at hk H hq n h0 h1 h2) o r v

end Binary

omit hk H hq in
theorem kind_eq : ∀ (q : Fin 21), (BitVec.ofNat 32 (kind q) = 0#32 ↔ kind q = 0) ∧ (BitVec.ofNat 32 (kind q) = 1#32 ↔ kind q = 1) ∧ (BitVec.ofNat 32 (kind q) = 2#32 ↔ kind q = 2) := by
  decide

theorem next_out (n : Fin 64) (o : Fin 128) (r v : Fin 14) :
    (step_main_v120_16 V : Vec Ideal S64x128x14x14 .f32) (ix4 n o r v) = (after T.par (feat n) (T.q n) (k + 1)).1 o r v := by
  obtain ⟨e0, e1, e2⟩ := kind_eq (T.q n k)
  rw [out_val, sel_at, sel_at, sel_at, kind_at hk H hq]
  simp only [e0, e1, e2]
  show _ = (step T.par (feat n) (T.q n k) (after T.par (feat n) (T.q n) k)).1 o r v
  unfold step
  by_cases h0 : kind (T.q n k) = 0
  · rw [if_pos h0, if_pos h0]
    exact H.out n o r v
  · rw [if_neg h0, if_neg h0]
    by_cases h1 : kind (T.q n k) = 1
    · rw [if_pos h1, if_pos h1]
      exact scene_at hk H hq n (Or.inl h1) o r v
    · rw [if_neg h1, if_neg h1]
      by_cases h2 : kind (T.q n k) = 2
      · rw [if_pos h2, if_pos h2]
        exact una_at hk H hq n (Or.inr h2) o r v
      · rw [if_neg h2, if_neg h2]
        exact bin_at hk H hq n h0 h1 h2 o r v

theorem next_sav (n : Fin 64) (o : Fin 128) (r v : Fin 14) :
    (step_main_v120_17 V : Vec Ideal S64x128x14x14 .f32) (ix4 n o r v) = (after T.par (feat n) (T.q n) (k + 1)).2 o r v := by
  obtain ⟨e0, e1, e2⟩ := kind_eq (T.q n k)
  rw [sav_val, sel_at, kind_at hk H hq]
  simp only [e1]
  show _ = (step T.par (feat n) (T.q n k) (after T.par (feat n) (T.q n) k)).2 o r v
  unfold step
  by_cases h0 : kind (T.q n k) = 0
  · rw [if_neg (by omega), if_pos h0]
    exact H.sav n o r v
  · rw [if_neg h0]
    by_cases h1 : kind (T.q n k) = 1
    · rw [if_pos h1, if_pos h1]
      exact H.out n o r v
    · rw [if_neg h1, if_neg h1]
      by_cases h2 : kind (T.q n k) = 2
      · rw [if_pos h2]
        exact H.sav n o r v
      · rw [if_neg h2]
        exact H.sav n o r v

omit hk H hq in
/-- A buffer that a trip leaves alone. -/
theorem STEP_other (b : Ref sig .tc) (h15 : b ≠ main_v120_15) (h16 : b ≠ main_v120_16) (h17 : b ≠ main_v120_17) :
    STEP V (Proc.devRef .tc b) = V (Proc.devRef .tc b) := by
  have inj : ∀ d : Ref sig .tc, b ≠ d → (Proc.devRef .tc b : DevRef τ sig) ≠ Proc.devRef .tc d := fun d hd h => hd (Proc.devRef_injective _ h)
  unfold STEP
  rw [Function.update_of_ne (inj _ h17), Function.update_of_ne (inj _ h16), Function.update_of_ne (inj _ h15)]

theorem At.next : At T p feat (k + 1) (STEP V) where
  prog t n := (congrFun (STEP_main_v120_0 V) _).trans (H.prog t n)
  tabB := (STEP_main_v120_1 V).trans H.tabB
  tabU := (STEP_main_v120_2 V).trans H.tabU
  tabN := (STEP_main_v120_7 V).trans H.tabN
  uw1 := (STEP_main_v120_3 V).trans H.uw1
  ub1 := (STEP_main_v120_4 V).trans H.ub1
  uw2 := (STEP_main_v120_5 V).trans H.uw2
  ub2 := (STEP_main_v120_6 V).trans H.ub2
  bwp := (STEP_main_v120_8 V).trans H.bwp
  bbp := (STEP_main_v120_9 V).trans H.bbp
  bw1 := (STEP_main_v120_10 V).trans H.bw1
  bb1 := (STEP_main_v120_11 V).trans H.bb1
  bw2 := (STEP_main_v120_12 V).trans H.bw2
  bb2 := (STEP_main_v120_13 V).trans H.bb2
  cw := (STEP_other main_arg16 (by decide) (by decide) (by decide)).trans H.cw
  cb := (STEP_other main_arg17 (by decide) (by decide) (by decide)).trans H.cb
  f1 := (STEP_other main_arg18 (by decide) (by decide) (by decide)).trans H.f1
  g1 := (STEP_other main_arg19 (by decide) (by decide) (by decide)).trans H.g1
  f2 := (STEP_other main_arg20 (by decide) (by decide) (by decide)).trans H.f2
  g2 := (STEP_other main_arg21 (by decide) (by decide) (by decide)).trans H.g2
  fts n c h v := (congrFun (STEP_main_v120_14 V) _).trans (H.fts n c h v)
  cnt := (congrFun (STEP_main_v120_15 V) _).trans (by
    show IntOp.addi ((V (Proc.devRef .tc main_v120_15) : IVec S_ 32) (Shape.Idx.first h_S_)) 1#32 = _
    rw [H.cnt]
    exact (BitVec.ofNat_add _ _).symm)
  out n c h v := (congrFun (STEP_main_v120_16 V) _).trans (next_out hk H hq n c h v)
  sav n c h v := (congrFun (STEP_main_v120_17 V) _).trans (next_sav hk H hq n c h v)

end Trip

/-- After `k` trips. -/
theorem At.iter {T : Tensors} {p : Fin 64 → ℕ → BitVec 32} {feat : Fin 64 → Img 128} {V : Valuation τ sig (Elt Ideal)} (H : At T p feat 0 V)
    (hq : ∀ n k, k < 25 → tok (p n k) = T.q n k) : ∀ k, k ≤ 25 → At T p feat k (STEP^[k] V)
  | 0, _ => H
  | k + 1, hk => by
    rw [Function.iterate_succ_apply']
    exact At.next (by omega) (At.iter H hq k (by omega)) fun n => hq n k (by omega)

/-- The result is the head of the output. -/
theorem out_head (V : Valuation τ sig (Elt Ideal)) : (out_main_v143 V : Vec Ideal S64x32 .f32) = headR (outV V) (V (Proc.devRef .tc main_arg16)) (V (Proc.devRef .tc main_arg17))
    (V (Proc.devRef .tc main_arg18)) (V (Proc.devRef .tc main_arg19)) (V (Proc.devRef .tc main_arg20)) (V (Proc.devRef .tc main_arg21)) := by
  unfold out_main_v143 headR ansR hidR poolR clsR outV
  rfl

/-- The result after the loop. -/
theorem result_at {T : Tensors} {p : Fin 64 → ℕ → BitVec 32} {V : Valuation τ sig (Elt Ideal)}
    (H : At T p (fun n => layer T.sw2 (fun o => T.b2 (ix1 o)) (layer T.sw1 (fun o => T.b1 (ix1 o)) (T.img n))) 25 V) (n : Fin 64) (a : Fin 32) :
    (out_main_v143 V : Vec Ideal S64x32 .f32) (ix2 n a) = T.score n a := by
  refine (congrFun (out_head V) _).trans ?_
  rw [H.cw, H.cb, H.f1, H.g1, H.f2, H.g2]
  exact head_at T _ n (H.out n) a

end Cert.ReferenceIdeal.Hand

end
-- ==== Proof.Math.RefEntry.lean ====
module

public import proofs.«01_k».proof.Proof.Math.RefLoop
public import Idealize.ShloMosaic.Lib.StableHlo.RunClose

@[expose] public section

set_option maxRecDepth 16384

/-! # The reference before its loop -/

noncomputable section

namespace Cert.ReferenceIdeal.Hand

open Cert.ReferenceIdeal Cert.ReferenceIdeal.Gen Cert.ReferenceIdeal.Value Cert.Net
open Idealize.ShloMosaic Idealize.ShloMosaic.TcCoe Idealize.ShloMosaic.StableHlo
open Idealize.SL.Sem

variable (m : (ℓ : Loc nD τ sig) → Buf (Elt Ideal) ℓ) (c : Dev nD)

/-! ## The stretches before the loop -/

def W0 : Valuation τ sig (Elt Ideal) := launchContents m c
def W1 : Valuation τ sig (Elt Ideal) := after hostOps0 (W0 m c)
def W2 : Valuation τ sig (Elt Ideal) := after hostOps0_1 (W1 m c)
def W3 : Valuation τ sig (Elt Ideal) := after hostOps0_2 (W2 m c)
def W4 : Valuation τ sig (Elt Ideal) := after hostOps0_3 (W3 m c)
def W5 : Valuation τ sig (Elt Ideal) := after hostOps0_4 (W4 m c)

theorem entry_eq : entryContents preI m c = W5 m c := rfl

theorem W1_of (b : Ref sig .tc) (h : b ∉ hostOps0_W) : W1 m c (Proc.devRef .tc b) = W0 m c (Proc.devRef .tc b) := after_of_writes_sub hostOps0 _ hostOps0_writes h
theorem W2_of (b : Ref sig .tc) (h : b ∉ hostOps0_1_W) : W2 m c (Proc.devRef .tc b) = W1 m c (Proc.devRef .tc b) := after_of_writes_sub hostOps0_1 _ hostOps0_1_writes h
theorem W3_of (b : Ref sig .tc) (h : b ∉ hostOps0_2_W) : W3 m c (Proc.devRef .tc b) = W2 m c (Proc.devRef .tc b) := after_of_writes_sub hostOps0_2 _ hostOps0_2_writes h
theorem W4_of (b : Ref sig .tc) (h : b ∉ hostOps0_3_W) : W4 m c (Proc.devRef .tc b) = W3 m c (Proc.devRef .tc b) := after_of_writes_sub hostOps0_3 _ hostOps0_3_writes h
theorem W5_of (b : Ref sig .tc) (h : b ∉ hostOps0_4_W) : W5 m c (Proc.devRef .tc b) = W4 m c (Proc.devRef .tc b) := after_of_writes_sub hostOps0_4 _ hostOps0_4_writes h

theorem W4_from1 (b : Ref sig .tc) (h1 : b ∉ hostOps0_1_W) (h2 : b ∉ hostOps0_2_W) (h3 : b ∉ hostOps0_3_W) : W4 m c (Proc.devRef .tc b) = W1 m c (Proc.devRef .tc b) :=
  (W4_of m c b h3).trans <| (W3_of m c b h2).trans (W2_of m c b h1)

theorem W2_start (b : Ref sig .tc) (h0 : b ∉ hostOps0_W) (h1 : b ∉ hostOps0_1_W) : W2 m c (Proc.devRef .tc b) = m ((c : Thread nD τ).loc b) :=
  (W2_of m c b h1).trans (W1_of m c b h0)

theorem W4_start (b : Ref sig .tc) (h0 : b ∉ hostOps0_W) (h1 : b ∉ hostOps0_1_W) (h2 : b ∉ hostOps0_2_W) (h3 : b ∉ hostOps0_3_W) :
    W4 m c (Proc.devRef .tc b) = m ((c : Thread nD τ).loc b) :=
  (W4_from1 m c b h1 h2 h3).trans (W1_of m c b h0)

/-! ## The stem -/

theorem c_val : W1 m c (Proc.devRef .tc main_c) = fun i => lit0 (S21.rowMajor i) := by
  unfold W1
  generalize W0 m c = W
  simp only [hostOps0]
  after_results_entrywise []

theorem c0_val : W1 m c (Proc.devRef .tc main_c_0) = fun i => lit1 (S21.rowMajor i) := by
  unfold W1
  generalize W0 m c = W
  simp only [hostOps0]
  after_results_entrywise []

theorem c1_val : W1 m c (Proc.devRef .tc main_c_1) = fun i => lit2 (S21.rowMajor i) := by
  unfold W1
  generalize W0 m c = W
  simp only [hostOps0]
  after_results_entrywise []

theorem c2_val : W1 m c (Proc.devRef .tc main_c_2) = constantI S_ 32 0#32 := by
  unfold W1
  generalize W0 m c = W
  simp only [hostOps0]
  after_results_entrywise []

theorem c3_val : W3 m c (Proc.devRef .tc main_c_3) = constantI S_ 32 0#32 := by
  unfold W3
  generalize W2 m c = W
  simp only [hostOps0_2]
  after_results_entrywise []

theorem v0_val : (W2 m c (Proc.devRef .tc main_v0) : Vec Ideal S64x1024x16x16 .f32) = edgeX (m ((c : Thread nD τ).loc main_arg0)) := by
  have e : (W2 m c (Proc.devRef .tc main_v0) : Vec Ideal S64x1024x16x16 .f32)
      = pad S64x1024x16x16 ![0, 0, 1, 1] ![0, 0, 1, 1] ![0, 0, 0, 0] (W1 m c (Proc.devRef .tc main_arg0)) (sitofp (F := Ideal) .f32 (W1 m c (Proc.devRef .tc main_c_2))) pads_S64x1024x14x14_S64x1024x16x16_000_000_110_110 h_S_ := by
    unfold W2
    generalize W1 m c = W
    simp only [hostOps0_1]
    after_results_entrywise []
  rw [e, c2_val, W1_of m c main_arg0 (by decide)]
  rfl

theorem v58_val : (W3 m c (Proc.devRef .tc main_v58) : Vec Ideal S64x128x14x14 .f32)
    = pos (stemX (W2 m c (Proc.devRef .tc main_v0)) (W2 m c (Proc.devRef .tc main_arg2)) (W2 m c (Proc.devRef .tc main_arg3))) := by
  unfold W3 pos stemX tapX
  generalize W2 m c = W
  simp only [hostOps0_2]
  after_results_entrywise []

theorem v59_val : (W4 m c (Proc.devRef .tc main_v59) : Vec Ideal S64x128x16x16 .f32) = edge (W3 m c (Proc.devRef .tc main_v58)) := by
  have e : (W4 m c (Proc.devRef .tc main_v59) : Vec Ideal S64x128x16x16 .f32)
      = pad S64x128x16x16 ![0, 0, 1, 1] ![0, 0, 1, 1] ![0, 0, 0, 0] (W3 m c (Proc.devRef .tc main_v58)) (sitofp (F := Ideal) .f32 (W3 m c (Proc.devRef .tc main_c_3))) pads_S64x128x14x14_S64x128x16x16_000_000_110_110 h_S_ := by
    unfold W4
    generalize W3 m c = W
    simp only [hostOps0_3]
    after_results_entrywise []
  rw [e, c3_val]
  rfl

theorem v120_14_val : (W5 m c (Proc.devRef .tc main_v120_14) : Vec Ideal S64x128x14x14 .f32)
    = pos (stemY (W4 m c (Proc.devRef .tc main_v59)) (W4 m c (Proc.devRef .tc main_arg4)) (W4 m c (Proc.devRef .tc main_arg5))) := by
  unfold W5 pos stemY tapY
  generalize W4 m c = W
  simp only [hostOps0_4]
  after_results_entrywise []

/-! ## What the loop is handed -/

theorem v120_1_val : W5 m c (Proc.devRef .tc main_v120_1) = W4 m c (Proc.devRef .tc main_c) := by
  unfold W5
  generalize W4 m c = W
  simp only [hostOps0_4]
  after_results_entrywise []

theorem v120_2_val : W5 m c (Proc.devRef .tc main_v120_2) = W4 m c (Proc.devRef .tc main_c_0) := by
  unfold W5
  generalize W4 m c = W
  simp only [hostOps0_4]
  after_results_entrywise []

theorem v120_3_val : W5 m c (Proc.devRef .tc main_v120_3) = W4 m c (Proc.devRef .tc main_arg6) := by
  unfold W5
  generalize W4 m c = W
  simp only [hostOps0_4]
  after_results_entrywise []

theorem v120_4_val : W5 m c (Proc.devRef .tc main_v120_4) = W4 m c (Proc.devRef .tc main_arg7) := by
  unfold W5
  generalize W4 m c = W
  simp only [hostOps0_4]
  after_results_entrywise []

theorem v120_5_val : W5 m c (Proc.devRef .tc main_v120_5) = W4 m c (Proc.devRef .tc main_arg8) := by
  unfold W5
  generalize W4 m c = W
  simp only [hostOps0_4]
  after_results_entrywise []

theorem v120_6_val : W5 m c (Proc.devRef .tc main_v120_6) = W4 m c (Proc.devRef .tc main_arg9) := by
  unfold W5
  generalize W4 m c = W
  simp only [hostOps0_4]
  after_results_entrywise []

theorem v120_7_val : W5 m c (Proc.devRef .tc main_v120_7) = W4 m c (Proc.devRef .tc main_c_1) := by
  unfold W5
  generalize W4 m c = W
  simp only [hostOps0_4]
  after_results_entrywise []

theorem v120_8_val : W5 m c (Proc.devRef .tc main_v120_8) = W4 m c (Proc.devRef .tc main_arg10) := by
  unfold W5
  generalize W4 m c = W
  simp only [hostOps0_4]
  after_results_entrywise []

theorem v120_9_val : W5 m c (Proc.devRef .tc main_v120_9) = W4 m c (Proc.devRef .tc main_arg11) := by
  unfold W5
  generalize W4 m c = W
  simp only [hostOps0_4]
  after_results_entrywise []

theorem v120_10_val : W5 m c (Proc.devRef .tc main_v120_10) = W4 m c (Proc.devRef .tc main_arg12) := by
  unfold W5
  generalize W4 m c = W
  simp only [hostOps0_4]
  after_results_entrywise []

theorem v120_11_val : W5 m c (Proc.devRef .tc main_v120_11) = W4 m c (Proc.devRef .tc main_arg13) := by
  unfold W5
  generalize W4 m c = W
  simp only [hostOps0_4]
  after_results_entrywise []

theorem v120_12_val : W5 m c (Proc.devRef .tc main_v120_12) = W4 m c (Proc.devRef .tc main_arg14) := by
  unfold W5
  generalize W4 m c = W
  simp only [hostOps0_4]
  after_results_entrywise []

theorem v120_13_val : W5 m c (Proc.devRef .tc main_v120_13) = W4 m c (Proc.devRef .tc main_arg15) := by
  unfold W5
  generalize W4 m c = W
  simp only [hostOps0_4]
  after_results_entrywise []

theorem v120_16_val : (W5 m c (Proc.devRef .tc main_v120_16) : Vec Ideal S64x128x14x14 .f32) = W5 m c (Proc.devRef .tc main_v120_14) := by
  refine Eq.trans ?_ (v120_14_val m c).symm
  unfold W5 pos stemY tapY
  generalize W4 m c = W
  simp only [hostOps0_4]
  after_results_entrywise []

theorem v120_17_val : (W5 m c (Proc.devRef .tc main_v120_17) : Vec Ideal S64x128x14x14 .f32) = W5 m c (Proc.devRef .tc main_v120_14) := by
  refine Eq.trans ?_ (v120_14_val m c).symm
  unfold W5 pos stemY tapY
  generalize W4 m c = W
  simp only [hostOps0_4]
  after_results_entrywise []

theorem v120_15_val : (W5 m c (Proc.devRef .tc main_v120_15) : IVec S_ 32) = constantI S_ 32 0#32 := by
  unfold W5
  generalize W4 m c = W
  simp only [hostOps0_4]
  after_results_entrywise []

theorem v120_0_val : (W5 m c (Proc.devRef .tc main_v120_0) : IVec S25x64 32)
    = transpose S25x64 [1, 0] (Host.reverse [1] (W4 m c (Proc.devRef .tc main_arg1) : IVec S64x25 32)) transposes_S64x25_S25x64_1_0 := by
  unfold W5
  generalize W4 m c = W
  simp only [hostOps0_4]
  after_results_entrywise []

theorem prog_at (x : IVec S64x25 32) (t : Fin 25) (n : Fin 64) :
    transpose S25x64 [1, 0] (Host.reverse [1] x) transposes_S64x25_S25x64_1_0 (ix2 t n) = x (ix2 n ⟨24 - t.val, by omega⟩) := by
  pointwise []
  show x (ix2 n t.rev) = _
  refine congrArg (fun i => x (ix2 n i)) (Fin.ext ?_)
  rw [Fin.val_rev]
  show 25 - (t.val + 1) = 24 - t.val
  omega

/-- The tensors are the program's arguments. -/
structure Given (T : Tensors) : Prop where
  x : (m ((c : Thread nD τ).loc main_arg0) : Vec Ideal S64x1024x14x14 .f32) = T.x
  q : ∀ (n : Fin 64) (k : ℕ), k < 25 → tok ((m ((c : Thread nD τ).loc main_arg1) : IVec S64x25 32) (ix2 n ⟨24 - k, by omega⟩)) = T.q n k
  w1 : (m ((c : Thread nD τ).loc main_arg2) : Vec Ideal S128x1024x3x3 .f32) = T.w1
  b1 : (m ((c : Thread nD τ).loc main_arg3) : Vec Ideal S128 .f32) = T.b1
  w2 : (m ((c : Thread nD τ).loc main_arg4) : Vec Ideal S128x128x3x3 .f32) = T.w2
  b2 : (m ((c : Thread nD τ).loc main_arg5) : Vec Ideal S128 .f32) = T.b2
  uw1 : (m ((c : Thread nD τ).loc main_arg6) : Vec Ideal S11x128x128x3x3 .f32) = T.uw1
  ub1 : (m ((c : Thread nD τ).loc main_arg7) : Vec Ideal S11x128 .f32) = T.ub1
  uw2 : (m ((c : Thread nD τ).loc main_arg8) : Vec Ideal S11x128x128x3x3 .f32) = T.uw2
  ub2 : (m ((c : Thread nD τ).loc main_arg9) : Vec Ideal S11x128 .f32) = T.ub2
  bwp : (m ((c : Thread nD τ).loc main_arg10) : Vec Ideal S6x128x256x1x1 .f32) = T.bwp
  bbp : (m ((c : Thread nD τ).loc main_arg11) : Vec Ideal S6x128 .f32) = T.bbp
  bw1 : (m ((c : Thread nD τ).loc main_arg12) : Vec Ideal S6x128x128x3x3 .f32) = T.bw1
  bb1 : (m ((c : Thread nD τ).loc main_arg13) : Vec Ideal S6x128 .f32) = T.bb1
  bw2 : (m ((c : Thread nD τ).loc main_arg14) : Vec Ideal S6x128x128x3x3 .f32) = T.bw2
  bb2 : (m ((c : Thread nD τ).loc main_arg15) : Vec Ideal S6x128 .f32) = T.bb2
  cw : (m ((c : Thread nD τ).loc main_arg16) : Vec Ideal S512x128x1x1 .f32) = T.cw
  cb : (m ((c : Thread nD τ).loc main_arg17) : Vec Ideal S512 .f32) = T.cb
  f1 : (m ((c : Thread nD τ).loc main_arg18) : Vec Ideal S1024x25088 .f32) = T.f1
  g1 : (m ((c : Thread nD τ).loc main_arg19) : Vec Ideal S1024 .f32) = T.g1
  f2 : (m ((c : Thread nD τ).loc main_arg20) : Vec Ideal S32x1024 .f32) = T.f2
  g2 : (m ((c : Thread nD τ).loc main_arg21) : Vec Ideal S32 .f32) = T.g2

/-- The features of image `n`. -/
def feats (T : Tensors) (n : Fin 64) : Img 128 := layer T.sw2 (fun o => T.b2 (ix1 o)) (layer T.sw1 (fun o => T.b1 (ix1 o)) (T.img n))

variable {m c} {T : Tensors} (G : Given m c T)

include G

theorem arg4_at (b : Ref sig .tc) (h0 : b ∉ hostOps0_W) (h1 : b ∉ hostOps0_1_W) (h2 : b ∉ hostOps0_2_W) (h3 : b ∉ hostOps0_3_W) (h4 : b ∉ hostOps0_4_W) :
    W5 m c (Proc.devRef .tc b) = m ((c : Thread nD τ).loc b) :=
  (W5_of m c b h4).trans (W4_start m c b h0 h1 h2 h3)

theorem hidden_at (n : Fin 64) (o : Fin 128) (h v : Fin 14) :
    (W3 m c (Proc.devRef .tc main_v58) : Vec Ideal S64x128x14x14 .f32) (ix4 n o h v) = layer T.sw1 (fun o => T.b1 (ix1 o)) (T.img n) o h v := by
  rw [v58_val, v0_val, W2_start m c main_arg2 (by decide) (by decide), W2_start m c main_arg3 (by decide) (by decide), G.x, G.w1, G.b1]
  exact stemX_at _ _ _ n (T.img n) (fun c r q => edgeX_at _ n _ (fun c h v => rfl) c r q) o h v

theorem feat_at (n : Fin 64) (o : Fin 128) (h v : Fin 14) :
    (W5 m c (Proc.devRef .tc main_v120_14) : Vec Ideal S64x128x14x14 .f32) (ix4 n o h v) = feats T n o h v := by
  rw [v120_14_val, v59_val, W4_start m c main_arg4 (by decide) (by decide) (by decide) (by decide), W4_start m c main_arg5 (by decide) (by decide) (by decide) (by decide), G.w2, G.b2]
  exact stemY_at _ _ _ n _ (fun c r q => edge_at _ n _ (hidden_at G n) c r q) o h v

/-- The words of the programs, in the order in which they run. -/
def words (m : (ℓ : Loc nD τ sig) → Buf (Elt Ideal) ℓ) (c : Dev nD) (n : Fin 64) (k : ℕ) : BitVec 32 :=
  (m ((c : Thread nD τ).loc main_arg1) : IVec S64x25 32) (ix2 n ⟨24 - k, by omega⟩)

theorem start_at : At T (words m c) (feats T) 0 (W5 m c) where
  prog t n := by
    rw [v120_0_val, W4_start m c main_arg1 (by decide) (by decide) (by decide) (by decide)]
    exact prog_at _ t n
  tabB := (v120_1_val m c).trans ((W4_from1 m c main_c (by decide) (by decide) (by decide)).trans (c_val m c))
  tabU := (v120_2_val m c).trans ((W4_from1 m c main_c_0 (by decide) (by decide) (by decide)).trans (c0_val m c))
  tabN := (v120_7_val m c).trans ((W4_from1 m c main_c_1 (by decide) (by decide) (by decide)).trans (c1_val m c))
  uw1 := (v120_3_val m c).trans ((W4_start m c main_arg6 (by decide) (by decide) (by decide) (by decide)).trans G.uw1)
  ub1 := (v120_4_val m c).trans ((W4_start m c main_arg7 (by decide) (by decide) (by decide) (by decide)).trans G.ub1)
  uw2 := (v120_5_val m c).trans ((W4_start m c main_arg8 (by decide) (by decide) (by decide) (by decide)).trans G.uw2)
  ub2 := (v120_6_val m c).trans ((W4_start m c main_arg9 (by decide) (by decide) (by decide) (by decide)).trans G.ub2)
  bwp := (v120_8_val m c).trans ((W4_start m c main_arg10 (by decide) (by decide) (by decide) (by decide)).trans G.bwp)
  bbp := (v120_9_val m c).trans ((W4_start m c main_arg11 (by decide) (by decide) (by decide) (by decide)).trans G.bbp)
  bw1 := (v120_10_val m c).trans ((W4_start m c main_arg12 (by decide) (by decide) (by decide) (by decide)).trans G.bw1)
  bb1 := (v120_11_val m c).trans ((W4_start m c main_arg13 (by decide) (by decide) (by decide) (by decide)).trans G.bb1)
  bw2 := (v120_12_val m c).trans ((W4_start m c main_arg14 (by decide) (by decide) (by decide) (by decide)).trans G.bw2)
  bb2 := (v120_13_val m c).trans ((W4_start m c main_arg15 (by decide) (by decide) (by decide) (by decide)).trans G.bb2)
  cw := (arg4_at G main_arg16 (by decide) (by decide) (by decide) (by decide) (by decide)).trans G.cw
  cb := (arg4_at G main_arg17 (by decide) (by decide) (by decide) (by decide) (by decide)).trans G.cb
  f1 := (arg4_at G main_arg18 (by decide) (by decide) (by decide) (by decide) (by decide)).trans G.f1
  g1 := (arg4_at G main_arg19 (by decide) (by decide) (by decide) (by decide) (by decide)).trans G.g1
  f2 := (arg4_at G main_arg20 (by decide) (by decide) (by decide) (by decide) (by decide)).trans G.f2
  g2 := (arg4_at G main_arg21 (by decide) (by decide) (by decide) (by decide) (by decide)).trans G.g2
  fts n o h v := feat_at G n o h v
  cnt := congrFun (v120_15_val m c) _
  out n o h v := (congrFun (v120_16_val m c) _).trans (feat_at G n o h v)
  sav n o h v := (congrFun (v120_17_val m c) _).trans (feat_at G n o h v)

/-- What the reference computes. -/
theorem ref_at (n : Fin 64) (a : Fin 32) :
    (out_main_v143 (STEP^[25] (entryContents preI m c)) : Vec Ideal S64x32 .f32) (ix2 n a) = T.score n a :=
  result_at (p := words m c) (At.iter (start_at G) (fun n k hk => G.q n k hk) 25 le_rfl) n a

end Cert.ReferenceIdeal.Hand

end
-- ==== Proof.Math.Agree.lean ====
module

public import proofs.«01_k».proof.Defs
public import proofs.«01_k».proof.Proof.KernI.Frame
public import proofs.«01_k».proof.Proof.Math.Value
public import proofs.«01_k».proof.Proof.Math.RefEntry

@[expose] public section

set_option maxRecDepth 16384

/-! # The kernel and the reference compute one array of scores -/

noncomputable section

namespace Cert.Agree

open Cert.Net
open Idealize.ShloMosaic Idealize.ShloMosaic.TcCoe
open Idealize.SL.Sem

/-- A word that is no less than zero is read as it stands. -/
theorem wrap_of_nonneg (n w : BitVec 32) (h : 0 ≤ w.toInt) : Cert.KernelIdeal.Hand.wrap n w = w := by
  have e : IntOp.cmpi .slt w 0#32 = 0#1 := by
    simp only [IntOp.cmpi, BitVec.slt]
    have hn : decide (w.toInt < BitVec.toInt 0#32) = false := decide_eq_false (by simpa using h)
    rw [hn]
    rfl
  simp only [Cert.KernelIdeal.Hand.wrap, e]
  rfl

/-- On such a word the two programs read one entry. -/
theorem entry_eq_tok (w : BitVec 32) (h : 0 ≤ w.toInt) : Cert.KernelIdeal.Hand.entry w = Cert.ReferenceIdeal.Hand.tok w := by
  refine Fin.ext ?_
  show min (Cert.KernelIdeal.Hand.wrap 21#32 w).toInt.toNat 20 = min w.toInt.toNat 20
  rw [wrap_of_nonneg 21#32 w h]

/-- What the precondition says of one token. -/
theorem nonneg_of_mask (w : BitVec 32) (h : IntOp.andi (IntOp.cmpi .sge w 0#32) (IntOp.cmpi .slt w 21#32) = 1#1) : 0 ≤ w.toInt := by
  by_contra hn
  have e : IntOp.cmpi .sge w 0#32 = 0#1 := by
    simp only [IntOp.cmpi, BitVec.sle]
    simp [hn]
  rw [e] at h
  simp [IntOp.andi] at h

variable [hP : Cert.Pre_tokens_in_range.Facts]

/-- A token the precondition allows is no less than zero. -/
theorem token_nonneg (m : (ℓ : Loc Cert.KernelIdeal.nD Cert.KernelIdeal.τ Cert.KernelIdeal.sig) → Buf (Elt Ideal) ℓ) (h : Cert.Pre_KernelIdeal m) (c : Dev Cert.KernelIdeal.nD) (n : Fin 64) (t : Fin 25) :
    0 ≤ BitVec.toInt ((m ((c.tc : Thread Cert.KernelIdeal.nD Cert.KernelIdeal.τ).loc Cert.KernelIdeal.main_arg1) : IVec Cert.KernelIdeal.S64x25 32) (ix2 n t)) :=
  nonneg_of_mask _ (congrFun (h c) (ix2 n t))

/-- The reference's arguments are the kernel's tensors. -/
theorem given {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} (h : Cert.Pre_KernelIdeal m)
    (c : Dev Cert.KernelIdeal.nD)
    (e : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) :
    Cert.ReferenceIdeal.Hand.Given m' c (Cert.KernelIdeal.Hand.tens m c) := by
  obtain ⟨h0, h1, h2, h3, h4, h5, h6, h7, h8, h9, h10, h11, h12, h13, h14, h15, h16, h17, h18, h19, h20, h21⟩ := e
  refine { x := h0, w1 := h2, b1 := h3, w2 := h4, b2 := h5, uw1 := h6, ub1 := h7, uw2 := h8, ub2 := h9, bwp := h10, bbp := h11, bw1 := h12, bb1 := h13, bw2 := h14, bb2 := h15, cw := h16, cb := h17, f1 := h18, g1 := h19, f2 := h20, g2 := h21, q := fun n k hk => ?_ }
  rw [h1]
  exact (entry_eq_tok _ (token_nonneg m h c n _)).symm

/-- The kernel and the reference, run on the same arguments, leave the same scores and their arguments as launched. -/
theorem agree : @Cert.algebraic_KernelIdeal_ReferenceIdeal Cert.KernelIdeal.Gen.facts Cert.ReferenceIdeal.Gen.facts hP := by
  intro m g m' g' hpre hargs
  refine ⟨fun c => Cert.KernelIdeal.Hand.o10 m (Cert.KernelIdeal.Hand.words m) c, ?_, ?_⟩
  · refine (θ_run Cert.KernelIdeal.defs _ _).mono (fun r h => ?_) (Cert.KernelIdeal.Hand.run m g (Cert.KernelIdeal.Hand.words m))
    exact fun c => ⟨Cert.KernelIdeal.Hand.endsAt m h.1 c Cert.KernelIdeal.main_v75 (by decide)
        (by rw [Cert.KernelIdeal.Hand.V10_eq]; exact Function.update_self ..),
      Cert.KernelIdeal.Hand.endsAt m h.1 c Cert.KernelIdeal.main_arg0 (by decide) (Cert.KernelIdeal.Gen.V10_main_arg0 m _ c),
      Cert.KernelIdeal.Hand.endsAt m h.1 c Cert.KernelIdeal.main_arg1 (by decide) (Cert.KernelIdeal.Gen.V10_main_arg1 m _ c),
      Cert.KernelIdeal.Hand.endsAt m h.1 c Cert.KernelIdeal.main_arg2 (by decide) (Cert.KernelIdeal.Gen.V10_main_arg2 m _ c),
      Cert.KernelIdeal.Hand.endsAt m h.1 c Cert.KernelIdeal.main_arg3 (by decide) (Cert.KernelIdeal.Gen.V10_main_arg3 m _ c),
      Cert.KernelIdeal.Hand.endsAt m h.1 c Cert.KernelIdeal.main_arg4 (by decide) (Cert.KernelIdeal.Gen.V10_main_arg4 m _ c),
      Cert.KernelIdeal.Hand.endsAt m h.1 c Cert.KernelIdeal.main_arg5 (by decide) (Cert.KernelIdeal.Gen.V10_main_arg5 m _ c),
      Cert.KernelIdeal.Hand.endsAt m h.1 c Cert.KernelIdeal.main_arg6 (by decide) (Cert.KernelIdeal.Gen.V10_main_arg6 m _ c),
      Cert.KernelIdeal.Hand.endsAt m h.1 c Cert.KernelIdeal.main_arg7 (by decide) (Cert.KernelIdeal.Gen.V10_main_arg7 m _ c),
      Cert.KernelIdeal.Hand.endsAt m h.1 c Cert.KernelIdeal.main_arg8 (by decide) (Cert.KernelIdeal.Gen.V10_main_arg8 m _ c),
      Cert.KernelIdeal.Hand.endsAt m h.1 c Cert.KernelIdeal.main_arg9 (by decide) (Cert.KernelIdeal.Gen.V10_main_arg9 m _ c),
      Cert.KernelIdeal.Hand.endsAt m h.1 c Cert.KernelIdeal.main_arg10 (by decide) (Cert.KernelIdeal.Gen.V10_main_arg10 m _ c),
      Cert.KernelIdeal.Hand.endsAt m h.1 c Cert.KernelIdeal.main_arg11 (by decide) (Cert.KernelIdeal.Gen.V10_main_arg11 m _ c),
      Cert.KernelIdeal.Hand.endsAt m h.1 c Cert.KernelIdeal.main_arg12 (by decide) (Cert.KernelIdeal.Gen.V10_main_arg12 m _ c),
      Cert.KernelIdeal.Hand.endsAt m h.1 c Cert.KernelIdeal.main_arg13 (by decide) (Cert.KernelIdeal.Gen.V10_main_arg13 m _ c),
      Cert.KernelIdeal.Hand.endsAt m h.1 c Cert.KernelIdeal.main_arg14 (by decide) (Cert.KernelIdeal.Gen.V10_main_arg14 m _ c),
      Cert.KernelIdeal.Hand.endsAt m h.1 c Cert.KernelIdeal.main_arg15 (by decide) (Cert.KernelIdeal.Gen.V10_main_arg15 m _ c),
      Cert.KernelIdeal.Hand.endsAt m h.1 c Cert.KernelIdeal.main_arg16 (by decide) (Cert.KernelIdeal.Gen.V10_main_arg16 m _ c),
      Cert.KernelIdeal.Hand.endsAt m h.1 c Cert.KernelIdeal.main_arg17 (by decide) (Cert.KernelIdeal.Gen.V10_main_arg17 m _ c),
      Cert.KernelIdeal.Hand.endsAt m h.1 c Cert.KernelIdeal.main_arg18 (by decide) (Cert.KernelIdeal.Gen.V10_main_arg18 m _ c),
      Cert.KernelIdeal.Hand.endsAt m h.1 c Cert.KernelIdeal.main_arg19 (by decide) (Cert.KernelIdeal.Gen.V10_main_arg19 m _ c),
      Cert.KernelIdeal.Hand.endsAt m h.1 c Cert.KernelIdeal.main_arg20 (by decide) (Cert.KernelIdeal.Gen.V10_main_arg20 m _ c),
      Cert.KernelIdeal.Hand.endsAt m h.1 c Cert.KernelIdeal.main_arg21 (by decide) (Cert.KernelIdeal.Gen.V10_main_arg21 m _ c)⟩
  · refine (θ_run Cert.ReferenceIdeal.defs _ _).mono (fun r h => ?_) (Cert.ReferenceIdeal.Value.run m' g')
    refine fun c => ⟨(h c).1.trans ?_, (h c).2⟩
    funext i
    rw [eq_ix2 i]
    exact (Cert.ReferenceIdeal.Hand.ref_at (given hpre c (hargs c)) _ _).trans
      (Cert.KernelIdeal.Hand.o10_at m (Cert.KernelIdeal.Hand.words m) c _ _).symm

end Cert.Agree

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Kern.Frame
public import proofs.«01_k».proof.Proof.KernI.Frame
public import proofs.«01_k».proof.Proof.Gen.ReferenceIdeal.Run
public import proofs.«01_k».proof.Proof.Math.Agree
public import Idealize.ShloMosaic.Lib.Quiescent

@[expose] public section

noncomputable section

namespace Cert.Proof

open Idealize.ShloMosaic Idealize.SL.Sem

instance preFacts : Cert.Pre_tokens_in_range.Facts := ⟨by decide⟩

theorem claim : Cert.Claim := ⟨Cert.Kernel.Gen.facts, Cert.KernelIdeal.Gen.facts, Cert.ReferenceIdeal.Gen.facts, preFacts,
  fun m g _ => Cert.Kernel.Hand.frame m g,
  fun m g _ => Cert.KernelIdeal.Hand.frame m g,
  fun m g _ => (θ_run Cert.ReferenceIdeal.defs _ _).mono
    (fun r h => ⟨fun c => (h c).2, sem_eq_zero_of_no_sems (by decide) r.2⟩) (Cert.ReferenceIdeal.Value.run m g),
  trivial, Cert.Agree.agree⟩

end Cert.Proof

end
